-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_PostFinal (m : (ℓ : Loc Cert.PostFinal.nD Cert.PostFinal.τ Cert.PostFinal.sig) → Buf (Elt Bits) ℓ) : Prop :=
  True

def Pre_PostFinalIdeal (m : (ℓ : Loc Cert.PostFinalIdeal.nD Cert.PostFinalIdeal.τ Cert.PostFinalIdeal.sig) → Buf (Elt Ideal) ℓ) : Prop :=
  True

def Pre_PostFinalReferenceIdeal (m : (ℓ : Loc Cert.PostFinalReferenceIdeal.nD Cert.PostFinalReferenceIdeal.τ Cert.PostFinalReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjFirst (m : (ℓ : Loc Cert.ProjFirst.nD Cert.ProjFirst.τ Cert.ProjFirst.sig) → Buf (Elt Bits) ℓ) : Prop :=
  True

def Pre_ProjFirstIdeal (m : (ℓ : Loc Cert.ProjFirstIdeal.nD Cert.ProjFirstIdeal.τ Cert.ProjFirstIdeal.sig) → Buf (Elt Ideal) ℓ) : Prop :=
  True

def Pre_ProjFirstReferenceIdeal (m : (ℓ : Loc Cert.ProjFirstReferenceIdeal.nD Cert.ProjFirstReferenceIdeal.τ Cert.ProjFirstReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_PostFinal [hPostFinal : Cert.PostFinal.Facts] : Prop :=
  ∀ (m : (ℓ : Loc Cert.PostFinal.nD Cert.PostFinal.τ Cert.PostFinal.sig) → Buf (Elt Bits) ℓ) (g : Dev Cert.PostFinal.nD → PrngReg), Pre_PostFinal m →
    θ_run (Cert.PostFinal.defs (F := Bits)) (onTc (τ := Cert.PostFinal.τ) (Cert.PostFinal.main (F := Bits))) ⟨m, fun _ => 0, g⟩ (fun r => (∀ c : Dev Cert.PostFinal.nD,
      r.2.mem ((c.tc : Thread Cert.PostFinal.nD Cert.PostFinal.τ).loc Cert.PostFinal.main_arg0) = m ((c.tc : Thread Cert.PostFinal.nD Cert.PostFinal.τ).loc Cert.PostFinal.main_arg0)
      ∧ r.2.mem ((c.tc : Thread Cert.PostFinal.nD Cert.PostFinal.τ).loc Cert.PostFinal.main_arg1) = m ((c.tc : Thread Cert.PostFinal.nD Cert.PostFinal.τ).loc Cert.PostFinal.main_arg1)
      ∧ r.2.mem ((c.tc : Thread Cert.PostFinal.nD Cert.PostFinal.τ).loc Cert.PostFinal.main_arg2) = m ((c.tc : Thread Cert.PostFinal.nD Cert.PostFinal.τ).loc Cert.PostFinal.main_arg2)
      ∧ r.2.mem ((c.tc : Thread Cert.PostFinal.nD Cert.PostFinal.τ).loc Cert.PostFinal.main_arg3) = m ((c.tc : Thread Cert.PostFinal.nD Cert.PostFinal.τ).loc Cert.PostFinal.main_arg3)
      ∧ r.2.mem ((c.tc : Thread Cert.PostFinal.nD Cert.PostFinal.τ).loc Cert.PostFinal.main_arg4) = m ((c.tc : Thread Cert.PostFinal.nD Cert.PostFinal.τ).loc Cert.PostFinal.main_arg4)
      ∧ r.2.mem ((c.tc : Thread Cert.PostFinal.nD Cert.PostFinal.τ).loc Cert.PostFinal.main_arg5) = m ((c.tc : Thread Cert.PostFinal.nD Cert.PostFinal.τ).loc Cert.PostFinal.main_arg5)
      ∧ r.2.mem ((c.tc : Thread Cert.PostFinal.nD Cert.PostFinal.τ).loc Cert.PostFinal.main_arg6) = m ((c.tc : Thread Cert.PostFinal.nD Cert.PostFinal.τ).loc Cert.PostFinal.main_arg6)
      ∧ r.2.mem ((c.tc : Thread Cert.PostFinal.nD Cert.PostFinal.τ).loc Cert.PostFinal.main_arg7) = m ((c.tc : Thread Cert.PostFinal.nD Cert.PostFinal.τ).loc Cert.PostFinal.main_arg7))
      ∧ r.2.sem = fun _ => 0)

def quiescent_PostFinalIdeal [hPostFinalIdeal : Cert.PostFinalIdeal.Facts] : Prop :=
  ∀ (m : (ℓ : Loc Cert.PostFinalIdeal.nD Cert.PostFinalIdeal.τ Cert.PostFinalIdeal.sig) → Buf (Elt Ideal) ℓ) (g : Dev Cert.PostFinalIdeal.nD → PrngReg), Pre_PostFinalIdeal m →
    θ_run (Cert.PostFinalIdeal.defs (F := Ideal)) (onTc (τ := Cert.PostFinalIdeal.τ) (Cert.PostFinalIdeal.main (F := Ideal))) ⟨m, fun _ => 0, g⟩ (fun r => (∀ c : Dev Cert.PostFinalIdeal.nD,
      r.2.mem ((c.tc : Thread Cert.PostFinalIdeal.nD Cert.PostFinalIdeal.τ).loc Cert.PostFinalIdeal.main_arg0) = m ((c.tc : Thread Cert.PostFinalIdeal.nD Cert.PostFinalIdeal.τ).loc Cert.PostFinalIdeal.main_arg0)
      ∧ r.2.mem ((c.tc : Thread Cert.PostFinalIdeal.nD Cert.PostFinalIdeal.τ).loc Cert.PostFinalIdeal.main_arg1) = m ((c.tc : Thread Cert.PostFinalIdeal.nD Cert.PostFinalIdeal.τ).loc Cert.PostFinalIdeal.main_arg1)
      ∧ r.2.mem ((c.tc : Thread Cert.PostFinalIdeal.nD Cert.PostFinalIdeal.τ).loc Cert.PostFinalIdeal.main_arg2) = m ((c.tc : Thread Cert.PostFinalIdeal.nD Cert.PostFinalIdeal.τ).loc Cert.PostFinalIdeal.main_arg2)
      ∧ r.2.mem ((c.tc : Thread Cert.PostFinalIdeal.nD Cert.PostFinalIdeal.τ).loc Cert.PostFinalIdeal.main_arg3) = m ((c.tc : Thread Cert.PostFinalIdeal.nD Cert.PostFinalIdeal.τ).loc Cert.PostFinalIdeal.main_arg3)
      ∧ r.2.mem ((c.tc : Thread Cert.PostFinalIdeal.nD Cert.PostFinalIdeal.τ).loc Cert.PostFinalIdeal.main_arg4) = m ((c.tc : Thread Cert.PostFinalIdeal.nD Cert.PostFinalIdeal.τ).loc Cert.PostFinalIdeal.main_arg4)
      ∧ r.2.mem ((c.tc : Thread Cert.PostFinalIdeal.nD Cert.PostFinalIdeal.τ).loc Cert.PostFinalIdeal.main_arg5) = m ((c.tc : Thread Cert.PostFinalIdeal.nD Cert.PostFinalIdeal.τ).loc Cert.PostFinalIdeal.main_arg5)
      ∧ r.2.mem ((c.tc : Thread Cert.PostFinalIdeal.nD Cert.PostFinalIdeal.τ).loc Cert.PostFinalIdeal.main_arg6) = m ((c.tc : Thread Cert.PostFinalIdeal.nD Cert.PostFinalIdeal.τ).loc Cert.PostFinalIdeal.main_arg6)
      ∧ r.2.mem ((c.tc : Thread Cert.PostFinalIdeal.nD Cert.PostFinalIdeal.τ).loc Cert.PostFinalIdeal.main_arg7) = m ((c.tc : Thread Cert.PostFinalIdeal.nD Cert.PostFinalIdeal.τ).loc Cert.PostFinalIdeal.main_arg7))
      ∧ r.2.sem = fun _ => 0)

def quiescent_PostFinalReferenceIdeal [hPostFinalReferenceIdeal : Cert.PostFinalReferenceIdeal.Facts] : Prop :=
  ∀ (m : (ℓ : Loc Cert.PostFinalReferenceIdeal.nD Cert.PostFinalReferenceIdeal.τ Cert.PostFinalReferenceIdeal.sig) → Buf (Elt Ideal) ℓ) (g : Dev Cert.PostFinalReferenceIdeal.nD → PrngReg), Pre_PostFinalReferenceIdeal m →
    θ_run (Cert.PostFinalReferenceIdeal.defs (F := Ideal)) (onTc (τ := Cert.PostFinalReferenceIdeal.τ) (Cert.PostFinalReferenceIdeal.main (F := Ideal))) ⟨m, fun _ => 0, g⟩ (fun r => (∀ c : Dev Cert.PostFinalReferenceIdeal.nD,
      r.2.mem ((c.tc : Thread Cert.PostFinalReferenceIdeal.nD Cert.PostFinalReferenceIdeal.τ).loc Cert.PostFinalReferenceIdeal.main_arg0) = m ((c.tc : Thread Cert.PostFinalReferenceIdeal.nD Cert.PostFinalReferenceIdeal.τ).loc Cert.PostFinalReferenceIdeal.main_arg0)
      ∧ r.2.mem ((c.tc : Thread Cert.PostFinalReferenceIdeal.nD Cert.PostFinalReferenceIdeal.τ).loc Cert.PostFinalReferenceIdeal.main_arg1) = m ((c.tc : Thread Cert.PostFinalReferenceIdeal.nD Cert.PostFinalReferenceIdeal.τ).loc Cert.PostFinalReferenceIdeal.main_arg1)
      ∧ r.2.mem ((c.tc : Thread Cert.PostFinalReferenceIdeal.nD Cert.PostFinalReferenceIdeal.τ).loc Cert.PostFinalReferenceIdeal.main_arg2) = m ((c.tc : Thread Cert.PostFinalReferenceIdeal.nD Cert.PostFinalReferenceIdeal.τ).loc Cert.PostFinalReferenceIdeal.main_arg2)
      ∧ r.2.mem ((c.tc : Thread Cert.PostFinalReferenceIdeal.nD Cert.PostFinalReferenceIdeal.τ).loc Cert.PostFinalReferenceIdeal.main_arg3) = m ((c.tc : Thread Cert.PostFinalReferenceIdeal.nD Cert.PostFinalReferenceIdeal.τ).loc Cert.PostFinalReferenceIdeal.main_arg3)
      ∧ r.2.mem ((c.tc : Thread Cert.PostFinalReferenceIdeal.nD Cert.PostFinalReferenceIdeal.τ).loc Cert.PostFinalReferenceIdeal.main_arg4) = m ((c.tc : Thread Cert.PostFinalReferenceIdeal.nD Cert.PostFinalReferenceIdeal.τ).loc Cert.PostFinalReferenceIdeal.main_arg4)
      ∧ r.2.mem ((c.tc : Thread Cert.PostFinalReferenceIdeal.nD Cert.PostFinalReferenceIdeal.τ).loc Cert.PostFinalReferenceIdeal.main_arg5) = m ((c.tc : Thread Cert.PostFinalReferenceIdeal.nD Cert.PostFinalReferenceIdeal.τ).loc Cert.PostFinalReferenceIdeal.main_arg5)
      ∧ r.2.mem ((c.tc : Thread Cert.PostFinalReferenceIdeal.nD Cert.PostFinalReferenceIdeal.τ).loc Cert.PostFinalReferenceIdeal.main_arg6) = m ((c.tc : Thread Cert.PostFinalReferenceIdeal.nD Cert.PostFinalReferenceIdeal.τ).loc Cert.PostFinalReferenceIdeal.main_arg6)
      ∧ r.2.mem ((c.tc : Thread Cert.PostFinalReferenceIdeal.nD Cert.PostFinalReferenceIdeal.τ).loc Cert.PostFinalReferenceIdeal.main_arg7) = m ((c.tc : Thread Cert.PostFinalReferenceIdeal.nD Cert.PostFinalReferenceIdeal.τ).loc Cert.PostFinalReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_ProjFirst [hProjFirst : Cert.ProjFirst.Facts] : Prop :=
  ∀ (m : (ℓ : Loc Cert.ProjFirst.nD Cert.ProjFirst.τ Cert.ProjFirst.sig) → Buf (Elt Bits) ℓ) (g : Dev Cert.ProjFirst.nD → PrngReg), Pre_ProjFirst m →
    θ_run (Cert.ProjFirst.defs (F := Bits)) (onTc (τ := Cert.ProjFirst.τ) (Cert.ProjFirst.main (F := Bits))) ⟨m, fun _ => 0, g⟩ (fun r => (∀ c : Dev Cert.ProjFirst.nD,
      r.2.mem ((c.tc : Thread Cert.ProjFirst.nD Cert.ProjFirst.τ).loc Cert.ProjFirst.main_arg0) = m ((c.tc : Thread Cert.ProjFirst.nD Cert.ProjFirst.τ).loc Cert.ProjFirst.main_arg0)
      ∧ r.2.mem ((c.tc : Thread Cert.ProjFirst.nD Cert.ProjFirst.τ).loc Cert.ProjFirst.main_arg1) = m ((c.tc : Thread Cert.ProjFirst.nD Cert.ProjFirst.τ).loc Cert.ProjFirst.main_arg1)
      ∧ r.2.mem ((c.tc : Thread Cert.ProjFirst.nD Cert.ProjFirst.τ).loc Cert.ProjFirst.main_arg2) = m ((c.tc : Thread Cert.ProjFirst.nD Cert.ProjFirst.τ).loc Cert.ProjFirst.main_arg2)
      ∧ r.2.mem ((c.tc : Thread Cert.ProjFirst.nD Cert.ProjFirst.τ).loc Cert.ProjFirst.main_arg3) = m ((c.tc : Thread Cert.ProjFirst.nD Cert.ProjFirst.τ).loc Cert.ProjFirst.main_arg3)
      ∧ r.2.mem ((c.tc : Thread Cert.ProjFirst.nD Cert.ProjFirst.τ).loc Cert.ProjFirst.main_arg4) = m ((c.tc : Thread Cert.ProjFirst.nD Cert.ProjFirst.τ).loc Cert.ProjFirst.main_arg4)
      ∧ r.2.mem ((c.tc : Thread Cert.ProjFirst.nD Cert.ProjFirst.τ).loc Cert.ProjFirst.main_arg5) = m ((c.tc : Thread Cert.ProjFirst.nD Cert.ProjFirst.τ).loc Cert.ProjFirst.main_arg5)
      ∧ r.2.mem ((c.tc : Thread Cert.ProjFirst.nD Cert.ProjFirst.τ).loc Cert.ProjFirst.main_arg6) = m ((c.tc : Thread Cert.ProjFirst.nD Cert.ProjFirst.τ).loc Cert.ProjFirst.main_arg6))
      ∧ r.2.sem = fun _ => 0)

def quiescent_ProjFirstIdeal [hProjFirstIdeal : Cert.ProjFirstIdeal.Facts] : Prop :=
  ∀ (m : (ℓ : Loc Cert.ProjFirstIdeal.nD Cert.ProjFirstIdeal.τ Cert.ProjFirstIdeal.sig) → Buf (Elt Ideal) ℓ) (g : Dev Cert.ProjFirstIdeal.nD → PrngReg), Pre_ProjFirstIdeal m →
    θ_run (Cert.ProjFirstIdeal.defs (F := Ideal)) (onTc (τ := Cert.ProjFirstIdeal.τ) (Cert.ProjFirstIdeal.main (F := Ideal))) ⟨m, fun _ => 0, g⟩ (fun r => (∀ c : Dev Cert.ProjFirstIdeal.nD,
      r.2.mem ((c.tc : Thread Cert.ProjFirstIdeal.nD Cert.ProjFirstIdeal.τ).loc Cert.ProjFirstIdeal.main_arg0) = m ((c.tc : Thread Cert.ProjFirstIdeal.nD Cert.ProjFirstIdeal.τ).loc Cert.ProjFirstIdeal.main_arg0)
      ∧ r.2.mem ((c.tc : Thread Cert.ProjFirstIdeal.nD Cert.ProjFirstIdeal.τ).loc Cert.ProjFirstIdeal.main_arg1) = m ((c.tc : Thread Cert.ProjFirstIdeal.nD Cert.ProjFirstIdeal.τ).loc Cert.ProjFirstIdeal.main_arg1)
      ∧ r.2.mem ((c.tc : Thread Cert.ProjFirstIdeal.nD Cert.ProjFirstIdeal.τ).loc Cert.ProjFirstIdeal.main_arg2) = m ((c.tc : Thread Cert.ProjFirstIdeal.nD Cert.ProjFirstIdeal.τ).loc Cert.ProjFirstIdeal.main_arg2)
      ∧ r.2.mem ((c.tc : Thread Cert.ProjFirstIdeal.nD Cert.ProjFirstIdeal.τ).loc Cert.ProjFirstIdeal.main_arg3) = m ((c.tc : Thread Cert.ProjFirstIdeal.nD Cert.ProjFirstIdeal.τ).loc Cert.ProjFirstIdeal.main_arg3)
      ∧ r.2.mem ((c.tc : Thread Cert.ProjFirstIdeal.nD Cert.ProjFirstIdeal.τ).loc Cert.ProjFirstIdeal.main_arg4) = m ((c.tc : Thread Cert.ProjFirstIdeal.nD Cert.ProjFirstIdeal.τ).loc Cert.ProjFirstIdeal.main_arg4)
      ∧ r.2.mem ((c.tc : Thread Cert.ProjFirstIdeal.nD Cert.ProjFirstIdeal.τ).loc Cert.ProjFirstIdeal.main_arg5) = m ((c.tc : Thread Cert.ProjFirstIdeal.nD Cert.ProjFirstIdeal.τ).loc Cert.ProjFirstIdeal.main_arg5)
      ∧ r.2.mem ((c.tc : Thread Cert.ProjFirstIdeal.nD Cert.ProjFirstIdeal.τ).loc Cert.ProjFirstIdeal.main_arg6) = m ((c.tc : Thread Cert.ProjFirstIdeal.nD Cert.ProjFirstIdeal.τ).loc Cert.ProjFirstIdeal.main_arg6))
      ∧ r.2.sem = fun _ => 0)

def quiescent_ProjFirstReferenceIdeal [hProjFirstReferenceIdeal : Cert.ProjFirstReferenceIdeal.Facts] : Prop :=
  ∀ (m : (ℓ : Loc Cert.ProjFirstReferenceIdeal.nD Cert.ProjFirstReferenceIdeal.τ Cert.ProjFirstReferenceIdeal.sig) → Buf (Elt Ideal) ℓ) (g : Dev Cert.ProjFirstReferenceIdeal.nD → PrngReg), Pre_ProjFirstReferenceIdeal m →
    θ_run (Cert.ProjFirstReferenceIdeal.defs (F := Ideal)) (onTc (τ := Cert.ProjFirstReferenceIdeal.τ) (Cert.ProjFirstReferenceIdeal.main (F := Ideal))) ⟨m, fun _ => 0, g⟩ (fun r => (∀ c : Dev Cert.ProjFirstReferenceIdeal.nD,
      r.2.mem ((c.tc : Thread Cert.ProjFirstReferenceIdeal.nD Cert.ProjFirstReferenceIdeal.τ).loc Cert.ProjFirstReferenceIdeal.main_arg0) = m ((c.tc : Thread Cert.ProjFirstReferenceIdeal.nD Cert.ProjFirstReferenceIdeal.τ).loc Cert.ProjFirstReferenceIdeal.main_arg0)
      ∧ r.2.mem ((c.tc : Thread Cert.ProjFirstReferenceIdeal.nD Cert.ProjFirstReferenceIdeal.τ).loc Cert.ProjFirstReferenceIdeal.main_arg1) = m ((c.tc : Thread Cert.ProjFirstReferenceIdeal.nD Cert.ProjFirstReferenceIdeal.τ).loc Cert.ProjFirstReferenceIdeal.main_arg1)
      ∧ r.2.mem ((c.tc : Thread Cert.ProjFirstReferenceIdeal.nD Cert.ProjFirstReferenceIdeal.τ).loc Cert.ProjFirstReferenceIdeal.main_arg2) = m ((c.tc : Thread Cert.ProjFirstReferenceIdeal.nD Cert.ProjFirstReferenceIdeal.τ).loc Cert.ProjFirstReferenceIdeal.main_arg2)
      ∧ r.2.mem ((c.tc : Thread Cert.ProjFirstReferenceIdeal.nD Cert.ProjFirstReferenceIdeal.τ).loc Cert.ProjFirstReferenceIdeal.main_arg3) = m ((c.tc : Thread Cert.ProjFirstReferenceIdeal.nD Cert.ProjFirstReferenceIdeal.τ).loc Cert.ProjFirstReferenceIdeal.main_arg3)
      ∧ r.2.mem ((c.tc : Thread Cert.ProjFirstReferenceIdeal.nD Cert.ProjFirstReferenceIdeal.τ).loc Cert.ProjFirstReferenceIdeal.main_arg4) = m ((c.tc : Thread Cert.ProjFirstReferenceIdeal.nD Cert.ProjFirstReferenceIdeal.τ).loc Cert.ProjFirstReferenceIdeal.main_arg4)
      ∧ r.2.mem ((c.tc : Thread Cert.ProjFirstReferenceIdeal.nD Cert.ProjFirstReferenceIdeal.τ).loc Cert.ProjFirstReferenceIdeal.main_arg5) = m ((c.tc : Thread Cert.ProjFirstReferenceIdeal.nD Cert.ProjFirstReferenceIdeal.τ).loc Cert.ProjFirstReferenceIdeal.main_arg5)
      ∧ r.2.mem ((c.tc : Thread Cert.ProjFirstReferenceIdeal.nD Cert.ProjFirstReferenceIdeal.τ).loc Cert.ProjFirstReferenceIdeal.main_arg6) = m ((c.tc : Thread Cert.ProjFirstReferenceIdeal.nD Cert.ProjFirstReferenceIdeal.τ).loc Cert.ProjFirstReferenceIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v13)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v13) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v38) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def preserves_PostFinal_PostFinalIdeal : Prop :=
  True

def algebraic_PostFinalIdeal_PostFinalReferenceIdeal [hPostFinalIdeal : Cert.PostFinalIdeal.Facts] [hPostFinalReferenceIdeal : Cert.PostFinalReferenceIdeal.Facts] : Prop :=
  ∀ (m : (ℓ : Loc Cert.PostFinalIdeal.nD Cert.PostFinalIdeal.τ Cert.PostFinalIdeal.sig) → Buf (Elt Ideal) ℓ) (g : Dev Cert.PostFinalIdeal.nD → PrngReg)
    (m' : (ℓ : Loc Cert.PostFinalReferenceIdeal.nD Cert.PostFinalReferenceIdeal.τ Cert.PostFinalReferenceIdeal.sig) → Buf (Elt Ideal) ℓ) (g' : Dev Cert.PostFinalReferenceIdeal.nD → PrngReg), Pre_PostFinalIdeal m →
    (∀ c : Dev Cert.PostFinalIdeal.nD,
      m' ((c.tc : Thread Cert.PostFinalReferenceIdeal.nD Cert.PostFinalReferenceIdeal.τ).loc Cert.PostFinalReferenceIdeal.main_arg0) = m ((c.tc : Thread Cert.PostFinalIdeal.nD Cert.PostFinalIdeal.τ).loc Cert.PostFinalIdeal.main_arg0)
      ∧ m' ((c.tc : Thread Cert.PostFinalReferenceIdeal.nD Cert.PostFinalReferenceIdeal.τ).loc Cert.PostFinalReferenceIdeal.main_arg1) = m ((c.tc : Thread Cert.PostFinalIdeal.nD Cert.PostFinalIdeal.τ).loc Cert.PostFinalIdeal.main_arg1)
      ∧ m' ((c.tc : Thread Cert.PostFinalReferenceIdeal.nD Cert.PostFinalReferenceIdeal.τ).loc Cert.PostFinalReferenceIdeal.main_arg2) = m ((c.tc : Thread Cert.PostFinalIdeal.nD Cert.PostFinalIdeal.τ).loc Cert.PostFinalIdeal.main_arg2)
      ∧ m' ((c.tc : Thread Cert.PostFinalReferenceIdeal.nD Cert.PostFinalReferenceIdeal.τ).loc Cert.PostFinalReferenceIdeal.main_arg3) = m ((c.tc : Thread Cert.PostFinalIdeal.nD Cert.PostFinalIdeal.τ).loc Cert.PostFinalIdeal.main_arg3)
      ∧ m' ((c.tc : Thread Cert.PostFinalReferenceIdeal.nD Cert.PostFinalReferenceIdeal.τ).loc Cert.PostFinalReferenceIdeal.main_arg4) = m ((c.tc : Thread Cert.PostFinalIdeal.nD Cert.PostFinalIdeal.τ).loc Cert.PostFinalIdeal.main_arg4)
      ∧ m' ((c.tc : Thread Cert.PostFinalReferenceIdeal.nD Cert.PostFinalReferenceIdeal.τ).loc Cert.PostFinalReferenceIdeal.main_arg5) = m ((c.tc : Thread Cert.PostFinalIdeal.nD Cert.PostFinalIdeal.τ).loc Cert.PostFinalIdeal.main_arg5)
      ∧ m' ((c.tc : Thread Cert.PostFinalReferenceIdeal.nD Cert.PostFinalReferenceIdeal.τ).loc Cert.PostFinalReferenceIdeal.main_arg6) = m ((c.tc : Thread Cert.PostFinalIdeal.nD Cert.PostFinalIdeal.τ).loc Cert.PostFinalIdeal.main_arg6)
      ∧ m' ((c.tc : Thread Cert.PostFinalReferenceIdeal.nD Cert.PostFinalReferenceIdeal.τ).loc Cert.PostFinalReferenceIdeal.main_arg7) = m ((c.tc : Thread Cert.PostFinalIdeal.nD Cert.PostFinalIdeal.τ).loc Cert.PostFinalIdeal.main_arg7)) →
    ∃ (v0 : (c : Dev Cert.PostFinalIdeal.nD) → Buf (Elt Ideal) ((c.tc : Thread Cert.PostFinalIdeal.nD Cert.PostFinalIdeal.τ).loc Cert.PostFinalIdeal.main_v21)),
      θ_run (Cert.PostFinalIdeal.defs (F := Ideal)) (onTc (τ := Cert.PostFinalIdeal.τ) (Cert.PostFinalIdeal.main (F := Ideal))) ⟨m, fun _ => 0, g⟩ (fun r => ∀ c : Dev Cert.PostFinalIdeal.nD,
          r.2.mem ((c.tc : Thread Cert.PostFinalIdeal.nD Cert.PostFinalIdeal.τ).loc Cert.PostFinalIdeal.main_v21) = v0 c
          ∧ r.2.mem ((c.tc : Thread Cert.PostFinalIdeal.nD Cert.PostFinalIdeal.τ).loc Cert.PostFinalIdeal.main_arg0) = m ((c.tc : Thread Cert.PostFinalIdeal.nD Cert.PostFinalIdeal.τ).loc Cert.PostFinalIdeal.main_arg0)
          ∧ r.2.mem ((c.tc : Thread Cert.PostFinalIdeal.nD Cert.PostFinalIdeal.τ).loc Cert.PostFinalIdeal.main_arg1) = m ((c.tc : Thread Cert.PostFinalIdeal.nD Cert.PostFinalIdeal.τ).loc Cert.PostFinalIdeal.main_arg1)
          ∧ r.2.mem ((c.tc : Thread Cert.PostFinalIdeal.nD Cert.PostFinalIdeal.τ).loc Cert.PostFinalIdeal.main_arg2) = m ((c.tc : Thread Cert.PostFinalIdeal.nD Cert.PostFinalIdeal.τ).loc Cert.PostFinalIdeal.main_arg2)
          ∧ r.2.mem ((c.tc : Thread Cert.PostFinalIdeal.nD Cert.PostFinalIdeal.τ).loc Cert.PostFinalIdeal.main_arg3) = m ((c.tc : Thread Cert.PostFinalIdeal.nD Cert.PostFinalIdeal.τ).loc Cert.PostFinalIdeal.main_arg3)
          ∧ r.2.mem ((c.tc : Thread Cert.PostFinalIdeal.nD Cert.PostFinalIdeal.τ).loc Cert.PostFinalIdeal.main_arg4) = m ((c.tc : Thread Cert.PostFinalIdeal.nD Cert.PostFinalIdeal.τ).loc Cert.PostFinalIdeal.main_arg4)
          ∧ r.2.mem ((c.tc : Thread Cert.PostFinalIdeal.nD Cert.PostFinalIdeal.τ).loc Cert.PostFinalIdeal.main_arg5) = m ((c.tc : Thread Cert.PostFinalIdeal.nD Cert.PostFinalIdeal.τ).loc Cert.PostFinalIdeal.main_arg5)
          ∧ r.2.mem ((c.tc : Thread Cert.PostFinalIdeal.nD Cert.PostFinalIdeal.τ).loc Cert.PostFinalIdeal.main_arg6) = m ((c.tc : Thread Cert.PostFinalIdeal.nD Cert.PostFinalIdeal.τ).loc Cert.PostFinalIdeal.main_arg6)
          ∧ r.2.mem ((c.tc : Thread Cert.PostFinalIdeal.nD Cert.PostFinalIdeal.τ).loc Cert.PostFinalIdeal.main_arg7) = m ((c.tc : Thread Cert.PostFinalIdeal.nD Cert.PostFinalIdeal.τ).loc Cert.PostFinalIdeal.main_arg7))
      ∧ θ_run (Cert.PostFinalReferenceIdeal.defs (F := Ideal)) (onTc (τ := Cert.PostFinalReferenceIdeal.τ) (Cert.PostFinalReferenceIdeal.main (F := Ideal))) ⟨m', fun _ => 0, g'⟩ (fun r => ∀ c : Dev Cert.PostFinalReferenceIdeal.nD,
          r.2.mem ((c.tc : Thread Cert.PostFinalReferenceIdeal.nD Cert.PostFinalReferenceIdeal.τ).loc Cert.PostFinalReferenceIdeal.main_v51) = v0 c
          ∧ r.2.mem ((c.tc : Thread Cert.PostFinalReferenceIdeal.nD Cert.PostFinalReferenceIdeal.τ).loc Cert.PostFinalReferenceIdeal.main_arg0) = m' ((c.tc : Thread Cert.PostFinalReferenceIdeal.nD Cert.PostFinalReferenceIdeal.τ).loc Cert.PostFinalReferenceIdeal.main_arg0)
          ∧ r.2.mem ((c.tc : Thread Cert.PostFinalReferenceIdeal.nD Cert.PostFinalReferenceIdeal.τ).loc Cert.PostFinalReferenceIdeal.main_arg1) = m' ((c.tc : Thread Cert.PostFinalReferenceIdeal.nD Cert.PostFinalReferenceIdeal.τ).loc Cert.PostFinalReferenceIdeal.main_arg1)
          ∧ r.2.mem ((c.tc : Thread Cert.PostFinalReferenceIdeal.nD Cert.PostFinalReferenceIdeal.τ).loc Cert.PostFinalReferenceIdeal.main_arg2) = m' ((c.tc : Thread Cert.PostFinalReferenceIdeal.nD Cert.PostFinalReferenceIdeal.τ).loc Cert.PostFinalReferenceIdeal.main_arg2)
          ∧ r.2.mem ((c.tc : Thread Cert.PostFinalReferenceIdeal.nD Cert.PostFinalReferenceIdeal.τ).loc Cert.PostFinalReferenceIdeal.main_arg3) = m' ((c.tc : Thread Cert.PostFinalReferenceIdeal.nD Cert.PostFinalReferenceIdeal.τ).loc Cert.PostFinalReferenceIdeal.main_arg3)
          ∧ r.2.mem ((c.tc : Thread Cert.PostFinalReferenceIdeal.nD Cert.PostFinalReferenceIdeal.τ).loc Cert.PostFinalReferenceIdeal.main_arg4) = m' ((c.tc : Thread Cert.PostFinalReferenceIdeal.nD Cert.PostFinalReferenceIdeal.τ).loc Cert.PostFinalReferenceIdeal.main_arg4)
          ∧ r.2.mem ((c.tc : Thread Cert.PostFinalReferenceIdeal.nD Cert.PostFinalReferenceIdeal.τ).loc Cert.PostFinalReferenceIdeal.main_arg5) = m' ((c.tc : Thread Cert.PostFinalReferenceIdeal.nD Cert.PostFinalReferenceIdeal.τ).loc Cert.PostFinalReferenceIdeal.main_arg5)
          ∧ r.2.mem ((c.tc : Thread Cert.PostFinalReferenceIdeal.nD Cert.PostFinalReferenceIdeal.τ).loc Cert.PostFinalReferenceIdeal.main_arg6) = m' ((c.tc : Thread Cert.PostFinalReferenceIdeal.nD Cert.PostFinalReferenceIdeal.τ).loc Cert.PostFinalReferenceIdeal.main_arg6)
          ∧ r.2.mem ((c.tc : Thread Cert.PostFinalReferenceIdeal.nD Cert.PostFinalReferenceIdeal.τ).loc Cert.PostFinalReferenceIdeal.main_arg7) = m' ((c.tc : Thread Cert.PostFinalReferenceIdeal.nD Cert.PostFinalReferenceIdeal.τ).loc Cert.PostFinalReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v48_0)) (v1 : (c : Dev Cert.ProjIdeal.nD) → Buf (Elt Ideal) ((c.tc : Thread Cert.ProjIdeal.nD Cert.ProjIdeal.τ).loc Cert.ProjIdeal.main_v48_1)) (v2 : (c : Dev Cert.ProjIdeal.nD) → Buf (Elt Ideal) ((c.tc : Thread Cert.ProjIdeal.nD Cert.ProjIdeal.τ).loc Cert.ProjIdeal.main_v48_2)) (v3 : (c : Dev Cert.ProjIdeal.nD) → Buf (Elt Ideal) ((c.tc : Thread Cert.ProjIdeal.nD Cert.ProjIdeal.τ).loc Cert.ProjIdeal.main_v48_3)) (v4 : (c : Dev Cert.ProjIdeal.nD) → Buf (Elt Ideal) ((c.tc : Thread Cert.ProjIdeal.nD Cert.ProjIdeal.τ).loc Cert.ProjIdeal.main_v48_4)) (v5 : (c : Dev Cert.ProjIdeal.nD) → Buf (Elt Ideal) ((c.tc : Thread Cert.ProjIdeal.nD Cert.ProjIdeal.τ).loc Cert.ProjIdeal.main_v48_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v48_0) = v0 c
          ∧ r.2.mem ((c.tc : Thread Cert.ProjIdeal.nD Cert.ProjIdeal.τ).loc Cert.ProjIdeal.main_v48_1) = v1 c
          ∧ r.2.mem ((c.tc : Thread Cert.ProjIdeal.nD Cert.ProjIdeal.τ).loc Cert.ProjIdeal.main_v48_2) = v2 c
          ∧ r.2.mem ((c.tc : Thread Cert.ProjIdeal.nD Cert.ProjIdeal.τ).loc Cert.ProjIdeal.main_v48_3) = v3 c
          ∧ r.2.mem ((c.tc : Thread Cert.ProjIdeal.nD Cert.ProjIdeal.τ).loc Cert.ProjIdeal.main_v48_4) = v4 c
          ∧ r.2.mem ((c.tc : Thread Cert.ProjIdeal.nD Cert.ProjIdeal.τ).loc Cert.ProjIdeal.main_v48_6) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v164) = v0 c
          ∧ r.2.mem ((c.tc : Thread Cert.ProjReferenceIdeal.nD Cert.ProjReferenceIdeal.τ).loc Cert.ProjReferenceIdeal.main_v165) = v1 c
          ∧ r.2.mem ((c.tc : Thread Cert.ProjReferenceIdeal.nD Cert.ProjReferenceIdeal.τ).loc Cert.ProjReferenceIdeal.main_v166) = v2 c
          ∧ r.2.mem ((c.tc : Thread Cert.ProjReferenceIdeal.nD Cert.ProjReferenceIdeal.τ).loc Cert.ProjReferenceIdeal.main_v168) = v3 c
          ∧ r.2.mem ((c.tc : Thread Cert.ProjReferenceIdeal.nD Cert.ProjReferenceIdeal.τ).loc Cert.ProjReferenceIdeal.main_v169) = v4 c
          ∧ r.2.mem ((c.tc : Thread Cert.ProjReferenceIdeal.nD Cert.ProjReferenceIdeal.τ).loc Cert.ProjReferenceIdeal.main_v171) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_ProjFirst_ProjFirstIdeal : Prop :=
  True

def algebraic_ProjFirstIdeal_ProjFirstReferenceIdeal [hProjFirstIdeal : Cert.ProjFirstIdeal.Facts] [hProjFirstReferenceIdeal : Cert.ProjFirstReferenceIdeal.Facts] : Prop :=
  ∀ (m : (ℓ : Loc Cert.ProjFirstIdeal.nD Cert.ProjFirstIdeal.τ Cert.ProjFirstIdeal.sig) → Buf (Elt Ideal) ℓ) (g : Dev Cert.ProjFirstIdeal.nD → PrngReg)
    (m' : (ℓ : Loc Cert.ProjFirstReferenceIdeal.nD Cert.ProjFirstReferenceIdeal.τ Cert.ProjFirstReferenceIdeal.sig) → Buf (Elt Ideal) ℓ) (g' : Dev Cert.ProjFirstReferenceIdeal.nD → PrngReg), Pre_ProjFirstIdeal m →
    (∀ c : Dev Cert.ProjFirstIdeal.nD,
      m' ((c.tc : Thread Cert.ProjFirstReferenceIdeal.nD Cert.ProjFirstReferenceIdeal.τ).loc Cert.ProjFirstReferenceIdeal.main_arg0) = m ((c.tc : Thread Cert.ProjFirstIdeal.nD Cert.ProjFirstIdeal.τ).loc Cert.ProjFirstIdeal.main_arg0)
      ∧ m' ((c.tc : Thread Cert.ProjFirstReferenceIdeal.nD Cert.ProjFirstReferenceIdeal.τ).loc Cert.ProjFirstReferenceIdeal.main_arg1) = m ((c.tc : Thread Cert.ProjFirstIdeal.nD Cert.ProjFirstIdeal.τ).loc Cert.ProjFirstIdeal.main_arg1)
      ∧ m' ((c.tc : Thread Cert.ProjFirstReferenceIdeal.nD Cert.ProjFirstReferenceIdeal.τ).loc Cert.ProjFirstReferenceIdeal.main_arg2) = m ((c.tc : Thread Cert.ProjFirstIdeal.nD Cert.ProjFirstIdeal.τ).loc Cert.ProjFirstIdeal.main_arg2)
      ∧ m' ((c.tc : Thread Cert.ProjFirstReferenceIdeal.nD Cert.ProjFirstReferenceIdeal.τ).loc Cert.ProjFirstReferenceIdeal.main_arg3) = m ((c.tc : Thread Cert.ProjFirstIdeal.nD Cert.ProjFirstIdeal.τ).loc Cert.ProjFirstIdeal.main_arg3)
      ∧ m' ((c.tc : Thread Cert.ProjFirstReferenceIdeal.nD Cert.ProjFirstReferenceIdeal.τ).loc Cert.ProjFirstReferenceIdeal.main_arg4) = m ((c.tc : Thread Cert.ProjFirstIdeal.nD Cert.ProjFirstIdeal.τ).loc Cert.ProjFirstIdeal.main_arg4)
      ∧ m' ((c.tc : Thread Cert.ProjFirstReferenceIdeal.nD Cert.ProjFirstReferenceIdeal.τ).loc Cert.ProjFirstReferenceIdeal.main_arg5) = m ((c.tc : Thread Cert.ProjFirstIdeal.nD Cert.ProjFirstIdeal.τ).loc Cert.ProjFirstIdeal.main_arg5)
      ∧ m' ((c.tc : Thread Cert.ProjFirstReferenceIdeal.nD Cert.ProjFirstReferenceIdeal.τ).loc Cert.ProjFirstReferenceIdeal.main_arg6) = m ((c.tc : Thread Cert.ProjFirstIdeal.nD Cert.ProjFirstIdeal.τ).loc Cert.ProjFirstIdeal.main_arg6)) →
    ∃ (v0 : (c : Dev Cert.ProjFirstIdeal.nD) → Buf (Elt Ideal) ((c.tc : Thread Cert.ProjFirstIdeal.nD Cert.ProjFirstIdeal.τ).loc Cert.ProjFirstIdeal.main_v71_0)) (v1 : (c : Dev Cert.ProjFirstIdeal.nD) → Buf (Elt Ideal) ((c.tc : Thread Cert.ProjFirstIdeal.nD Cert.ProjFirstIdeal.τ).loc Cert.ProjFirstIdeal.main_v71_1)) (v2 : (c : Dev Cert.ProjFirstIdeal.nD) → Buf (Elt Ideal) ((c.tc : Thread Cert.ProjFirstIdeal.nD Cert.ProjFirstIdeal.τ).loc Cert.ProjFirstIdeal.main_v71_2)) (v3 : (c : Dev Cert.ProjFirstIdeal.nD) → Buf (Elt Ideal) ((c.tc : Thread Cert.ProjFirstIdeal.nD Cert.ProjFirstIdeal.τ).loc Cert.ProjFirstIdeal.main_v71_3)) (v4 : (c : Dev Cert.ProjFirstIdeal.nD) → Buf (Elt Ideal) ((c.tc : Thread Cert.ProjFirstIdeal.nD Cert.ProjFirstIdeal.τ).loc Cert.ProjFirstIdeal.main_v71_5)) (v5 : (c : Dev Cert.ProjFirstIdeal.nD) → Buf (Elt Ideal) ((c.tc : Thread Cert.ProjFirstIdeal.nD Cert.ProjFirstIdeal.τ).loc Cert.ProjFirstIdeal.main_v71_6)) (v6 : (c : Dev Cert.ProjFirstIdeal.nD) → Buf (Elt Ideal) ((c.tc : Thread Cert.ProjFirstIdeal.nD Cert.ProjFirstIdeal.τ).loc Cert.ProjFirstIdeal.main_v71_7)),
      θ_run (Cert.ProjFirstIdeal.defs (F := Ideal)) (onTc (τ := Cert.ProjFirstIdeal.τ) (Cert.ProjFirstIdeal.main (F := Ideal))) ⟨m, fun _ => 0, g⟩ (fun r => ∀ c : Dev Cert.ProjFirstIdeal.nD,
          r.2.mem ((c.tc : Thread Cert.ProjFirstIdeal.nD Cert.ProjFirstIdeal.τ).loc Cert.ProjFirstIdeal.main_v71_0) = v0 c
          ∧ r.2.mem ((c.tc : Thread Cert.ProjFirstIdeal.nD Cert.ProjFirstIdeal.τ).loc Cert.ProjFirstIdeal.main_v71_1) = v1 c
          ∧ r.2.mem ((c.tc : Thread Cert.ProjFirstIdeal.nD Cert.ProjFirstIdeal.τ).loc Cert.ProjFirstIdeal.main_v71_2) = v2 c
          ∧ r.2.mem ((c.tc : Thread Cert.ProjFirstIdeal.nD Cert.ProjFirstIdeal.τ).loc Cert.ProjFirstIdeal.main_v71_3) = v3 c
          ∧ r.2.mem ((c.tc : Thread Cert.ProjFirstIdeal.nD Cert.ProjFirstIdeal.τ).loc Cert.ProjFirstIdeal.main_v71_5) = v4 c
          ∧ r.2.mem ((c.tc : Thread Cert.ProjFirstIdeal.nD Cert.ProjFirstIdeal.τ).loc Cert.ProjFirstIdeal.main_v71_6) = v5 c
          ∧ r.2.mem ((c.tc : Thread Cert.ProjFirstIdeal.nD Cert.ProjFirstIdeal.τ).loc Cert.ProjFirstIdeal.main_v71_7) = v6 c
          ∧ r.2.mem ((c.tc : Thread Cert.ProjFirstIdeal.nD Cert.ProjFirstIdeal.τ).loc Cert.ProjFirstIdeal.main_arg0) = m ((c.tc : Thread Cert.ProjFirstIdeal.nD Cert.ProjFirstIdeal.τ).loc Cert.ProjFirstIdeal.main_arg0)
          ∧ r.2.mem ((c.tc : Thread Cert.ProjFirstIdeal.nD Cert.ProjFirstIdeal.τ).loc Cert.ProjFirstIdeal.main_arg1) = m ((c.tc : Thread Cert.ProjFirstIdeal.nD Cert.ProjFirstIdeal.τ).loc Cert.ProjFirstIdeal.main_arg1)
          ∧ r.2.mem ((c.tc : Thread Cert.ProjFirstIdeal.nD Cert.ProjFirstIdeal.τ).loc Cert.ProjFirstIdeal.main_arg2) = m ((c.tc : Thread Cert.ProjFirstIdeal.nD Cert.ProjFirstIdeal.τ).loc Cert.ProjFirstIdeal.main_arg2)
          ∧ r.2.mem ((c.tc : Thread Cert.ProjFirstIdeal.nD Cert.ProjFirstIdeal.τ).loc Cert.ProjFirstIdeal.main_arg3) = m ((c.tc : Thread Cert.ProjFirstIdeal.nD Cert.ProjFirstIdeal.τ).loc Cert.ProjFirstIdeal.main_arg3)
          ∧ r.2.mem ((c.tc : Thread Cert.ProjFirstIdeal.nD Cert.ProjFirstIdeal.τ).loc Cert.ProjFirstIdeal.main_arg4) = m ((c.tc : Thread Cert.ProjFirstIdeal.nD Cert.ProjFirstIdeal.τ).loc Cert.ProjFirstIdeal.main_arg4)
          ∧ r.2.mem ((c.tc : Thread Cert.ProjFirstIdeal.nD Cert.ProjFirstIdeal.τ).loc Cert.ProjFirstIdeal.main_arg5) = m ((c.tc : Thread Cert.ProjFirstIdeal.nD Cert.ProjFirstIdeal.τ).loc Cert.ProjFirstIdeal.main_arg5)
          ∧ r.2.mem ((c.tc : Thread Cert.ProjFirstIdeal.nD Cert.ProjFirstIdeal.τ).loc Cert.ProjFirstIdeal.main_arg6) = m ((c.tc : Thread Cert.ProjFirstIdeal.nD Cert.ProjFirstIdeal.τ).loc Cert.ProjFirstIdeal.main_arg6))
      ∧ θ_run (Cert.ProjFirstReferenceIdeal.defs (F := Ideal)) (onTc (τ := Cert.ProjFirstReferenceIdeal.τ) (Cert.ProjFirstReferenceIdeal.main (F := Ideal))) ⟨m', fun _ => 0, g'⟩ (fun r => ∀ c : Dev Cert.ProjFirstReferenceIdeal.nD,
          r.2.mem ((c.tc : Thread Cert.ProjFirstReferenceIdeal.nD Cert.ProjFirstReferenceIdeal.τ).loc Cert.ProjFirstReferenceIdeal.main_v194) = v0 c
          ∧ r.2.mem ((c.tc : Thread Cert.ProjFirstReferenceIdeal.nD Cert.ProjFirstReferenceIdeal.τ).loc Cert.ProjFirstReferenceIdeal.main_v196) = v1 c
          ∧ r.2.mem ((c.tc : Thread Cert.ProjFirstReferenceIdeal.nD Cert.ProjFirstReferenceIdeal.τ).loc Cert.ProjFirstReferenceIdeal.main_v197) = v2 c
          ∧ r.2.mem ((c.tc : Thread Cert.ProjFirstReferenceIdeal.nD Cert.ProjFirstReferenceIdeal.τ).loc Cert.ProjFirstReferenceIdeal.main_v198) = v3 c
          ∧ r.2.mem ((c.tc : Thread Cert.ProjFirstReferenceIdeal.nD Cert.ProjFirstReferenceIdeal.τ).loc Cert.ProjFirstReferenceIdeal.main_v200) = v4 c
          ∧ r.2.mem ((c.tc : Thread Cert.ProjFirstReferenceIdeal.nD Cert.ProjFirstReferenceIdeal.τ).loc Cert.ProjFirstReferenceIdeal.main_v201) = v5 c
          ∧ r.2.mem ((c.tc : Thread Cert.ProjFirstReferenceIdeal.nD Cert.ProjFirstReferenceIdeal.τ).loc Cert.ProjFirstReferenceIdeal.main_v202) = v6 c
          ∧ r.2.mem ((c.tc : Thread Cert.ProjFirstReferenceIdeal.nD Cert.ProjFirstReferenceIdeal.τ).loc Cert.ProjFirstReferenceIdeal.main_arg0) = m' ((c.tc : Thread Cert.ProjFirstReferenceIdeal.nD Cert.ProjFirstReferenceIdeal.τ).loc Cert.ProjFirstReferenceIdeal.main_arg0)
          ∧ r.2.mem ((c.tc : Thread Cert.ProjFirstReferenceIdeal.nD Cert.ProjFirstReferenceIdeal.τ).loc Cert.ProjFirstReferenceIdeal.main_arg1) = m' ((c.tc : Thread Cert.ProjFirstReferenceIdeal.nD Cert.ProjFirstReferenceIdeal.τ).loc Cert.ProjFirstReferenceIdeal.main_arg1)
          ∧ r.2.mem ((c.tc : Thread Cert.ProjFirstReferenceIdeal.nD Cert.ProjFirstReferenceIdeal.τ).loc Cert.ProjFirstReferenceIdeal.main_arg2) = m' ((c.tc : Thread Cert.ProjFirstReferenceIdeal.nD Cert.ProjFirstReferenceIdeal.τ).loc Cert.ProjFirstReferenceIdeal.main_arg2)
          ∧ r.2.mem ((c.tc : Thread Cert.ProjFirstReferenceIdeal.nD Cert.ProjFirstReferenceIdeal.τ).loc Cert.ProjFirstReferenceIdeal.main_arg3) = m' ((c.tc : Thread Cert.ProjFirstReferenceIdeal.nD Cert.ProjFirstReferenceIdeal.τ).loc Cert.ProjFirstReferenceIdeal.main_arg3)
          ∧ r.2.mem ((c.tc : Thread Cert.ProjFirstReferenceIdeal.nD Cert.ProjFirstReferenceIdeal.τ).loc Cert.ProjFirstReferenceIdeal.main_arg4) = m' ((c.tc : Thread Cert.ProjFirstReferenceIdeal.nD Cert.ProjFirstReferenceIdeal.τ).loc Cert.ProjFirstReferenceIdeal.main_arg4)
          ∧ r.2.mem ((c.tc : Thread Cert.ProjFirstReferenceIdeal.nD Cert.ProjFirstReferenceIdeal.τ).loc Cert.ProjFirstReferenceIdeal.main_arg5) = m' ((c.tc : Thread Cert.ProjFirstReferenceIdeal.nD Cert.ProjFirstReferenceIdeal.τ).loc Cert.ProjFirstReferenceIdeal.main_arg5)
          ∧ r.2.mem ((c.tc : Thread Cert.ProjFirstReferenceIdeal.nD Cert.ProjFirstReferenceIdeal.τ).loc Cert.ProjFirstReferenceIdeal.main_arg6) = m' ((c.tc : Thread Cert.ProjFirstReferenceIdeal.nD Cert.ProjFirstReferenceIdeal.τ).loc Cert.ProjFirstReferenceIdeal.main_arg6))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v11) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hPostFinal : Cert.PostFinal.Facts) (hPostFinalIdeal : Cert.PostFinalIdeal.Facts) (hPostFinalReferenceIdeal : Cert.PostFinalReferenceIdeal.Facts) (hProj : Cert.Proj.Facts) (hProjIdeal : Cert.ProjIdeal.Facts) (hProjReferenceIdeal : Cert.ProjReferenceIdeal.Facts) (hProjFirst : Cert.ProjFirst.Facts) (hProjFirstIdeal : Cert.ProjFirstIdeal.Facts) (hProjFirstReferenceIdeal : Cert.ProjFirstReferenceIdeal.Facts) (hAda : Cert.Ada.Facts) (hAdaIdeal : Cert.AdaIdeal.Facts) (hAdaReferenceIdeal : Cert.AdaReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostReferenceIdeal (hPostReferenceIdeal := hPostReferenceIdeal)
    ∧ quiescent_PostFinal (hPostFinal := hPostFinal)
    ∧ quiescent_PostFinalIdeal (hPostFinalIdeal := hPostFinalIdeal)
    ∧ quiescent_PostFinalReferenceIdeal (hPostFinalReferenceIdeal := hPostFinalReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjFirst (hProjFirst := hProjFirst)
    ∧ quiescent_ProjFirstIdeal (hProjFirstIdeal := hProjFirstIdeal)
    ∧ quiescent_ProjFirstReferenceIdeal (hProjFirstReferenceIdeal := hProjFirstReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal (hPostIdeal := hPostIdeal) (hPostReferenceIdeal := hPostReferenceIdeal)
    ∧ preserves_PostFinal_PostFinalIdeal
    ∧ algebraic_PostFinalIdeal_PostFinalReferenceIdeal (hPostFinalIdeal := hPostFinalIdeal) (hPostFinalReferenceIdeal := hPostFinalReferenceIdeal)
    ∧ preserves_Proj_ProjIdeal
    ∧ algebraic_ProjIdeal_ProjReferenceIdeal (hProjIdeal := hProjIdeal) (hProjReferenceIdeal := hProjReferenceIdeal)
    ∧ preserves_ProjFirst_ProjFirstIdeal
    ∧ algebraic_ProjFirstIdeal_ProjFirstReferenceIdeal (hProjFirstIdeal := hProjFirstIdeal) (hProjFirstReferenceIdeal := hProjFirstReferenceIdeal)
    ∧ preserves_Ada_AdaIdeal
    ∧ algebraic_AdaIdeal_AdaReferenceIdeal (hAdaIdeal := hAdaIdeal) (hAdaReferenceIdeal := hAdaReferenceIdeal)
-- ==== Pre_finite.lean ====
abbrev S8x2048x512 : Shape := ⟨3, ![8, 2048, 512]⟩
abbrev S8x2048x256 : Shape := ⟨3, ![8, 2048, 256]⟩
abbrev S8x2048x32 : Shape := ⟨3, ![8, 2048, 32]⟩
abbrev S256x8x64 : Shape := ⟨3, ![256, 8, 64]⟩
abbrev S_ : Shape := ⟨0, ![]⟩

class Facts : Prop where
  bcast_S_S8x2048x512 : S_.BroadcastsInDim S8x2048x512 (![] : Fin 0 → Fin S8x2048x512.rank)
  bcast_S_S8x2048x256 : S_.BroadcastsInDim S8x2048x256 (![] : Fin 0 → Fin S8x2048x256.rank)
  bcast_S_S8x2048x32 : S_.BroadcastsInDim S8x2048x32 (![] : Fin 0 → Fin S8x2048x32.rank)
  bcast_S_S256x8x64 : S_.BroadcastsInDim S256x8x64 (![] : Fin 0 → Fin S256x8x64.rank)

variable [Facts]

def fn {F : FTy → Type} [FloatOps F] (main_arg0 : FVec F S8x2048x512 .f32) (main_arg1 : FVec F S8x2048x256 .f32) (main_arg2 : FVec F S8x2048x256 .f32) (main_arg3 : FVec F S8x2048x32 .f32) (main_arg4 : FVec F S256x8x64 .f32) (main_arg5 : FVec F S256x8x64 .f32) : IVec S8x2048x512 1 × IVec S8x2048x256 1 × IVec S8x2048x256 1 × IVec S8x2048x32 1 × IVec S256x8x64 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_v3 : FVec F S8x2048x256 .f32 := Host.absf main_arg1
  let main_cst_0 : FVec F S_ .f32 := constant S_ .f32 0x7F800000#32
  let main_v4 : FVec F S8x2048x256 .f32 := broadcastInDim S8x2048x256 ![] bcast_S_S8x2048x256 main_cst_0
  let main_v5 : IVec S8x2048x256 1 := cmpf .olt main_v3 main_v4
  let main_v6 : FVec F S8x2048x256 .f32 := Host.absf main_arg2
  let main_cst_1 : FVec F S_ .f32 := constant S_ .f32 0x7F800000#32
  let main_v7 : FVec F S8x2048x256 .f32 := broadcastInDim S8x2048x256 ![] bcast_S_S8x2048x256 main_cst_1
  let main_v8 : IVec S8x2048x256 1 := cmpf .olt main_v6 main_v7
  let main_v9 : FVec F S8x2048x32 .f32 := Host.absf main_arg3
  let main_cst_2 : FVec F S_ .f32 := constant S_ .f32 0x7F800000#32
  let main_v10 : FVec F S8x2048x32 .f32 := broadcastInDim S8x2048x32 ![] bcast_S_S8x2048x32 main_cst_2
  let main_v11 : IVec S8x2048x32 1 := cmpf .olt main_v9 main_v10
  let main_v12 : FVec F S256x8x64 .f32 := Host.absf main_arg4
  let main_cst_3 : FVec F S_ .f32 := constant S_ .f32 0x7F800000#32
  let main_v13 : FVec F S256x8x64 .f32 := broadcastInDim S256x8x64 ![] bcast_S_S256x8x64 main_cst_3
  let main_v14 : IVec S256x8x64 1 := cmpf .olt main_v12 main_v13
  (main_v2, main_v5, main_v8, main_v11, main_v14)
-- ==== Kernel.lean ====
abbrev S8x2048x512 : Shape := ⟨3, ![8, 2048, 512]⟩
abbrev S8x2048x256 : Shape := ⟨3, ![8, 2048, 256]⟩
abbrev S8x2048x32 : Shape := ⟨3, ![8, 2048, 32]⟩
abbrev S256x8x64 : Shape := ⟨3, ![256, 8, 64]⟩
abbrev S_ : Shape := ⟨0, ![]⟩
abbrev S8x2048x128 : Shape := ⟨3, ![8, 2048, 128]⟩
abbrev S8x64x256 : Shape := ⟨3, ![8, 64, 256]⟩
abbrev S1x64x256 : Shape := ⟨3, ![1, 64, 256]⟩
abbrev S64x256 : Shape := ⟨2, ![64, 256]⟩
abbrev S64x512 : Shape := ⟨2, ![64, 512]⟩
abbrev S128x512 : Shape := ⟨2, ![128, 512]⟩
abbrev S1x128x512 : Shape := ⟨3, ![1, 128, 512]⟩
abbrev S4x128x512 : Shape := ⟨3, ![4, 128, 512]⟩
abbrev S8x256x64 : Shape := ⟨3, ![8, 256, 64]⟩
abbrev S1x256x64 : Shape := ⟨3, ![1, 256, 64]⟩
abbrev S256x64 : Shape := ⟨2, ![256, 64]⟩
abbrev S256x128 : Shape := ⟨2, ![256, 128]⟩
abbrev S1x256x128 : Shape := ⟨3, ![1, 256, 128]⟩
abbrev S8x256x128 : Shape := ⟨3, ![8, 256, 128]⟩
abbrev S1x128x256 : Shape := ⟨3, ![1, 128, 256]⟩
abbrev S1x2048x256 : Shape := ⟨3, ![1, 2048, 256]⟩
abbrev S1x2048x128 : Shape := ⟨3, ![1, 2048, 128]⟩
abbrev S1024x256 : Shape := ⟨2, ![1024, 256]⟩
abbrev S1024x128 : Shape := ⟨2, ![1024, 128]⟩
abbrev S2048x256 : Shape := ⟨2, ![2048, 256]⟩
abbrev S2048x128 : Shape := ⟨2, ![2048, 128]⟩
abbrev S1024x1 : Shape := ⟨2, ![1024, 1]⟩
abbrev S128x256 : Shape := ⟨2, ![128, 256]⟩
abbrev S128x128 : Shape := ⟨2, ![128, 128]⟩
abbrev S1024x512 : Shape := ⟨2, ![1024, 512]⟩
abbrev S512x256 : Shape := ⟨2, ![512, 256]⟩
abbrev S512x128 : Shape := ⟨2, ![512, 128]⟩
abbrev S1024 : Shape := ⟨1, ![1024]⟩
abbrev S128x1 : Shape := ⟨2, ![128, 1]⟩
abbrev S1x128x128 : Shape := ⟨3, ![1, 128, 128]⟩

abbrev nBuf : Space → Nat
  | .hbm => 95
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S8x2048x256, .f32⟩
  | .hbm, ⟨2, _⟩ => ⟨S8x2048x256, .f32⟩
  | .hbm, ⟨3, _⟩ => ⟨S8x2048x32, .f32⟩
  | .hbm, ⟨4, _⟩ => ⟨S256x8x64, .f32⟩
  | .hbm, ⟨5, _⟩ => ⟨S256x8x64, .f32⟩
  | .hbm, ⟨6, _⟩ => ⟨S_, .f32⟩
  | .hbm, ⟨7, _⟩ => ⟨S8x2048x512, .f32⟩
  | .hbm, ⟨8, _⟩ => ⟨S8x2048x512, .f32⟩
  | .hbm, ⟨9, _⟩ => ⟨S8x2048x512, .bf16⟩
  | .hbm, ⟨10, _⟩ => ⟨S_, .f32⟩
  | .hbm, ⟨11, _⟩ => ⟨S8x2048x256, .f32⟩
  | .hbm, ⟨12, _⟩ => ⟨S8x2048x256, .f32⟩
  | .hbm, ⟨13, _⟩ => ⟨S8x2048x256, .bf16⟩
  | .hbm, ⟨14, _⟩ => ⟨S8x2048x128, .f32⟩
  | .hbm, ⟨15, _⟩ => ⟨S8x2048x128, .bf16⟩
  | .hbm, ⟨16, _⟩ => ⟨S8x64x256, .f32⟩
  | .hbm, ⟨17, _⟩ => ⟨S1x64x256, .f32⟩
  | .hbm, ⟨18, _⟩ => ⟨S64x256, .f32⟩
  | .hbm, ⟨19, _⟩ => ⟨S_, .f32⟩
  | .hbm, ⟨20, _⟩ => ⟨S64x256, .f32⟩
  | .hbm, ⟨21, _⟩ => ⟨S1x64x256, .f32⟩
  | .hbm, ⟨22, _⟩ => ⟨S64x256, .f32⟩
  | .hbm, ⟨23, _⟩ => ⟨S64x512, .f32⟩
  | .hbm, ⟨24, _⟩ => ⟨S1x64x256, .f32⟩
  | .hbm, ⟨25, _⟩ => ⟨S64x256, .f32⟩
  | .hbm, ⟨26, _⟩ => ⟨S64x512, .f32⟩
  | .hbm, ⟨27, _⟩ => ⟨S128x512, .f32⟩
  | .hbm, ⟨28, _⟩ => ⟨S1x64x256, .f32⟩
  | .hbm, ⟨29, _⟩ => ⟨S64x256, .f32⟩
  | .hbm, ⟨30, _⟩ => ⟨S64x512, .f32⟩
  | .hbm, ⟨31, _⟩ => ⟨S1x64x256, .f32⟩
  | .hbm, ⟨32, _⟩ => ⟨S64x256, .f32⟩
  | .hbm, ⟨33, _⟩ => ⟨S64x512, .f32⟩
  | .hbm, ⟨34, _⟩ => ⟨S128x512, .f32⟩
  | .hbm, ⟨35, _⟩ => ⟨S1x64x256, .f32⟩
  | .hbm, ⟨36, _⟩ => ⟨S64x256, .f32⟩
  | .hbm, ⟨37, _⟩ => ⟨S64x512, .f32⟩
  | .hbm, ⟨38, _⟩ => ⟨S1x64x256, .f32⟩
  | .hbm, ⟨39, _⟩ => ⟨S64x256, .f32⟩
  | .hbm, ⟨40, _⟩ => ⟨S64x512, .f32⟩
  | .hbm, ⟨41, _⟩ => ⟨S128x512, .f32⟩
  | .hbm, ⟨42, _⟩ => ⟨S1x64x256, .f32⟩
  | .hbm, ⟨43, _⟩ => ⟨S64x256, .f32⟩
  | .hbm, ⟨44, _⟩ => ⟨S64x512, .f32⟩
  | .hbm, ⟨45, _⟩ => ⟨S1x64x256, .f32⟩
  | .hbm, ⟨46, _⟩ => ⟨S64x256, .f32⟩
  | .hbm, ⟨47, _⟩ => ⟨S64x512, .f32⟩
  | .hbm, ⟨48, _⟩ => ⟨S128x512, .f32⟩
  | .hbm, ⟨49, _⟩ => ⟨S1x128x512, .f32⟩
  | .hbm, ⟨50, _⟩ => ⟨S1x128x512, .f32⟩
  | .hbm, ⟨51, _⟩ => ⟨S1x128x512, .f32⟩
  | .hbm, ⟨52, _⟩ => ⟨S1x128x512, .f32⟩
  | .hbm, ⟨53, _⟩ => ⟨S4x128x512, .f32⟩
  | .hbm, ⟨54, _⟩ => ⟨S4x128x512, .bf16⟩
  | .hbm, ⟨55, _⟩ => ⟨S8x256x64, .f32⟩
  | .hbm, ⟨56, _⟩ => ⟨S1x256x64, .f32⟩
  | .hbm, ⟨57, _⟩ => ⟨S256x64, .f32⟩
  | .hbm, ⟨58, _⟩ => ⟨S_, .f32⟩
  | .hbm, ⟨59, _⟩ => ⟨S256x64, .f32⟩
  | .hbm, ⟨60, _⟩ => ⟨S1x256x64, .f32⟩
  | .hbm, ⟨61, _⟩ => ⟨S256x64, .f32⟩
  | .hbm, ⟨62, _⟩ => ⟨S256x128, .f32⟩
  | .hbm, ⟨63, _⟩ => ⟨S1x256x64, .f32⟩
  | .hbm, ⟨64, _⟩ => ⟨S256x64, .f32⟩
  | .hbm, ⟨65, _⟩ => ⟨S256x128, .f32⟩
  | .hbm, ⟨66, _⟩ => ⟨S1x256x64, .f32⟩
  | .hbm, ⟨67, _⟩ => ⟨S256x64, .f32⟩
  | .hbm, ⟨68, _⟩ => ⟨S256x128, .f32⟩
  | .hbm, ⟨69, _⟩ => ⟨S1x256x64, .f32⟩
  | .hbm, ⟨70, _⟩ => ⟨S256x64, .f32⟩
  | .hbm, ⟨71, _⟩ => ⟨S256x128, .f32⟩
  | .hbm, ⟨72, _⟩ => ⟨S1x256x64, .f32⟩
  | .hbm, ⟨73, _⟩ => ⟨S256x64, .f32⟩
  | .hbm, ⟨74, _⟩ => ⟨S256x128, .f32⟩
  | .hbm, ⟨75, _⟩ => ⟨S1x256x64, .f32⟩
  | .hbm, ⟨76, _⟩ => ⟨S256x64, .f32⟩
  | .hbm, ⟨77, _⟩ => ⟨S256x128, .f32⟩
  | .hbm, ⟨78, _⟩ => ⟨S1x256x64, .f32⟩
  | .hbm, ⟨79, _⟩ => ⟨S256x64, .f32⟩
  | .hbm, ⟨80, _⟩ => ⟨S256x128, .f32⟩
  | .hbm, ⟨81, _⟩ => ⟨S1x256x64, .f32⟩
  | .hbm, ⟨82, _⟩ => ⟨S256x64, .f32⟩
  | .hbm, ⟨83, _⟩ => ⟨S256x128, .f32⟩
  | .hbm, ⟨84, _⟩ => ⟨S1x256x128, .f32⟩
  | .hbm, ⟨85, _⟩ => ⟨S1x256x128, .f32⟩
  | .hbm, ⟨86, _⟩ => ⟨S1x256x128, .f32⟩
  | .hbm, ⟨87, _⟩ => ⟨S1x256x128, .f32⟩
  | .hbm, ⟨88, _⟩ => ⟨S1x256x128, .f32⟩
  | .hbm, ⟨89, _⟩ => ⟨S1x256x128, .f32⟩
  | .hbm, ⟨90, _⟩ => ⟨S1x256x128, .f32⟩
  | .hbm, ⟨91, _⟩ => ⟨S1x256x128, .f32⟩
  | .hbm, ⟨92, _⟩ => ⟨S8x256x128, .f32⟩
  | .hbm, ⟨93, _⟩ => ⟨S8x256x128, .bf16⟩
  | .hbm, ⟨94, _⟩ => ⟨S8x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x2048x256, .f32⟩
  | .local _ .vmem, ⟨5, _⟩ => ⟨S1x2048x256, .f32⟩
  | .local _ .vmem, ⟨6, _⟩ => ⟨S1x2048x128, .bf16⟩
  | .local _ .vmem, ⟨7, _⟩ => ⟨S1x2048x128, .bf16⟩
  | .local _ .vmem, ⟨8, _⟩ => ⟨S4x128x512, .bf16⟩
  | .local _ .vmem, ⟨9, _⟩ => ⟨S8x256x128, .bf16⟩
  | .local _ .vmem, ⟨10, _⟩ => ⟨S1x128x512, .bf16⟩
  | .local _ .vmem, ⟨11, _⟩ => ⟨S1x128x512, .bf16⟩
  | .local _ .vmem, ⟨12, _⟩ => ⟨S1024x256, .bf16⟩
  | .local _ .vmem, ⟨13, _⟩ => ⟨S1024x128, .bf16⟩
  | .local _ .vmem, ⟨14, _⟩ => ⟨S2048x256, .bf16⟩
  | .local _ .vmem, ⟨15, _⟩ => ⟨S2048x128, .bf16⟩
  | .local _ .vmem, ⟨16, _⟩ => ⟨S1024x1, .f32⟩
  | .local _ .vmem, ⟨17, _⟩ => ⟨S1024x1, .f32⟩
  | .local _ .vmem, ⟨18, _⟩ => ⟨S1024x256, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_83 : BitVec 32 := 0#32
  let arg1 : BitVec 32 := BitVec.ofNat 32 (i 1).val
  let c1_i32 : BitVec 32 := 1#32
  let v167 : BitVec 32 := Scalar.addi arg1 c1_i32
  let c128_i32_72 : BitVec 32 := 128#32
  let v168 : BitVec 32 := Scalar.muli v167 c128_i32_72
  let c512_i32 : BitVec 32 := 512#32
  let v169 : BitVec 32 := Scalar.addi v168 c512_i32
  let c1_i32_73 : BitVec 32 := 1#32
  let v170 : BitVec 32 := Scalar.subi v169 c1_i32_73
  let c0_i32_75 : BitVec 32 := 0#32
  let v172 : BitVec 1 := Scalar.cmpi .sgt v170 c0_i32_75
  let v173 : BitVec 32 := Scalar.extui v172
  let c0_i32_76 : BitVec 32 := 0#32
  let v174 : BitVec 1 := Scalar.cmpi .slt v170 c0_i32_76
  let v175 : BitVec 32 := Scalar.extui v174
  let v176 : BitVec 32 := Scalar.subi v173 v175
  let c512_i32_74 : BitVec 32 := 512#32
  let c0_i32_77 : BitVec 32 := 0#32
  let v177 : BitVec 1 := Scalar.cmpi .sgt c512_i32_74 c0_i32_77
  let v178 : BitVec 32 := Scalar.extui v177
  let c0_i32_78 : BitVec 32 := 0#32
  let v179 : BitVec 1 := Scalar.cmpi .slt c512_i32_74 c0_i32_78
  let v180 : BitVec 32 := Scalar.extui v179
  let v181 : BitVec 32 := Scalar.subi v178 v180
  let v182 : BitVec 1 := Scalar.cmpi .ne v176 v181
  let v183 : BitVec 32 := Scalar.remsi v170 c512_i32_74
  let c0_i32_79 : BitVec 32 := 0#32
  let v184 : BitVec 1 := Scalar.cmpi .ne v183 c0_i32_79
  let v185 : BitVec 1 := Scalar.andi v182 v184
  let v171 : BitVec 32 := Scalar.divsi v170 c512_i32_74
  let c1_i32_80 : BitVec 32 := 1#32
  let v186 : BitVec 32 := Scalar.subi v171 c1_i32_80
  let v187 : BitVec 32 := Scalar.select v185 v186 v171
  let v195 : BitVec 32 := Scalar.subi v187 c0_i32_83
  let c1_i32_84 : BitVec 32 := 1#32
  let v197 : BitVec 32 := Scalar.divsi v195 c1_i32_84
  let v198 : BitVec 32 := Scalar.muli v197 c1_i32_84
  let v199 : BitVec 32 := Scalar.addi c0_i32_83 v198
  let c1_i32_85 : BitVec 32 := 1#32
  ⟨c0_i32_83, v199, c1_i32_85⟩
def k0_mult1 (i : grid0.Coords) (k0_t1 : Fin (k0_t1_loop i).trips) : BitVec 32 :=
  let c0_i32_83 : BitVec 32 := 0#32
  let c1_i32_85 : BitVec 32 := 1#32
  let arg16 : BitVec 32 := Scf.iv c0_i32_83 c1_i32_85 k0_t1
  let c512_i32_167 : BitVec 32 := 512#32
  let v300 : BitVec 32 := Scalar.muli arg16 c512_i32_167
  v300
def k0_off1 (i : grid0.Coords) (k0_t1 : Fin (k0_t1_loop i).trips) : Fin 2 → Nat :=
  let c0_i32_83 : BitVec 32 := 0#32
  let c1_i32_85 : BitVec 32 := 1#32
  let arg16 : BitVec 32 := Scf.iv c0_i32_83 c1_i32_85 k0_t1
  let c512_i32_167 : BitVec 32 := 512#32
  let v300 : BitVec 32 := Scalar.muli arg16 c512_i32_167
  let v301 : BitVec 32 := v300
  let v303 : Index := Scalar.indexCast v301
  let c0_170 : Index := 0#32
  ![v303.toNat, 0]
def k0_off2 (i : grid0.Coords) (k0_t1 : Fin (k0_t1_loop i).trips) : Fin 2 → Nat :=
  let c0_i32_83 : BitVec 32 := 0#32
  let c1_i32_85 : BitVec 32 := 1#32
  let arg16 : BitVec 32 := Scf.iv c0_i32_83 c1_i32_85 k0_t1
  let c512_i32_167 : BitVec 32 := 512#32
  let v300 : BitVec 32 := Scalar.muli arg16 c512_i32_167
  let v301 : BitVec 32 := v300
  let v307 : Index := Scalar.indexCast v301
  let c0_174 : Index := 0#32
  ![v307.toNat, 0]
@[reducible] def k0_t2_loop (i : grid0.Coords) : Scf.Loop 32 :=
  let c0_i32_83 : BitVec 32 := 0#32
  let arg1 : BitVec 32 := BitVec.ofNat 32 (i 1).val
  let c1_i32 : BitVec 32 := 1#32
  let v167 : BitVec 32 := Scalar.addi arg1 c1_i32
  let c128_i32_72 : BitVec 32 := 128#32
  let v168 : BitVec 32 := Scalar.muli v167 c128_i32_72
  let c512_i32 : BitVec 32 := 512#32
  let v169 : BitVec 32 := Scalar.addi v168 c512_i32
  let c1_i32_73 : BitVec 32 := 1#32
  let v170 : BitVec 32 := Scalar.subi v169 c1_i32_73
  let c0_i32_75 : BitVec 32 := 0#32
  let v172 : BitVec 1 := Scalar.cmpi .sgt v170 c0_i32_75
  let v173 : BitVec 32 := Scalar.extui v172
  let c0_i32_76 : BitVec 32 := 0#32
  let v174 : BitVec 1 := Scalar.cmpi .slt v170 c0_i32_76
  let v175 : BitVec 32 := Scalar.extui v174
  let v176 : BitVec 32 := Scalar.subi v173 v175
  let c512_i32_74 : BitVec 32 := 512#32
  let c0_i32_77 : BitVec 32 := 0#32
  let v177 : BitVec 1 := Scalar.cmpi .sgt c512_i32_74 c0_i32_77
  let v178 : BitVec 32 := Scalar.extui v177
  let c0_i32_78 : BitVec 32 := 0#32
  let v179 : BitVec 1 := Scalar.cmpi .slt c512_i32_74 c0_i32_78
  let v180 : BitVec 32 := Scalar.extui v179
  let v181 : BitVec 32 := Scalar.subi v178 v180
  let v182 : BitVec 1 := Scalar.cmpi .ne v176 v181
  let v183 : BitVec 32 := Scalar.remsi v170 c512_i32_74
  let c0_i32_79 : BitVec 32 := 0#32
  let v184 : BitVec 1 := Scalar.cmpi .ne v183 c0_i32_79
  let v185 : BitVec 1 := Scalar.andi v182 v184
  let v171 : BitVec 32 := Scalar.divsi v170 c512_i32_74
  let c1_i32_80 : BitVec 32 := 1#32
  let v186 : BitVec 32 := Scalar.subi v171 c1_i32_80
  let v187 : BitVec 32 := Scalar.select v185 v186 v171
  let v195 : BitVec 32 := Scalar.subi v187 c0_i32_83
  let c1_i32_84 : BitVec 32 := 1#32
  let v197 : BitVec 32 := Scalar.divsi v195 c1_i32_84
  let v198 : BitVec 32 := Scalar.muli v197 c1_i32_84
  let v199 : BitVec 32 := Scalar.addi c0_i32_83 v198
  let v196 : BitVec 32 := Scalar.addi c0_i32_83 v195
  let c1_i32_86 : BitVec 32 := 1#32
  ⟨v199, v196, c1_i32_86⟩
def k0_mult2 (i : grid0.Coords) (k0_t2 : Fin (k0_t2_loop i).trips) : BitVec 32 :=
  let c0_i32_83 : BitVec 32 := 0#32
  let arg1 : BitVec 32 := BitVec.ofNat 32 (i 1).val
  let c1_i32 : BitVec 32 := 1#32
  let v167 : BitVec 32 := Scalar.addi arg1 c1_i32
  let c128_i32_72 : BitVec 32 := 128#32
  let v168 : BitVec 32 := Scalar.muli v167 c128_i32_72
  let c512_i32 : BitVec 32 := 512#32
  let v169 : BitVec 32 := Scalar.addi v168 c512_i32
  let c1_i32_73 : BitVec 32 := 1#32
  let v170 : BitVec 32 := Scalar.subi v169 c1_i32_73
  let c0_i32_75 : BitVec 32 := 0#32
  let v172 : BitVec 1 := Scalar.cmpi .sgt v170 c0_i32_75
  let v173 : BitVec 32 := Scalar.extui v172
  let c0_i32_76 : BitVec 32 := 0#32
  let v174 : BitVec 1 := Scalar.cmpi .slt v170 c0_i32_76
  let v175 : BitVec 32 := Scalar.extui v174
  let v176 : BitVec 32 := Scalar.subi v173 v175
  let c512_i32_74 : BitVec 32 := 512#32
  let c0_i32_77 : BitVec 32 := 0#32
  let v177 : BitVec 1 := Scalar.cmpi .sgt c512_i32_74 c0_i32_77
  let v178 : BitVec 32 := Scalar.extui v177
  let c0_i32_78 : BitVec 32 := 0#32
  let v179 : BitVec 1 := Scalar.cmpi .slt c512_i32_74 c0_i32_78
  let v180 : BitVec 32 := Scalar.extui v179
  let v181 : BitVec 32 := Scalar.subi v178 v180
  let v182 : BitVec 1 := Scalar.cmpi .ne v176 v181
  let v183 : BitVec 32 := Scalar.remsi v170 c512_i32_74
  let c0_i32_79 : BitVec 32 := 0#32
  let v184 : BitVec 1 := Scalar.cmpi .ne v183 c0_i32_79
  let v185 : BitVec 1 := Scalar.andi v182 v184
  let v171 : BitVec 32 := Scalar.divsi v170 c512_i32_74
  let c1_i32_80 : BitVec 32 := 1#32
  let v186 : BitVec 32 := Scalar.subi v171 c1_i32_80
  let v187 : BitVec 32 := Scalar.select v185 v186 v171
  let v195 : BitVec 32 := Scalar.subi v187 c0_i32_83
  let c1_i32_84 : BitVec 32 := 1#32
  let v197 : BitVec 32 := Scalar.divsi v195 c1_i32_84
  let v198 : BitVec 32 := Scalar.muli v197 c1_i32_84
  let v199 : BitVec 32 := Scalar.addi c0_i32_83 v198
  let c1_i32_86 : BitVec 32 := 1#32
  let arg16 : BitVec 32 := Scf.iv v199 c1_i32_86 k0_t2
  let c512_i32_167 : BitVec 32 := 512#32
  let v300 : BitVec 32 := Scalar.muli arg16 c512_i32_167
  v300
def k0_off3 (i : grid0.Coords) (k0_t2 : Fin (k0_t2_loop i).trips) : Fin 2 → Nat :=
  let c0_i32_83 : BitVec 32 := 0#32
  let arg1 : BitVec 32 := BitVec.ofNat 32 (i 1).val
  let c1_i32 : BitVec 32 := 1#32
  let v167 : BitVec 32 := Scalar.addi arg1 c1_i32
  let c128_i32_72 : BitVec 32 := 128#32
  let v168 : BitVec 32 := Scalar.muli v167 c128_i32_72
  let c512_i32 : BitVec 32 := 512#32
  let v169 : BitVec 32 := Scalar.addi v168 c512_i32
  let c1_i32_73 : BitVec 32 := 1#32
  let v170 : BitVec 32 := Scalar.subi v169 c1_i32_73
  let c0_i32_75 : BitVec 32 := 0#32
  let v172 : BitVec 1 := Scalar.cmpi .sgt v170 c0_i32_75
  let v173 : BitVec 32 := Scalar.extui v172
  let c0_i32_76 : BitVec 32 := 0#32
  let v174 : BitVec 1 := Scalar.cmpi .slt v170 c0_i32_76
  let v175 : BitVec 32 := Scalar.extui v174
  let v176 : BitVec 32 := Scalar.subi v173 v175
  let c512_i32_74 : BitVec 32 := 512#32
  let c0_i32_77 : BitVec 32 := 0#32
  let v177 : BitVec 1 := Scalar.cmpi .sgt c512_i32_74 c0_i32_77
  let v178 : BitVec 32 := Scalar.extui v177
  let c0_i32_78 : BitVec 32 := 0#32
  let v179 : BitVec 1 := Scalar.cmpi .slt c512_i32_74 c0_i32_78
  let v180 : BitVec 32 := Scalar.extui v179
  let v181 : BitVec 32 := Scalar.subi v178 v180
  let v182 : BitVec 1 := Scalar.cmpi .ne v176 v181
  let v183 : BitVec 32 := Scalar.remsi v170 c512_i32_74
  let c0_i32_79 : BitVec 32 := 0#32
  let v184 : BitVec 1 := Scalar.cmpi .ne v183 c0_i32_79
  let v185 : BitVec 1 := Scalar.andi v182 v184
  let v171 : BitVec 32 := Scalar.divsi v170 c512_i32_74
  let c1_i32_80 : BitVec 32 := 1#32
  let v186 : BitVec 32 := Scalar.subi v171 c1_i32_80
  let v187 : BitVec 32 := Scalar.select v185 v186 v171
  let v195 : BitVec 32 := Scalar.subi v187 c0_i32_83
  let c1_i32_84 : BitVec 32 := 1#32
  let v197 : BitVec 32 := Scalar.divsi v195 c1_i32_84
  let v198 : BitVec 32 := Scalar.muli v197 c1_i32_84
  let v199 : BitVec 32 := Scalar.addi c0_i32_83 v198
  let c1_i32_86 : BitVec 32 := 1#32
  let arg16 : BitVec 32 := Scf.iv v199 c1_i32_86 k0_t2
  let c512_i32_167 : BitVec 32 := 512#32
  let v300 : BitVec 32 := Scalar.muli arg16 c512_i32_167
  let v301 : BitVec 32 := v300
  let v303 : Index := Scalar.indexCast v301
  let c0_170 : Index := 0#32
  ![v303.toNat, 0]
def k0_off4 (i : grid0.Coords) (k0_t2 : Fin (k0_t2_loop i).trips) : Fin 2 → Nat :=
  let c0_i32_83 : BitVec 32 := 0#32
  let arg1 : BitVec 32 := BitVec.ofNat 32 (i 1).val
  let c1_i32 : BitVec 32 := 1#32
  let v167 : BitVec 32 := Scalar.addi arg1 c1_i32
  let c128_i32_72 : BitVec 32 := 128#32
  let v168 : BitVec 32 := Scalar.muli v167 c128_i32_72
  let c512_i32 : BitVec 32 := 512#32
  let v169 : BitVec 32 := Scalar.addi v168 c512_i32
  let c1_i32_73 : BitVec 32 := 1#32
  let v170 : BitVec 32 := Scalar.subi v169 c1_i32_73
  let c0_i32_75 : BitVec 32 := 0#32
  let v172 : BitVec 1 := Scalar.cmpi .sgt v170 c0_i32_75
  let v173 : BitVec 32 := Scalar.extui v172
  let c0_i32_76 : BitVec 32 := 0#32
  let v174 : BitVec 1 := Scalar.cmpi .slt v170 c0_i32_76
  let v175 : BitVec 32 := Scalar.extui v174
  let v176 : BitVec 32 := Scalar.subi v173 v175
  let c512_i32_74 : BitVec 32 := 512#32
  let c0_i32_77 : BitVec 32 := 0#32
  let v177 : BitVec 1 := Scalar.cmpi .sgt c512_i32_74 c0_i32_77
  let v178 : BitVec 32 := Scalar.extui v177
  let c0_i32_78 : BitVec 32 := 0#32
  let v179 : BitVec 1 := Scalar.cmpi .slt c512_i32_74 c0_i32_78
  let v180 : BitVec 32 := Scalar.extui v179
  let v181 : BitVec 32 := Scalar.subi v178 v180
  let v182 : BitVec 1 := Scalar.cmpi .ne v176 v181
  let v183 : BitVec 32 := Scalar.remsi v170 c512_i32_74
  let c0_i32_79 : BitVec 32 := 0#32
  let v184 : BitVec 1 := Scalar.cmpi .ne v183 c0_i32_79
  let v185 : BitVec 1 := Scalar.andi v182 v184
  let v171 : BitVec 32 := Scalar.divsi v170 c512_i32_74
  let c1_i32_80 : BitVec 32 := 1#32
  let v186 : BitVec 32 := Scalar.subi v171 c1_i32_80
  let v187 : BitVec 32 := Scalar.select v185 v186 v171
  let v195 : BitVec 32 := Scalar.subi v187 c0_i32_83
  let c1_i32_84 : BitVec 32 := 1#32
  let v197 : BitVec 32 := Scalar.divsi v195 c1_i32_84
  let v198 : BitVec 32 := Scalar.muli v197 c1_i32_84
  let v199 : BitVec 32 := Scalar.addi c0_i32_83 v198
  let c1_i32_86 : BitVec 32 := 1#32
  let arg16 : BitVec 32 := Scf.iv v199 c1_i32_86 k0_t2
  let c512_i32_167 : BitVec 32 := 512#32
  let v300 : BitVec 32 := Scalar.muli arg16 c512_i32_167
  let v301 : BitVec 32 := v300
  let v307 : Index := Scalar.indexCast v301
  let c0_174 : Index := 0#32
  ![v307.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x512 : Shape := ⟨3, ![8, 2048, 512]⟩
abbrev S8x2048x256 : Shape := ⟨3, ![8, 2048, 256]⟩
abbrev S8x2048x32 : Shape := ⟨3, ![8, 2048, 32]⟩
abbrev S256x8x64 : Shape := ⟨3, ![256, 8, 64]⟩
abbrev S8x2048x8x64 : Shape := ⟨4, ![8, 2048, 8, 64]⟩
abbrev S8x2048x8x32 : Shape := ⟨4, ![8, 2048, 8, 32]⟩
abbrev S8x256x8x2048 : Shape := ⟨4, ![8, 256, 8, 2048]⟩
abbrev S8x2048x8x256 : Shape := ⟨4, ![8, 2048, 8, 256]⟩
abbrev S8x2048x2048x8 : Shape := ⟨4, ![8, 2048, 2048, 8]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x64x8x2048 : Shape := ⟨4, ![8, 64, 8, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x256, .f32⟩
  | .hbm, ⟨2, _⟩ => ⟨S8x2048x256, .f32⟩
  | .hbm, ⟨3, _⟩ => ⟨S8x2048x32, .f32⟩
  | .hbm, ⟨4, _⟩ => ⟨S256x8x64, .f32⟩
  | .hbm, ⟨5, _⟩ => ⟨S256x8x64, .f32⟩
  | .hbm, ⟨6, _⟩ => ⟨S8x2048x8x64, .f32⟩
  | .hbm, ⟨7, _⟩ => ⟨S8x2048x8x32, .f32⟩
  | .hbm, ⟨8, _⟩ => ⟨S8x256x8x2048, .f32⟩
  | .hbm, ⟨9, _⟩ => ⟨S8x2048x8x256, .f32⟩
  | .hbm, ⟨10, _⟩ => ⟨S8x2048x2048x8, .f32⟩
  | .hbm, ⟨11, _⟩ => ⟨S8x8x2048x2048, .f32⟩
  | .hbm, ⟨12, _⟩ => ⟨S8x2048x2048x8, .f32⟩
  | .hbm, ⟨13, _⟩ => ⟨S8x8x2048x2048, .f32⟩
  | .hbm, ⟨14, _⟩ => ⟨S8x8x2048x2048, .f32⟩
  | .hbm, ⟨15, _⟩ => ⟨S_, .f32⟩
  | .hbm, ⟨16, _⟩ => ⟨S8x8x2048x2048, .f32⟩
  | .hbm, ⟨17, _⟩ => ⟨S8x8x2048x2048, .f32⟩
  | .hbm, ⟨18, _⟩ => ⟨S2048, .i32⟩
  | .hbm, ⟨19, _⟩ => ⟨S1x2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S8x8x2048x2048, .i1⟩
  | .hbm, ⟨27, _⟩ => ⟨S8x8x2048x2048, .f32⟩
  | .hbm, ⟨28, _⟩ => ⟨S8x8x2048x2048, .f32⟩
  | .hbm, ⟨29, _⟩ => ⟨S_, .f32⟩
  | .hbm, ⟨30, _⟩ => ⟨S8x8x2048, .f32⟩
  | .hbm, ⟨31, _⟩ => ⟨S_, .f32⟩
  | .hbm, ⟨32, _⟩ => ⟨S8x8x2048, .f32⟩
  | .hbm, ⟨33, _⟩ => ⟨S8x8x2048, .f32⟩
  | .hbm, ⟨34, _⟩ => ⟨S8x8x2048x1, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S_, .f32⟩
  | .hbm, ⟨39, _⟩ => ⟨S8x8x2048, .f32⟩
  | .hbm, ⟨40, _⟩ => ⟨S8x8x2048x1, .f32⟩
  | .hbm, ⟨41, _⟩ => ⟨S8x8x2048x2048, .f32⟩
  | .hbm, ⟨42, _⟩ => ⟨S8x8x2048x2048, .f32⟩
  | .hbm, ⟨43, _⟩ => ⟨S8x256x8x2048, .f32⟩
  | .hbm, ⟨44, _⟩ => ⟨S8x2048x8x256, .f32⟩
  | .hbm, ⟨45, _⟩ => ⟨S8x64x8x2048, .f32⟩
  | .hbm, ⟨46, _⟩ => ⟨S8x2048x8x64, .f32⟩
  | .hbm, ⟨47, _⟩ => ⟨S8x2048x512, .f32⟩
  | .hbm, ⟨48, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Post.lean ====
abbrev S8x2048x512 : Shape := ⟨3, ![8, 2048, 512]⟩
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x512 : Shape := ⟨2, ![16384, 512]⟩
abbrev S16384x1024 : Shape := ⟨2, ![16384, 1024]⟩
abbrev S8x1x6144 : Shape := ⟨3, ![8, 1, 6144]⟩
abbrev S512x1024 : Shape := ⟨2, ![512, 1024]⟩
abbrev S1x1024 : Shape := ⟨2, ![1, 1024]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 23
  | .vmem => 22
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024x1024, .bf16⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S16384x1024, .f32⟩
  | .hbm, ⟨15, _⟩ => ⟨S8x1x6144, .f32⟩
  | .hbm, ⟨16, _⟩ => ⟨S512x1024, .bf16⟩
  | .hbm, ⟨17, _⟩ => ⟨S512x1024, .bf16⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostReferenceIdeal.lean ====
abbrev S8x2048x512 : Shape := ⟨3, ![8, 2048, 512]⟩
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x1024, .f32⟩
  | .hbm, ⟨3, _⟩ => ⟨S8x6144, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S8x2048x1024, .f32⟩
  | .hbm, ⟨10, _⟩ => ⟨S8x2048x1024, .f32⟩
  | .hbm, ⟨11, _⟩ => ⟨S8x1x6144, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x4096, .f32⟩
  | .hbm, ⟨45, _⟩ => ⟨S_, .f32⟩
  | .hbm, ⟨46, _⟩ => ⟨S8x2048x4096, .f32⟩
  | .hbm, ⟨47, _⟩ => ⟨S8x2048x4096, .f32⟩
  | .hbm, ⟨48, _⟩ => ⟨S8x2048x4096, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S16384x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== PostFinal.lean ====
abbrev S8x2048x2x8x64 : Shape := ⟨5, ![8, 2048, 2, 8, 64]⟩
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16 : Shape := ⟨1, ![16]⟩
abbrev S8x2048x8x2x64 : Shape := ⟨5, ![8, 2048, 8, 2, 64]⟩
abbrev S16384x1024 : Shape := ⟨2, ![16384, 1024]⟩
abbrev S16x64x1024 : Shape := ⟨3, ![16, 64, 1024]⟩
abbrev S_ : Shape := ⟨0, ![]⟩
abbrev S16x1 : Shape := ⟨2, ![16, 1]⟩
abbrev S8x1x6144 : Shape := ⟨3, ![8, 1, 6144]⟩
abbrev S512x1024 : Shape := ⟨2, ![512, 1024]⟩
abbrev S1x1024 : Shape := ⟨2, ![1, 1024]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 33
  | .vmem => 22
  | .smem => 0
  | _ => 0

abbrev bufTy : (tb : Table) → Fin (tcTables nBuf tb) → BufTy
  | .hbm, ⟨0, _⟩ => ⟨S8x2048x2x8x64, .f32⟩
  | .hbm, ⟨1, _⟩ => ⟨S8x2048x1024, .f32⟩
  | .hbm, ⟨2, _⟩ => ⟨S8x6144, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16, .i32⟩
  | .hbm, ⟨9, _⟩ => ⟨S8x2048x8x2x64, .f32⟩
  | .hbm, ⟨10, _⟩ => ⟨S16384x1024, .f32⟩
  | .hbm, ⟨11, _⟩ => ⟨S16384x1024, .bf16⟩
  | .hbm, ⟨12, _⟩ => ⟨S16x64x1024, .f32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S16x64x1024, .f32⟩
  | .hbm, ⟨22, _⟩ => ⟨S1024x1024, .f32⟩
  | .hbm, ⟨23, _⟩ => ⟨S1024x1024, .bf16⟩
  | .hbm, ⟨24, _⟩ => ⟨S16384x1024, .f32⟩
  | .hbm, ⟨25, _⟩ => ⟨S8x1x6144, .f32⟩
  | .hbm, ⟨26, _⟩ => ⟨S512x1024, .bf16⟩
  | .hbm, ⟨27, _⟩ => ⟨S512x1024, .bf16⟩
  | .hbm, ⟨28, _⟩ => ⟨S1024x4096, .bf16⟩
  | .hbm, ⟨29, _⟩ => ⟨S4096x1024, .bf16⟩
  | .hbm, ⟨30, _⟩ => ⟨S1x1024, .f32⟩
  | .hbm, ⟨31, _⟩ => ⟨S1x1024, .f32⟩
  | .hbm, ⟨32, _⟩ => ⟨S16384x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | _, _ => ⟨S8x2048x2x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostFinalReferenceIdeal.lean ====
abbrev S8x2048x2x8x64 : Shape := ⟨5, ![8, 2048, 2, 8, 64]⟩
abbrev S8x2048x1024 : Shape := ⟨3, ![8, 2048, 1024]⟩
abbrev S8x6144 : Shape := ⟨2, ![8, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x2048x2x8x64, .f32⟩
  | .hbm, ⟨1, _⟩ => ⟨S8x2048x1024, .f32⟩
  | .hbm, ⟨2, _⟩ => ⟨S8x6144, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S8x2048x1024, .f32⟩
  | .hbm, ⟨9, _⟩ => ⟨S8x2048x1024, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x4096, .f32⟩
  | .hbm, ⟨44, _⟩ => ⟨S_, .f32⟩
  | .hbm, ⟨45, _⟩ => ⟨S8x2048x4096, .f32⟩
  | .hbm, ⟨46, _⟩ => ⟨S8x2048x4096, .f32⟩
  | .hbm, ⟨47, _⟩ => ⟨S8x2048x4096, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S16384x1024, .f32⟩
  | _, _ => ⟨S8x2048x2x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Proj.lean ====
abbrev S8x2048x1024 : Shape := ⟨3, ![8, 2048, 1024]⟩
abbrev S8x6144 : Shape := ⟨2, ![8, 6144]⟩
abbrev S1024 : Shape := ⟨1, ![1024]⟩
abbrev S1024x1864 : Shape := ⟨2, ![1024, 1864]⟩
abbrev S16 : Shape := ⟨1, ![16]⟩
abbrev S16384x1024 : Shape := ⟨2, ![16384, 1024]⟩
abbrev S8x1x6144 : Shape := ⟨3, ![8, 1, 6144]⟩
abbrev S1024x1024 : Shape := ⟨2, ![1024, 1024]⟩
abbrev S1024x16x64 : Shape := ⟨3, ![1024, 16, 64]⟩
abbrev S_ : Shape := ⟨0, ![]⟩
abbrev S16x1 : Shape := ⟨2, ![16, 1]⟩
abbrev S1024x128 : Shape := ⟨2, ![1024, 128]⟩
abbrev S1024x512 : Shape := ⟨2, ![1024, 512]⟩
abbrev S1024x8 : Shape := ⟨2, ![1024, 8]⟩
abbrev S1024x64 : Shape := ⟨2, ![1024, 64]⟩
abbrev S1024x120 : Shape := ⟨2, ![1024, 120]⟩
abbrev S1024x2048 : Shape := ⟨2, ![1024, 2048]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1024 : Shape := ⟨2, ![1, 1024]⟩
abbrev S16384x128 : Shape := ⟨2, ![16384, 128]⟩
abbrev S16384x512 : Shape := ⟨2, ![16384, 512]⟩
abbrev S16384x64 : Shape := ⟨2, ![16384, 64]⟩
abbrev S256x1024 : Shape := ⟨2, ![256, 1024]⟩
abbrev S1x1x1024 : Shape := ⟨3, ![1, 1, 1024]⟩
abbrev S256x128 : Shape := ⟨2, ![256, 128]⟩
abbrev S256x512 : Shape := ⟨2, ![256, 512]⟩
abbrev S256x64 : Shape := ⟨2, ![256, 64]⟩
abbrev S256 : Shape := ⟨1, ![256]⟩
abbrev S256x1 : Shape := ⟨2, ![256, 1]⟩
abbrev S256x2048 : Shape := ⟨2, ![256, 2048]⟩

abbrev nBuf : Space → Nat
  | .hbm => 67
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x1864, .f32⟩
  | .hbm, ⟨4, _⟩ => ⟨S16, .i32⟩
  | .hbm, ⟨5, _⟩ => ⟨S16384x1024, .f32⟩
  | .hbm, ⟨6, _⟩ => ⟨S8x1x6144, .f32⟩
  | .hbm, ⟨7, _⟩ => ⟨S1024x1024, .f32⟩
  | .hbm, ⟨8, _⟩ => ⟨S1024x16x64, .f32⟩
  | .hbm, ⟨9, _⟩ => ⟨S_, .i32⟩
  | .hbm, ⟨10, _⟩ => ⟨S16, .i32⟩
  | .hbm, ⟨11, _⟩ => ⟨S16, .i1⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S16x1, .i32⟩
  | .hbm, ⟨17, _⟩ => ⟨S1024x16x64, .f32⟩
  | .hbm, ⟨18, _⟩ => ⟨S1024x1024, .f32⟩
  | .hbm, ⟨19, _⟩ => ⟨S1024x128, .f32⟩
  | .hbm, ⟨20, _⟩ => ⟨S1024x128, .f32⟩
  | .hbm, ⟨21, _⟩ => ⟨S1024x512, .f32⟩
  | .hbm, ⟨22, _⟩ => ⟨S1024x8, .f32⟩
  | .hbm, ⟨23, _⟩ => ⟨S1024x64, .f32⟩
  | .hbm, ⟨24, _⟩ => ⟨S_, .f32⟩
  | .hbm, ⟨25, _⟩ => ⟨S1024x120, .f32⟩
  | .hbm, ⟨26, _⟩ => ⟨S1024x2048, .f32⟩
  | .hbm, ⟨27, _⟩ => ⟨S1024x2048, .bf16⟩
  | .hbm, ⟨28, _⟩ => ⟨S2048, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S2048x1, .f32⟩
  | .hbm, ⟨44, _⟩ => ⟨S1x32, .f32⟩
  | .hbm, ⟨45, _⟩ => ⟨S2048x32, .f32⟩
  | .hbm, ⟨46, _⟩ => ⟨S2048x32, .f32⟩
  | .hbm, ⟨47, _⟩ => ⟨S2048x32, .f32⟩
  | .hbm, ⟨48, _⟩ => ⟨S2048x32, .f32⟩
  | .hbm, ⟨49, _⟩ => ⟨S2048x32, .f32⟩
  | .hbm, ⟨50, _⟩ => ⟨S2048x64, .f32⟩
  | .hbm, ⟨51, _⟩ => ⟨S1x2048x1x64, .f32⟩
  | .hbm, ⟨52, _⟩ => ⟨S1x2048x2x64, .f32⟩
  | .hbm, ⟨53, _⟩ => ⟨S2048x128, .f32⟩
  | .hbm, ⟨54, _⟩ => ⟨S2048x32, .f32⟩
  | .hbm, ⟨55, _⟩ => ⟨S2048x64, .f32⟩
  | .hbm, ⟨56, _⟩ => ⟨S1x2048x1x64, .f32⟩
  | .hbm, ⟨57, _⟩ => ⟨S1x2048x2x64, .f32⟩
  | .hbm, ⟨58, _⟩ => ⟨S2048x128, .f32⟩
  | .hbm, ⟨59, _⟩ => ⟨S1x1024, .f32⟩
  | .hbm, ⟨60, _⟩ => ⟨S16384x1024, .bf16⟩
  | .hbm, ⟨61, _⟩ => ⟨S16384x128, .f32⟩
  | .hbm, ⟨62, _⟩ => ⟨S16384x128, .f32⟩
  | .hbm, ⟨63, _⟩ => ⟨S16384x512, .bf16⟩
  | .hbm, ⟨64, _⟩ => ⟨S16384x64, .f32⟩
  | .hbm, ⟨65, _⟩ => ⟨S16384x128, .bf16⟩
  | .hbm, ⟨66, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x512, .bf16⟩
  | .local _ .vmem, ⟨19, _⟩ => ⟨S256x512, .bf16⟩
  | .local _ .vmem, ⟨20, _⟩ => ⟨S256x64, .f32⟩
  | .local _ .vmem, ⟨21, _⟩ => ⟨S256x64, .f32⟩
  | .local _ .vmem, ⟨22, _⟩ => ⟨S256x128, .bf16⟩
  | .local _ .vmem, ⟨23, _⟩ => ⟨S256x128, .bf16⟩
  | .local _ .vmem, ⟨24, _⟩ => ⟨S256x128, .f32⟩
  | .local _ .vmem, ⟨25, _⟩ => ⟨S256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48_0 : Ref sig .tc := ⟨.hbm, 60, rfl⟩
abbrev main_v48_1 : Ref sig .tc := ⟨.hbm, 61, rfl⟩
abbrev main_v48_2 : Ref sig .tc := ⟨.hbm, 62, rfl⟩
abbrev main_v48_3 : Ref sig .tc := ⟨.hbm, 63, rfl⟩
abbrev main_v48_4 : Ref sig .tc := ⟨.hbm, 64, rfl⟩
abbrev main_v48_5 : Ref sig .tc := ⟨.hbm, 65, rfl⟩
abbrev main_v48_6 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjReferenceIdeal.lean ====
abbrev S8x2048x1024 : Shape := ⟨3, ![8, 2048, 1024]⟩
abbrev S8x6144 : Shape := ⟨2, ![8, 6144]⟩
abbrev S1024 : Shape := ⟨1, ![1024]⟩
abbrev S1024x1864 : Shape := ⟨2, ![1024, 1864]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1864 : Shape := ⟨3, ![8, 2048, 1864]⟩
abbrev S2048 : Shape := ⟨1, ![2048]⟩
abbrev S8x2048x2x8x64 : Shape := ⟨5, ![8, 2048, 2, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x1x32 : Shape := ⟨5, ![1, 2048, 1, 1, 32]⟩
abbrev S8x2048x2x8x32 : Shape := ⟨5, ![8, 2048, 2, 8, 32]⟩
abbrev S8x2048x128 : Shape := ⟨3, ![8, 2048, 128]⟩
abbrev S8x2048x2x64 : Shape := ⟨4, ![8, 2048, 2, 64]⟩
abbrev S1x2048x1x32 : Shape := ⟨4, ![1, 2048, 1, 32]⟩
abbrev S8x2048x2x32 : Shape := ⟨4, ![8, 2048, 2, 32]⟩
abbrev S8x2048x512 : Shape := ⟨3, ![8, 2048, 512]⟩
abbrev S8x2048x8x64 : Shape := ⟨4, ![8, 2048, 8, 64]⟩
abbrev S8x2048x8x32 : Shape := ⟨4, ![8, 2048, 8, 32]⟩
abbrev S8x2048x8 : Shape := ⟨3, ![8, 2048, 8]⟩
abbrev S8x2048x64 : Shape := ⟨3, ![8, 2048, 64]⟩
abbrev S1x2048x32 : Shape := ⟨3, ![1, 2048, 32]⟩
abbrev S8x2048x32 : Shape := ⟨3, ![8, 2048, 32]⟩
abbrev S8x2048x8x2x64 : Shape := ⟨5, ![8, 2048, 8, 2, 64]⟩
abbrev S16384x1024 : Shape := ⟨2, ![16384, 1024]⟩
abbrev S16384x128 : Shape := ⟨2, ![16384, 128]⟩
abbrev S16384x512 : Shape := ⟨2, ![16384, 512]⟩
abbrev S16384x64 : Shape := ⟨2, ![16384, 64]⟩
abbrev S16384x8 : Shape := ⟨2, ![16384, 8]⟩

abbrev nBuf : Space → Nat
  | .hbm => 200
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S1024x1864, .f32⟩
  | 4 => ⟨S8x1024, .f32⟩
  | 5 => ⟨S8x1x1024, .f32⟩
  | 6 => ⟨S8x1024, .f32⟩
  | 7 => ⟨S8x1x1024, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S_, .f32⟩
  | 25 => ⟨S8x1x1024, .f32⟩
  | 26 => ⟨S8x1x1024, .f32⟩
  | 27 => ⟨S8x2048x1024, .f32⟩
  | 28 => ⟨S8x2048x1024, .f32⟩
  | 29 => ⟨S8x2048x1024, .f32⟩
  | 30 => ⟨S8x2048x1024, .f32⟩
  | 31 => ⟨S8x2048x1864, .f32⟩
  | 32 => ⟨S2048, .f32⟩
  | 33 => ⟨S8x2048x1024, .f32⟩
  | 34 => ⟨S8x2048x2x8x64, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048x1, .f32⟩
  | 50 => ⟨S1x32, .f32⟩
  | 51 => ⟨S2048x32, .f32⟩
  | 52 => ⟨S2048x32, .f32⟩
  | 53 => ⟨S2048x32, .f32⟩
  | 54 => ⟨S1x2048x1x1x32, .f32⟩
  | 55 => ⟨S1x2048x1x1x32, .f32⟩
  | 56 => ⟨S1x2048x1x1x32, .f32⟩
  | 57 => ⟨S8x2048x2x8x32, .f32⟩
  | 58 => ⟨S8x2048x2x8x32, .f32⟩
  | 59 => ⟨S8x2048x2x8x32, .f32⟩
  | 60 => ⟨S8x2048x2x8x32, .f32⟩
  | 61 => ⟨S8x2048x2x8x32, .f32⟩
  | 62 => ⟨S8x2048x2x8x32, .f32⟩
  | 63 => ⟨S8x2048x2x8x32, .f32⟩
  | 64 => ⟨S8x2048x2x8x32, .f32⟩
  | 65 => ⟨S8x2048x2x8x32, .f32⟩
  | 66 => ⟨S8x2048x2x8x32, .f32⟩
  | 67 => ⟨S8x2048x2x8x32, .f32⟩
  | 68 => ⟨S8x2048x2x8x32, .f32⟩
  | 69 => ⟨S8x2048x2x8x64, .f32⟩
  | 70 => ⟨S_, .f32⟩
  | 71 => ⟨S8x2048x2x8x64, .f32⟩
  | 72 => ⟨S8x2048x2x8x64, .f32⟩
  | 73 => ⟨S8x2048x128, .f32⟩
  | 74 => ⟨S8x2048x2x64, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S2048x1, .f32⟩
  | 90 => ⟨S1x32, .f32⟩
  | 91 => ⟨S2048x32, .f32⟩
  | 92 => ⟨S2048x32, .f32⟩
  | 93 => ⟨S2048x32, .f32⟩
  | 94 => ⟨S1x2048x1x32, .f32⟩
  | 95 => ⟨S1x2048x1x32, .f32⟩
  | 96 => ⟨S1x2048x1x32, .f32⟩
  | 97 => ⟨S8x2048x2x32, .f32⟩
  | 98 => ⟨S8x2048x2x32, .f32⟩
  | 99 => ⟨S8x2048x2x32, .f32⟩
  | 100 => ⟨S8x2048x2x32, .f32⟩
  | 101 => ⟨S8x2048x2x32, .f32⟩
  | 102 => ⟨S8x2048x2x32, .f32⟩
  | 103 => ⟨S8x2048x2x32, .f32⟩
  | 104 => ⟨S8x2048x2x32, .f32⟩
  | 105 => ⟨S8x2048x2x32, .f32⟩
  | 106 => ⟨S8x2048x2x32, .f32⟩
  | 107 => ⟨S8x2048x2x32, .f32⟩
  | 108 => ⟨S8x2048x2x32, .f32⟩
  | 109 => ⟨S8x2048x2x64, .f32⟩
  | 110 => ⟨S8x2048x128, .f32⟩
  | 111 => ⟨S8x2048x512, .f32⟩
  | 112 => ⟨S8x2048x8x64, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S2048x1, .f32⟩
  | _ => ⟨S8x2048x1024, .f32⟩

abbrev hbmTy0_1 (i : Nat) : BufTy := match i % 128 with
  | 0 => ⟨S1x32, .f32⟩
  | 1 => ⟨S2048x32, .f32⟩
  | 2 => ⟨S2048x32, .f32⟩
  | 3 => ⟨S2048x32, .f32⟩
  | 4 => ⟨S1x2048x1x32, .f32⟩
  | 5 => ⟨S1x2048x1x32, .f32⟩
  | 6 => ⟨S1x2048x1x32, .f32⟩
  | 7 => ⟨S8x2048x8x32, .f32⟩
  | 8 => ⟨S8x2048x8x32, .f32⟩
  | 9 => ⟨S8x2048x8x32, .f32⟩
  | 10 => ⟨S8x2048x8x32, .f32⟩
  | 11 => ⟨S8x2048x8x32, .f32⟩
  | 12 => ⟨S8x2048x8x32, .f32⟩
  | 13 => ⟨S8x2048x8x32, .f32⟩
  | 14 => ⟨S8x2048x8x32, .f32⟩
  | 15 => ⟨S8x2048x8x32, .f32⟩
  | 16 => ⟨S8x2048x8x32, .f32⟩
  | 17 => ⟨S8x2048x8x32, .f32⟩
  | 18 => ⟨S8x2048x8x32, .f32⟩
  | 19 => ⟨S8x2048x8x64, .f32⟩
  | 20 => ⟨S8x2048x8, .f32⟩
  | 21 => ⟨S_, .f32⟩
  | 22 => ⟨S8x2048x8, .f32⟩
  | 23 => ⟨S8x2048x8, .f32⟩
  | 24 => ⟨S8x2048x64, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S2048x1, .f32⟩
  | 40 => ⟨S1x32, .f32⟩
  | 41 => ⟨S2048x32, .f32⟩
  | 42 => ⟨S2048x32, .f32⟩
  | 43 => ⟨S2048x32, .f32⟩
  | 44 => ⟨S1x2048x32, .f32⟩
  | 45 => ⟨S1x2048x32, .f32⟩
  | 46 => ⟨S1x2048x32, .f32⟩
  | 47 => ⟨S8x2048x32, .f32⟩
  | 48 => ⟨S8x2048x32, .f32⟩
  | 49 => ⟨S8x2048x32, .f32⟩
  | 50 => ⟨S8x2048x32, .f32⟩
  | 51 => ⟨S8x2048x32, .f32⟩
  | 52 => ⟨S8x2048x32, .f32⟩
  | 53 => ⟨S8x2048x32, .f32⟩
  | 54 => ⟨S8x2048x32, .f32⟩
  | 55 => ⟨S8x2048x32, .f32⟩
  | 56 => ⟨S8x2048x32, .f32⟩
  | 57 => ⟨S8x2048x32, .f32⟩
  | 58 => ⟨S8x2048x32, .f32⟩
  | 59 => ⟨S8x2048x64, .f32⟩
  | 60 => ⟨S8x2048x8x2x64, .f32⟩
  | 61 => ⟨S16384x1024, .f32⟩
  | 62 => ⟨S16384x1024, .bf16⟩
  | 63 => ⟨S16384x128, .f32⟩
  | 64 => ⟨S16384x128, .f32⟩
  | 65 => ⟨S16384x512, .f32⟩
  | 66 => ⟨S16384x512, .bf16⟩
  | 67 => ⟨S16384x64, .f32⟩
  | 68 => ⟨S16384x8, .f32⟩
  | 69 => ⟨S_, .i32⟩
  | 70 => ⟨S_, .f32⟩
  | 71 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_cst_11 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_12 : Ref sig .tc := ⟨.hbm, 114, rfl⟩
abbrev main_v97 : Ref sig .tc := ⟨.hbm, 115, rfl⟩
abbrev main_v98 : Ref sig .tc := ⟨.hbm, 116, rfl⟩
abbrev main_cst_13 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_14 : Ref sig .tc := ⟨.hbm, 121, rfl⟩
abbrev main_v102 : Ref sig .tc := ⟨.hbm, 122, rfl⟩
abbrev main_v103 : Ref sig .tc := ⟨.hbm, 123, rfl⟩
abbrev main_cst_15 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_16 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_17 : Ref sig .tc := ⟨.hbm, 154, rfl⟩
abbrev main_v132 : Ref sig .tc := ⟨.hbm, 155, rfl⟩
abbrev main_v133 : Ref sig .tc := ⟨.hbm, 156, rfl⟩
abbrev main_cst_18 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_19 : Ref sig .tc := ⟨.hbm, 161, rfl⟩
abbrev main_v137 : Ref sig .tc := ⟨.hbm, 162, rfl⟩
abbrev main_v138 : Ref sig .tc := ⟨.hbm, 163, rfl⟩
abbrev main_cst_20 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_c : Ref sig .tc := ⟨.hbm, 197, rfl⟩
abbrev main_call0_v0 : Ref sig .tc := ⟨.hbm, 198, rfl⟩
abbrev main_v171 : Ref sig .tc := ⟨.hbm, 199, rfl⟩

abbrev nD : Nat := 1
abbrev τ : Topo := Topo.v7x

variable {F : FTy → Type} [FloatOps F]
-- ==== ProjFirst.lean ====
abbrev S8x2048x1024 : Shape := ⟨3, ![8, 2048, 1024]⟩
abbrev S8x6144 : Shape := ⟨2, ![8, 6144]⟩
abbrev S1024 : Shape := ⟨1, ![1024]⟩
abbrev S1024x1568 : Shape := ⟨2, ![1024, 1568]⟩
abbrev S256 : Shape := ⟨1, ![256]⟩
abbrev S256x768 : Shape := ⟨2, ![256, 768]⟩
abbrev S2048 : Shape := ⟨1, ![2048]⟩
abbrev S16384x1024 : Shape := ⟨2, ![16384, 1024]⟩
abbrev S8x1x6144 : Shape := ⟨3, ![8, 1, 6144]⟩
abbrev S1024x256 : Shape := ⟨2, ![1024, 256]⟩
abbrev S1024x32 : Shape := ⟨2, ![1024, 32]⟩
abbrev S1024x1024 : Shape := ⟨2, ![1024, 1024]⟩
abbrev S1024x1664 : Shape := ⟨2, ![1024, 1664]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S32 : Shape := ⟨1, ![32]⟩
abbrev S1x32 : Shape := ⟨2, ![1, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1x1024 : Shape := ⟨2, ![1, 1024]⟩
abbrev S1x256 : Shape := ⟨2, ![1, 256]⟩
abbrev S16384x512 : Shape := ⟨2, ![16384, 512]⟩
abbrev S16384x256 : Shape := ⟨2, ![16384, 256]⟩
abbrev S16384x32 : Shape := ⟨2, ![16384, 32]⟩
abbrev S16384x128 : Shape := ⟨2, ![16384, 128]⟩
abbrev S256x1024 : Shape := ⟨2, ![256, 1024]⟩
abbrev S1x1x1024 : Shape := ⟨3, ![1, 1, 1024]⟩
abbrev S256x128 : Shape := ⟨2, ![256, 128]⟩
abbrev S256x32 : Shape := ⟨2, ![256, 32]⟩
abbrev S256x1 : Shape := ⟨2, ![256, 1]⟩
abbrev S256x1664 : Shape := ⟨2, ![256, 1664]⟩

abbrev nBuf : Space → Nat
  | .hbm => 94
  | .vmem => 35
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S1024x1568, .f32⟩
  | .hbm, ⟨4, _⟩ => ⟨S256, .f32⟩
  | .hbm, ⟨5, _⟩ => ⟨S256x768, .f32⟩
  | .hbm, ⟨6, _⟩ => ⟨S256, .f32⟩
  | .hbm, ⟨7, _⟩ => ⟨S2048, .f32⟩
  | .hbm, ⟨8, _⟩ => ⟨S16384x1024, .f32⟩
  | .hbm, ⟨9, _⟩ => ⟨S8x1x6144, .f32⟩
  | .hbm, ⟨10, _⟩ => ⟨S1024x256, .f32⟩
  | .hbm, ⟨11, _⟩ => ⟨S1024x256, .f32⟩
  | .hbm, ⟨12, _⟩ => ⟨S1024x32, .f32⟩
  | .hbm, ⟨13, _⟩ => ⟨S1024x1024, .f32⟩
  | .hbm, ⟨14, _⟩ => ⟨S1024x1664, .f32⟩
  | .hbm, ⟨15, _⟩ => ⟨S1024x1664, .bf16⟩
  | .hbm, ⟨16, _⟩ => ⟨S256x8x96, .f32⟩
  | .hbm, ⟨17, _⟩ => ⟨S256x8x64, .f32⟩
  | .hbm, ⟨18, _⟩ => ⟨S256x512, .f32⟩
  | .hbm, ⟨19, _⟩ => ⟨S256x8x32, .f32⟩
  | .hbm, ⟨20, _⟩ => ⟨S256x256, .f32⟩
  | .hbm, ⟨21, _⟩ => ⟨S256x768, .f32⟩
  | .hbm, ⟨22, _⟩ => ⟨S256x768, .bf16⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S2048x1, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S2048x32, .f32⟩
  | .hbm, ⟨45, _⟩ => ⟨S1x2048x1x32, .f32⟩
  | .hbm, ⟨46, _⟩ => ⟨S1x2048x4x32, .f32⟩
  | .hbm, ⟨47, _⟩ => ⟨S2048x128, .f32⟩
  | .hbm, ⟨48, _⟩ => ⟨S2048x16, .f32⟩
  | .hbm, ⟨49, _⟩ => ⟨S2048x32, .f32⟩
  | .hbm, ⟨50, _⟩ => ⟨S1x2048x1x32, .f32⟩
  | .hbm, ⟨51, _⟩ => ⟨S1x2048x4x32, .f32⟩
  | .hbm, ⟨52, _⟩ => ⟨S2048x128, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S2048x1, .f32⟩
  | .hbm, ⟨68, _⟩ => ⟨S1x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x64, .f32⟩
  | .hbm, ⟨75, _⟩ => ⟨S1x2048x1x64, .f32⟩
  | .hbm, ⟨76, _⟩ => ⟨S1x2048x2x64, .f32⟩
  | .hbm, ⟨77, _⟩ => ⟨S2048x128, .f32⟩
  | .hbm, ⟨78, _⟩ => ⟨S2048x32, .f32⟩
  | .hbm, ⟨79, _⟩ => ⟨S2048x64, .f32⟩
  | .hbm, ⟨80, _⟩ => ⟨S1x2048x1x64, .f32⟩
  | .hbm, ⟨81, _⟩ => ⟨S1x2048x2x64, .f32⟩
  | .hbm, ⟨82, _⟩ => ⟨S2048x128, .f32⟩
  | .hbm, ⟨83, _⟩ => ⟨S1x1024, .f32⟩
  | .hbm, ⟨84, _⟩ => ⟨S1x256, .f32⟩
  | .hbm, ⟨85, _⟩ => ⟨S1x256, .f32⟩
  | .hbm, ⟨86, _⟩ => ⟨S16384x512, .bf16⟩
  | .hbm, ⟨87, _⟩ => ⟨S16384x256, .bf16⟩
  | .hbm, ⟨88, _⟩ => ⟨S16384x256, .f32⟩
  | .hbm, ⟨89, _⟩ => ⟨S16384x32, .f32⟩
  | .hbm, ⟨90, _⟩ => ⟨S16384x128, .bf16⟩
  | .hbm, ⟨91, _⟩ => ⟨S16384x512, .bf16⟩
  | .hbm, ⟨92, _⟩ => ⟨S16384x256, .f32⟩
  | .hbm, ⟨93, _⟩ => ⟨S16384x256, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1664, .bf16⟩
  | .local _ .vmem, ⟨8, _⟩ => ⟨S1x256, .f32⟩
  | .local _ .vmem, ⟨9, _⟩ => ⟨S256x768, .bf16⟩
  | .local _ .vmem, ⟨10, _⟩ => ⟨S1x256, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x512, .bf16⟩
  | .local _ .vmem, ⟨20, _⟩ => ⟨S256x512, .bf16⟩
  | .local _ .vmem, ⟨21, _⟩ => ⟨S256x256, .bf16⟩
  | .local _ .vmem, ⟨22, _⟩ => ⟨S256x256, .bf16⟩
  | .local _ .vmem, ⟨23, _⟩ => ⟨S256x256, .f32⟩
  | .local _ .vmem, ⟨24, _⟩ => ⟨S256x256, .f32⟩
  | .local _ .vmem, ⟨25, _⟩ => ⟨S256x32, .f32⟩
  | .local _ .vmem, ⟨26, _⟩ => ⟨S256x32, .f32⟩
  | .local _ .vmem, ⟨27, _⟩ => ⟨S256x128, .bf16⟩
  | .local _ .vmem, ⟨28, _⟩ => ⟨S256x128, .bf16⟩
  | .local _ .vmem, ⟨29, _⟩ => ⟨S256x512, .bf16⟩
  | .local _ .vmem, ⟨30, _⟩ => ⟨S256x512, .bf16⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71_0 : Ref sig .tc := ⟨.hbm, 86, rfl⟩
abbrev main_v71_1 : Ref sig .tc := ⟨.hbm, 87, rfl⟩
abbrev main_v71_2 : Ref sig .tc := ⟨.hbm, 88, rfl⟩
abbrev main_v71_3 : Ref sig .tc := ⟨.hbm, 89, rfl⟩
abbrev main_v71_4 : Ref sig .tc := ⟨.hbm, 90, rfl⟩
abbrev main_v71_5 : Ref sig .tc := ⟨.hbm, 91, rfl⟩
abbrev main_v71_6 : Ref sig .tc := ⟨.hbm, 92, rfl⟩
abbrev main_v71_7 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1664 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjFirstReferenceIdeal.lean ====
abbrev S8x2048x1024 : Shape := ⟨3, ![8, 2048, 1024]⟩
abbrev S8x6144 : Shape := ⟨2, ![8, 6144]⟩
abbrev S1024 : Shape := ⟨1, ![1024]⟩
abbrev S1024x1568 : Shape := ⟨2, ![1024, 1568]⟩
abbrev S256 : Shape := ⟨1, ![256]⟩
abbrev S256x768 : Shape := ⟨2, ![256, 768]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1568 : Shape := ⟨3, ![8, 2048, 1568]⟩
abbrev S8x2048x256 : Shape := ⟨3, ![8, 2048, 256]⟩
abbrev S8x2048x32 : Shape := ⟨3, ![8, 2048, 32]⟩
abbrev S8x2048x512 : Shape := ⟨3, ![8, 2048, 512]⟩
abbrev S2048 : Shape := ⟨1, ![2048]⟩
abbrev S1x1x256 : Shape := ⟨3, ![1, 1, 256]⟩
abbrev S8x2048x768 : Shape := ⟨3, ![8, 2048, 768]⟩
abbrev S8x2048x8x96 : Shape := ⟨4, ![8, 2048, 8, 96]⟩
abbrev S8x2048x8x64 : Shape := ⟨4, ![8, 2048, 8, 64]⟩
abbrev S8x2048x8x32 : Shape := ⟨4, ![8, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x8x16 : Shape := ⟨4, ![8, 2048, 8, 16]⟩
abbrev S1x2048x16 : Shape := ⟨3, ![1, 2048, 16]⟩
abbrev S8x2048x16 : Shape := ⟨3, ![8, 2048, 16]⟩
abbrev S32 : Shape := ⟨1, ![32]⟩
abbrev S1x32 : Shape := ⟨2, ![1, 32]⟩
abbrev S2048x32 : Shape := ⟨2, ![2048, 32]⟩
abbrev S1x2048x1x32 : Shape := ⟨4, ![1, 2048, 1, 32]⟩
abbrev S8x2048x4x64 : Shape := ⟨4, ![8, 2048, 4, 64]⟩
abbrev S8x2048x4x32 : Shape := ⟨4, ![8, 2048, 4, 32]⟩
abbrev S16384x512 : Shape := ⟨2, ![16384, 512]⟩
abbrev S16384x256 : Shape := ⟨2, ![16384, 256]⟩
abbrev S16384x32 : Shape := ⟨2, ![16384, 32]⟩

abbrev nBuf : Space → Nat
  | .hbm => 239
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S1024x1568, .f32⟩
  | 4 => ⟨S256, .f32⟩
  | 5 => ⟨S256x768, .f32⟩
  | 6 => ⟨S256, .f32⟩
  | 7 => ⟨S8x1024, .f32⟩
  | 8 => ⟨S8x1x1024, .f32⟩
  | 9 => ⟨S8x1024, .f32⟩
  | 10 => ⟨S8x1x1024, .f32⟩
  | 11 => ⟨S8x2048x1024, .f32⟩
  | 12 => ⟨S_, .f32⟩
  | 13 => ⟨S8x2048, .f32⟩
  | 14 => ⟨S8x2048x1, .f32⟩
  | 15 => ⟨S_, .f32⟩
  | 16 => ⟨S8x2048x1, .f32⟩
  | 17 => ⟨S8x2048x1, .f32⟩
  | 18 => ⟨S_, .f32⟩
  | 19 => ⟨S8x2048x1, .f32⟩
  | 20 => ⟨S8x2048x1, .f32⟩
  | 21 => ⟨S8x2048x1, .f32⟩
  | 22 => ⟨S8x2048x1024, .f32⟩
  | 23 => ⟨S8x2048x1024, .f32⟩
  | 24 => ⟨S1x1x1024, .f32⟩
  | 25 => ⟨S8x2048x1024, .f32⟩
  | 26 => ⟨S8x2048x1024, .f32⟩
  | 27 => ⟨S_, .f32⟩
  | 28 => ⟨S8x1x1024, .f32⟩
  | 29 => ⟨S8x1x1024, .f32⟩
  | 30 => ⟨S8x2048x1024, .f32⟩
  | 31 => ⟨S8x2048x1024, .f32⟩
  | 32 => ⟨S8x2048x1024, .f32⟩
  | 33 => ⟨S8x2048x1024, .f32⟩
  | 34 => ⟨S8x2048x1568, .f32⟩
  | 35 => ⟨S8x2048x256, .f32⟩
  | 36 => ⟨S8x2048x256, .f32⟩
  | 37 => ⟨S8x2048x32, .f32⟩
  | 38 => ⟨S8x2048x512, .f32⟩
  | 39 => ⟨S8x2048x256, .f32⟩
  | 40 => ⟨S8x2048x256, .f32⟩
  | 41 => ⟨S2048, .f32⟩
  | 42 => ⟨S8x2048x256, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S_, .f32⟩
  | 50 => ⟨S8x2048x1, .f32⟩
  | 51 => ⟨S8x2048x1, .f32⟩
  | 52 => ⟨S8x2048x1, .f32⟩
  | 53 => ⟨S8x2048x256, .f32⟩
  | 54 => ⟨S8x2048x256, .f32⟩
  | 55 => ⟨S1x1x256, .f32⟩
  | 56 => ⟨S8x2048x256, .f32⟩
  | 57 => ⟨S8x2048x256, .f32⟩
  | 58 => ⟨S8x2048x768, .f32⟩
  | 59 => ⟨S8x2048x8x96, .f32⟩
  | 60 => ⟨S8x2048x8x64, .f32⟩
  | 61 => ⟨S_, .f32⟩
  | 62 => ⟨S8x2048x8x64, .f32⟩
  | 63 => ⟨S8x2048x8x64, .f32⟩
  | 64 => ⟨S8x2048x8x32, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S2048x1, .f32⟩
  | 80 => ⟨S1x16, .f32⟩
  | 81 => ⟨S2048x16, .f32⟩
  | 82 => ⟨S2048x16, .f32⟩
  | 83 => ⟨S2048x16, .f32⟩
  | 84 => ⟨S1x2048x1x16, .f32⟩
  | 85 => ⟨S1x2048x1x16, .f32⟩
  | 86 => ⟨S1x2048x1x16, .f32⟩
  | 87 => ⟨S8x2048x8x16, .f32⟩
  | 88 => ⟨S8x2048x8x16, .f32⟩
  | 89 => ⟨S8x2048x8x16, .f32⟩
  | 90 => ⟨S8x2048x8x16, .f32⟩
  | 91 => ⟨S8x2048x8x16, .f32⟩
  | 92 => ⟨S8x2048x8x16, .f32⟩
  | 93 => ⟨S8x2048x8x16, .f32⟩
  | 94 => ⟨S8x2048x8x16, .f32⟩
  | 95 => ⟨S8x2048x8x16, .f32⟩
  | 96 => ⟨S8x2048x8x16, .f32⟩
  | 97 => ⟨S8x2048x8x16, .f32⟩
  | 98 => ⟨S8x2048x8x16, .f32⟩
  | 99 => ⟨S8x2048x8x32, .f32⟩
  | 100 => ⟨S_, .f32⟩
  | 101 => ⟨S8x2048x8x32, .f32⟩
  | 102 => ⟨S8x2048x8x32, .f32⟩
  | 103 => ⟨S8x2048x256, .f32⟩
  | 104 => ⟨S_, .f32⟩
  | 105 => ⟨S8x2048, .f32⟩
  | 106 => ⟨S8x2048x1, .f32⟩
  | 107 => ⟨S_, .f32⟩
  | 108 => ⟨S8x2048x1, .f32⟩
  | 109 => ⟨S8x2048x1, .f32⟩
  | 110 => ⟨S_, .f32⟩
  | 111 => ⟨S8x2048x1, .f32⟩
  | 112 => ⟨S8x2048x1, .f32⟩
  | 113 => ⟨S8x2048x1, .f32⟩
  | 114 => ⟨S8x2048x256, .f32⟩
  | 115 => ⟨S8x2048x256, .f32⟩
  | 116 => ⟨S1x1x256, .f32⟩
  | 117 => ⟨S8x2048x256, .f32⟩
  | 118 => ⟨S8x2048x256, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S16, .f32⟩
  | 127 => ⟨S_, .f32⟩
  | _ => ⟨S8x2048x1024, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S2048x1, .f32⟩
  | 6 => ⟨S1x16, .f32⟩
  | 7 => ⟨S2048x16, .f32⟩
  | 8 => ⟨S2048x16, .f32⟩
  | 9 => ⟨S2048x16, .f32⟩
  | 10 => ⟨S1x2048x16, .f32⟩
  | 11 => ⟨S1x2048x16, .f32⟩
  | 12 => ⟨S1x2048x16, .f32⟩
  | 13 => ⟨S8x2048x16, .f32⟩
  | 14 => ⟨S8x2048x16, .f32⟩
  | 15 => ⟨S8x2048x16, .f32⟩
  | 16 => ⟨S8x2048x16, .f32⟩
  | 17 => ⟨S8x2048x16, .f32⟩
  | 18 => ⟨S8x2048x16, .f32⟩
  | 19 => ⟨S8x2048x16, .f32⟩
  | 20 => ⟨S8x2048x16, .f32⟩
  | 21 => ⟨S8x2048x16, .f32⟩
  | 22 => ⟨S8x2048x16, .f32⟩
  | 23 => ⟨S8x2048x16, .f32⟩
  | 24 => ⟨S8x2048x16, .f32⟩
  | 25 => ⟨S8x2048x32, .f32⟩
  | 26 => ⟨S8x2048x8x64, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S2048x1, .f32⟩
  | 42 => ⟨S1x32, .f32⟩
  | 43 => ⟨S2048x32, .f32⟩
  | 44 => ⟨S2048x32, .f32⟩
  | 45 => ⟨S2048x32, .f32⟩
  | 46 => ⟨S1x2048x1x32, .f32⟩
  | 47 => ⟨S1x2048x1x32, .f32⟩
  | 48 => ⟨S1x2048x1x32, .f32⟩
  | 49 => ⟨S8x2048x8x32, .f32⟩
  | 50 => ⟨S8x2048x8x32, .f32⟩
  | 51 => ⟨S8x2048x8x32, .f32⟩
  | 52 => ⟨S8x2048x8x32, .f32⟩
  | 53 => ⟨S8x2048x8x32, .f32⟩
  | 54 => ⟨S8x2048x8x32, .f32⟩
  | 55 => ⟨S8x2048x8x32, .f32⟩
  | 56 => ⟨S8x2048x8x32, .f32⟩
  | 57 => ⟨S8x2048x8x32, .f32⟩
  | 58 => ⟨S8x2048x8x32, .f32⟩
  | 59 => ⟨S8x2048x8x32, .f32⟩
  | 60 => ⟨S8x2048x8x32, .f32⟩
  | 61 => ⟨S8x2048x8x64, .f32⟩
  | 62 => ⟨S_, .f32⟩
  | 63 => ⟨S8x2048x8x64, .f32⟩
  | 64 => ⟨S8x2048x8x64, .f32⟩
  | 65 => ⟨S8x2048x4x64, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S2048x1, .f32⟩
  | 81 => ⟨S1x32, .f32⟩
  | 82 => ⟨S2048x32, .f32⟩
  | 83 => ⟨S2048x32, .f32⟩
  | 84 => ⟨S2048x32, .f32⟩
  | 85 => ⟨S1x2048x1x32, .f32⟩
  | 86 => ⟨S1x2048x1x32, .f32⟩
  | 87 => ⟨S1x2048x1x32, .f32⟩
  | 88 => ⟨S8x2048x4x32, .f32⟩
  | 89 => ⟨S8x2048x4x32, .f32⟩
  | 90 => ⟨S8x2048x4x32, .f32⟩
  | 91 => ⟨S8x2048x4x32, .f32⟩
  | 92 => ⟨S8x2048x4x32, .f32⟩
  | 93 => ⟨S8x2048x4x32, .f32⟩
  | 94 => ⟨S8x2048x4x32, .f32⟩
  | 95 => ⟨S8x2048x4x32, .f32⟩
  | 96 => ⟨S8x2048x4x32, .f32⟩
  | 97 => ⟨S8x2048x4x32, .f32⟩
  | 98 => ⟨S8x2048x4x32, .f32⟩
  | 99 => ⟨S8x2048x4x32, .f32⟩
  | 100 => ⟨S8x2048x4x64, .f32⟩
  | 101 => ⟨S16384x512, .f32⟩
  | 102 => ⟨S16384x512, .bf16⟩
  | 103 => ⟨S16384x256, .f32⟩
  | 104 => ⟨S16384x256, .bf16⟩
  | 105 => ⟨S16384x256, .f32⟩
  | 106 => ⟨S16384x32, .f32⟩
  | 107 => ⟨S16384x512, .f32⟩
  | 108 => ⟨S16384x512, .bf16⟩
  | 109 => ⟨S16384x256, .f32⟩
  | 110 => ⟨S16384x256, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_12 : Ref sig .tc := ⟨.hbm, 104, rfl⟩
abbrev main_v84 : Ref sig .tc := ⟨.hbm, 105, rfl⟩
abbrev main_v85 : Ref sig .tc := ⟨.hbm, 106, rfl⟩
abbrev main_cst_13 : Ref sig .tc := ⟨.hbm, 107, rfl⟩
abbrev main_v86 : Ref sig .tc := ⟨.hbm, 108, rfl⟩
abbrev main_v87 : Ref sig .tc := ⟨.hbm, 109, rfl⟩
abbrev main_cst_14 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_15 : Ref sig .tc := ⟨.hbm, 120, rfl⟩
abbrev main_v97 : Ref sig .tc := ⟨.hbm, 121, rfl⟩
abbrev main_v98 : Ref sig .tc := ⟨.hbm, 122, rfl⟩
abbrev main_cst_16 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_17 : Ref sig .tc := ⟨.hbm, 127, rfl⟩
abbrev main_v102 : Ref sig .tc := ⟨.hbm, 128, rfl⟩
abbrev main_v103 : Ref sig .tc := ⟨.hbm, 129, rfl⟩
abbrev main_cst_18 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_19 : Ref sig .tc := ⟨.hbm, 156, rfl⟩
abbrev main_v129 : Ref sig .tc := ⟨.hbm, 157, rfl⟩
abbrev main_v130 : Ref sig .tc := ⟨.hbm, 158, rfl⟩
abbrev main_cst_20 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_21 : Ref sig .tc := ⟨.hbm, 163, rfl⟩
abbrev main_v134 : Ref sig .tc := ⟨.hbm, 164, rfl⟩
abbrev main_v135 : Ref sig .tc := ⟨.hbm, 165, rfl⟩
abbrev main_cst_22 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_cst_23 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_cst_24 : Ref sig .tc := ⟨.hbm, 195, rfl⟩
abbrev main_v163 : Ref sig .tc := ⟨.hbm, 196, rfl⟩
abbrev main_v164 : Ref sig .tc := ⟨.hbm, 197, rfl⟩
abbrev main_cst_25 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_cst_26 : Ref sig .tc := ⟨.hbm, 202, rfl⟩
abbrev main_v168 : Ref sig .tc := ⟨.hbm, 203, rfl⟩
abbrev main_v169 : Ref sig .tc := ⟨.hbm, 204, rfl⟩
abbrev main_cst_27 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩

abbrev nD : Nat := 1
abbrev τ : Topo := Topo.v7x

variable {F : FTy → Type} [FloatOps F]
-- ==== Ada.lean ====
abbrev S144x1024 : Shape := ⟨2, ![144, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x144x6144 : Shape := ⟨3, ![2, 144, 6144]⟩
abbrev S1x1024x1536 : Shape := ⟨3, ![1, 1024, 1536]⟩
abbrev S1x1x1536 : Shape := ⟨3, ![1, 1, 1536]⟩
abbrev S1x144x1536 : Shape := ⟨3, ![1, 144, 1536]⟩
abbrev S1024x1536 : Shape := ⟨2, ![1024, 1536]⟩
abbrev S144x1536 : Shape := ⟨2, ![144, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S144x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x144x6144, .f32⟩
  | .local _ .vmem, ⟨0, _⟩ => ⟨S144x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x144x1536, .f32⟩
  | .local _ .vmem, ⟨6, _⟩ => ⟨S1x144x1536, .f32⟩
  | _, _ => ⟨S144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S144x1024 : Shape := ⟨2, ![144, 1024]⟩
abbrev S2x1024x6144 : Shape := ⟨3, ![2, 1024, 6144]⟩
abbrev S2x6144 : Shape := ⟨2, ![2, 6144]⟩
abbrev S_ : Shape := ⟨0, ![]⟩
abbrev S2x6144x144 : Shape := ⟨3, ![2, 6144, 144]⟩
abbrev S2x144x6144 : Shape := ⟨3, ![2, 144, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S144x1024, .f32⟩
  | .hbm, ⟨1, _⟩ => ⟨S2x1024x6144, .f32⟩
  | .hbm, ⟨2, _⟩ => ⟨S2x6144, .f32⟩
  | .hbm, ⟨3, _⟩ => ⟨S144x1024, .f32⟩
  | .hbm, ⟨4, _⟩ => ⟨S144x1024, .f32⟩
  | .hbm, ⟨5, _⟩ => ⟨S_, .f32⟩
  | .hbm, ⟨6, _⟩ => ⟨S144x1024, .f32⟩
  | .hbm, ⟨7, _⟩ => ⟨S144x1024, .f32⟩
  | .hbm, ⟨8, _⟩ => ⟨S_, .f32⟩
  | .hbm, ⟨9, _⟩ => ⟨S144x1024, .f32⟩
  | .hbm, ⟨10, _⟩ => ⟨S144x1024, .f32⟩
  | .hbm, ⟨11, _⟩ => ⟨S144x1024, .f32⟩
  | .hbm, ⟨12, _⟩ => ⟨S2x6144x144, .f32⟩
  | .hbm, ⟨13, _⟩ => ⟨S2x144x6144, .f32⟩
  | .hbm, ⟨14, _⟩ => ⟨S2x1x6144, .f32⟩
  | .hbm, ⟨15, _⟩ => ⟨S2x144x6144, .f32⟩
  | .hbm, ⟨16, _⟩ => ⟨S2x144x6144, .f32⟩
  | _, _ => ⟨S144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Body
open Cert.KernelIdeal Cert.KernelIdeal.Gen
variable {F : FTy → Type} [FloatOps F] [Named F]

theorem hz : (![0, 0] : Fin 2 → Nat) = fun _ => 0 := funext fun a => by fin_cases a <;> rfl
theorem hz3 : (![0, 0, 0] : Fin 3 → Nat) = fun _ => 0 := funext fun a => by fin_cases a <;> rfl

/-- The columns' numbers, as the kernel counts them. -/
abbrev col : IVec S1024x512 32 := iota .tc S1024x512 32 [1] iota_S1024x512_d1_w32

/-- The rows of the latents that trip `k` reads. -/
abbrev blkK (i : grid0.Coords) (k : Fin (k0_t1_loop i).trips) (ks : Vec F S2048x256 .bf16) : Vec F S512x256 .bf16 :=
  View.ld ks (Rect.unit (s := S2048x256) (k0_off1 i k) S512x256.size (k0_off1_inb i k))

/-- The rows of the rotated keys that trip `k` reads. -/
abbrev blkR (i : grid0.Coords) (k : Fin (k0_t1_loop i).trips) (k2s : Vec F S2048x128 .bf16) : Vec F S512x128 .bf16 :=
  View.ld k2s (Rect.unit (s := S2048x128) (k0_off2 i k) S512x128.size (k0_off2_inb i k))

/-- The running maximum after trip `k`. -/
def newM (i : grid0.Coords) (q : Vec F S1024x256 .bf16) (q2 : Vec F S1024x128 .bf16) (ks : Vec F S2048x256 .bf16) (k2s : Vec F S2048x128 .bf16) (k : Fin (k0_t1_loop i).trips) (m : Vec F S1024x1 .f32) : Vec F S1024x1 .f32 :=
  k0_pay54 (k0_pay6 i (k0_pay52 (BitVec.ofNat 32 (i 1).val)) col 0#32 1#32 k q (blkK i k ks) q2 (blkR i k k2s) m)

/-- The running sum of exponentials after trip `k`. -/
def newL (i : grid0.Coords) (q : Vec F S1024x256 .bf16) (q2 : Vec F S1024x128 .bf16) (ks : Vec F S2048x256 .bf16) (k2s : Vec F S2048x128 .bf16) (k : Fin (k0_t1_loop i).trips) (m l : Vec F S1024x1 .f32) : Vec F S1024x1 .f32 :=
  k0_pay9 i (k0_pay52 (BitVec.ofNat 32 (i 1).val)) col 0#32 1#32 k q (blkK i k ks) q2 (blkR i k k2s) m l

/-- The running weighted sum of latents after trip `k`. -/
def newA (i : grid0.Coords) (q : Vec F S1024x256 .bf16) (q2 : Vec F S1024x128 .bf16) (ks : Vec F S2048x256 .bf16) (k2s : Vec F S2048x128 .bf16) (k : Fin (k0_t1_loop i).trips) (m : Vec F S1024x1 .f32) (a : Vec F S1024x256 .f32) : Vec F S1024x256 .f32 :=
  k0_pay53 (k0_pay10 i (k0_pay52 (BitVec.ofNat 32 (i 1).val)) col 0#32 1#32 k q (blkK i k ks) q2 (blkR i k k2s) m a)
    (k0_pay11 i (k0_pay52 (BitVec.ofNat 32 (i 1).val)) col 0#32 1#32 k q (blkK i k ks) q2 (blkR i k k2s) m) (blkK i k ks)

section
variable (c : Dev nD) (i : grid0.Coords) (arg2 : Memref sig .tc .vmem S1x128x512 .bf16) (harg2 : arg2.IsWhole) (arg3 : Memref sig .tc .vmem S1x128x256 .bf16) (harg3 : arg3.IsWhole) (arg4 : Memref sig .tc .vmem S1x2048x256 .f32) (harg4 : arg4.IsWhole) (arg5 : Memref sig .tc .vmem S1x2048x128 .bf16) (harg5 : arg5.IsWhole) (arg6 : Memref sig .tc .vmem S4x128x512 .bf16) (harg6 : arg6.IsWhole) (arg7 : Memref sig .tc .vmem S8x256x128 .bf16) (harg7 : arg7.IsWhole) (arg8 : Memref sig .tc .vmem S1x128x512 .bf16) (harg8 : arg8.IsWhole) (arg9 : Memref sig .tc .vmem S1024x256 .bf16) (harg9 : arg9.IsWhole) (arg10 : Memref sig .tc .vmem S1024x128 .bf16) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole)
  (v170 : BitVec 32) (c512 : BitVec 32) (v171 : BitVec 32) (v176 : BitVec 32) (v178 : BitVec 32) (v179 : BitVec 1)
  (X9 : BufTy.Contents (Elt F) arg9.view.ty) (X10 : BufTy.Contents (Elt F) arg10.view.ty) (X11 : BufTy.Contents (Elt F) arg11.view.ty) (X12 : BufTy.Contents (Elt F) arg12.view.ty)

/-- What a trip writes: the new maximum, the new sum, the new weighted sum, of what it finds. -/
theorem trip_eq (k : Fin (k0_t1_loop i).trips) (f13 : BufTy.Contents (Elt F) arg13.view.ty) (f14 : BufTy.Contents (Elt F) arg14.view.ty) (f15 : BufTy.Contents (Elt F) arg15.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) v170 c512 v171 v176 v178 v179 col X9 X10 X11 X12 k f13 f14 f15
    = ([⟨Rect.unit ![0, 0] S1024x1.size inb_S1024x1_S1024x1_0_0, newM i (arg9.view.read (Elt F) X9) (arg10.view.read (Elt F) X10) (arg11.view.read (Elt F) X11) (arg12.view.read (Elt F) X12) k (arg13.view.read (Elt F) f13)⟩],
       [⟨Rect.unit ![0, 0] S1024x1.size inb_S1024x1_S1024x1_0_0, newL i (arg9.view.read (Elt F) X9) (arg10.view.read (Elt F) X10) (arg11.view.read (Elt F) X11) (arg12.view.read (Elt F) X12) k (arg13.view.read (Elt F) f13) (arg14.view.read (Elt F) f14)⟩],
       [⟨Rect.unit ![0, 0] S1024x256.size inb_S1024x256_S1024x256_0_0, newA i (arg9.view.read (Elt F) X9) (arg10.view.read (Elt F) X10) (arg11.view.read (Elt F) X11) (arg12.view.read (Elt F) X12) k (arg13.view.read (Elt F) f13) (arg15.view.read (Elt F) f15)⟩]) := by
  unfold tripL_k0_t1 trip_k0_t1
  dsimp only
  sl_unfold_words
  simp only [View.readAt_eq_ld, View.ld_unit_zero (S := S1024x256) hz, View.ld_unit_zero (S := S1024x128) hz, View.ld_unit_zero (S := S1024x1) hz]
  rfl

/-- An invariant of the trips, established by the first contents of the three running buffers and kept by every trip,
    holds of what the buffers read after any number of trips. -/
theorem loop_inv (Inv : ℕ → Vec F S1024x1 .f32 → Vec F S1024x1 .f32 → Vec F S1024x256 .f32 → Prop)
    (h0 : Inv 0 k0_pay49 k0_pay50 k0_pay51)
    (hs : ∀ (k : Fin (k0_t1_loop i).trips) (m l : Vec F S1024x1 .f32) (a : Vec F S1024x256 .f32), Inv k.val m l a →
      Inv (k.val + 1) (newM i (arg9.view.read (Elt F) X9) (arg10.view.read (Elt F) X10) (arg11.view.read (Elt F) X11) (arg12.view.read (Elt F) X12) k m)
        (newL i (arg9.view.read (Elt F) X9) (arg10.view.read (Elt F) X10) (arg11.view.read (Elt F) X11) (arg12.view.read (Elt F) X12) k m l)
        (newA i (arg9.view.read (Elt F) X9) (arg10.view.read (Elt F) X10) (arg11.view.read (Elt F) X11) (arg12.view.read (Elt F) X12) k m a)) :
    ∀ n : ℕ, n ≤ (k0_t1_loop i).trips →
      Inv n (View.canon ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) v170 c512 v171 v176 v178 v179 col X9 X10 X11 X12 (arg13.view.writes (Elt F) arg13.view.junk [⟨Rect.unit ![0, 0] S1024x1.size inb_S1024x1_S1024x1_0_0, k0_pay49⟩]) (arg14.view.writes (Elt F) arg14.view.junk [⟨Rect.unit ![0, 0] S1024x1.size inb_S1024x1_S1024x1_0_0, k0_pay50⟩]) (arg15.view.writes (Elt F) arg15.view.junk [⟨Rect.unit ![0, 0] S1024x256.size inb_S1024x256_S1024x256_0_0, k0_pay51⟩]) n).1 ++ [⟨Rect.unit ![0, 0] S1024x1.size inb_S1024x1_S1024x1_0_0, k0_pay49⟩]))
        (View.canon ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) v170 c512 v171 v176 v178 v179 col X9 X10 X11 X12 (arg13.view.writes (Elt F) arg13.view.junk [⟨Rect.unit ![0, 0] S1024x1.size inb_S1024x1_S1024x1_0_0, k0_pay49⟩]) (arg14.view.writes (Elt F) arg14.view.junk [⟨Rect.unit ![0, 0] S1024x1.size inb_S1024x1_S1024x1_0_0, k0_pay50⟩]) (arg15.view.writes (Elt F) arg15.view.junk [⟨Rect.unit ![0, 0] S1024x256.size inb_S1024x256_S1024x256_0_0, k0_pay51⟩]) n).2.1 ++ [⟨Rect.unit ![0, 0] S1024x1.size inb_S1024x1_S1024x1_0_0, k0_pay50⟩]))
        (View.canon ((pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 1).val) v170 c512 v171 v176 v178 v179 col X9 X10 X11 X12 (arg13.view.writes (Elt F) arg13.view.junk [⟨Rect.unit ![0, 0] S1024x1.size inb_S1024x1_S1024x1_0_0, k0_pay49⟩]) (arg14.view.writes (Elt F) arg14.view.junk [⟨Rect.unit ![0, 0] S1024x1.size inb_S1024x1_S1024x1_0_0, k0_pay50⟩]) (arg15.view.writes (Elt F) arg15.view.junk [⟨Rect.unit ![0, 0] S1024x256.size inb_S1024x256_S1024x256_0_0, k0_pay51⟩]) n).2.2 ++ [⟨Rect.unit ![0, 0] S1024x256.size inb_S1024x256_S1024x256_0_0, k0_pay51⟩])) := by
  intro n
  induction n with
  | zero =>
    intro _
    rw [pb_k0_t1.eq_1]
    simp only [List.nil_append, View.canon_unit_zero (S := S1024x1) hz, View.canon_unit_zero (S := S1024x256) hz]
    exact h0
  | succ n ih =>
    intro hn
    have h := hs ⟨n, hn⟩ _ _ _ (ih (Nat.le_of_succ_le hn))
    rw [pb_k0_t1_succ (k := ⟨n, hn⟩), trip_eq]
    simp only [List.cons_append, View.canon_cons_unit_zero (S := S1024x1) hz, View.canon_cons_unit_zero (S := S1024x256) hz,
      ← View.writes_append, View.read_writes_junk_eq_canon]
    exact h
end
end Cert.KernelIdeal.Body

namespace Cert.KernelIdeal.Body
open Cert.KernelIdeal Cert.KernelIdeal.Gen
variable {F : FTy → Type} [FloatOps F] [Named F]

/-- The eight heads' rows of absorbed queries. -/
def qLat (x0 : Vec F S1x128x512 .bf16) (x4 : Vec F S4x128x512 .bf16) : Vec F S1024x256 .bf16 := View.canon [⟨Rect.unit ![896, 0] S128x256.size inb_S1024x256_S128x256_896_0, k0_pay35 (k0_pay21 (View.ld x0 (Rect.unit (s := S1x128x512) ![0, 0, 0] S1x128x512.size inb_S1x128x512_S1x128x512_0_0_0))) (View.ld x4 (Rect.unit (s := S4x128x512) ![3, 0, 0] S1x128x512.size inb_S4x128x512_S1x128x512_3_0_0))⟩, ⟨Rect.unit ![768, 0] S128x256.size inb_S1024x256_S128x256_768_0, k0_pay34 (k0_pay21 (View.ld x0 (Rect.unit (s := S1x128x512) ![0, 0, 0] S1x128x512.size inb_S1x128x512_S1x128x512_0_0_0))) (View.ld x4 (Rect.unit (s := S4x128x512) ![3, 0, 0] S1x128x512.size inb_S4x128x512_S1x128x512_3_0_0))⟩, ⟨Rect.unit ![640, 0] S128x256.size inb_S1024x256_S128x256_640_0, k0_pay32 (k0_pay21 (View.ld x0 (Rect.unit (s := S1x128x512) ![0, 0, 0] S1x128x512.size inb_S1x128x512_S1x128x512_0_0_0))) (View.ld x4 (Rect.unit (s := S4x128x512) ![2, 0, 0] S1x128x512.size inb_S4x128x512_S1x128x512_2_0_0))⟩, ⟨Rect.unit ![512, 0] S128x256.size inb_S1024x256_S128x256_512_0, k0_pay31 (k0_pay21 (View.ld x0 (Rect.unit (s := S1x128x512) ![0, 0, 0] S1x128x512.size inb_S1x128x512_S1x128x512_0_0_0))) (View.ld x4 (Rect.unit (s := S4x128x512) ![2, 0, 0] S1x128x512.size inb_S4x128x512_S1x128x512_2_0_0))⟩, ⟨Rect.unit ![384, 0] S128x256.size inb_S1024x256_S128x256_384_0, k0_pay29 (k0_pay28 (View.ld x0 (Rect.unit (s := S1x128x512) ![0, 0, 0] S1x128x512.size inb_S1x128x512_S1x128x512_0_0_0)) (View.ld x4 (Rect.unit (s := S4x128x512) ![1, 0, 0] S1x128x512.size inb_S4x128x512_S1x128x512_1_0_0)))⟩, ⟨Rect.unit ![256, 0] S128x256.size inb_S1024x256_S128x256_256_0, k0_pay27 (View.ld x0 (Rect.unit (s := S1x128x512) ![0, 0, 0] S1x128x512.size inb_S1x128x512_S1x128x512_0_0_0)) (View.ld x4 (Rect.unit (s := S4x128x512) ![1, 0, 0] S1x128x512.size inb_S4x128x512_S1x128x512_1_0_0))⟩, ⟨Rect.unit ![128, 0] S128x256.size inb_S1024x256_S128x256_128_0, k0_pay25 (View.ld x0 (Rect.unit (s := S1x128x512) ![0, 0, 0] S1x128x512.size inb_S1x128x512_S1x128x512_0_0_0)) (View.ld x4 (Rect.unit (s := S4x128x512) ![0, 0, 0] S1x128x512.size inb_S4x128x512_S1x128x512_0_0_0))⟩, ⟨Rect.unit ![0, 0] S128x256.size inb_S1024x256_S128x256_0_0, k0_pay24 (View.ld x0 (Rect.unit (s := S1x128x512) ![0, 0, 0] S1x128x512.size inb_S1x128x512_S1x128x512_0_0_0)) (View.ld x4 (Rect.unit (s := S4x128x512) ![0, 0, 0] S1x128x512.size inb_S4x128x512_S1x128x512_0_0_0))⟩]

/-- The eight heads' rows of rotated queries, each kept in its own 32 lanes. -/
def qRot (x1 : Vec F S1x128x256 .bf16) : Vec F S1024x128 .bf16 := View.canon [⟨Rect.unit ![896, 0] S128x128.size inb_S1024x128_S128x128_896_0, k0_pay48 (k0_pay46 (k0_pay22 (View.ld x1 (Rect.unit (s := S1x128x256) ![0, 0, 0] S1x128x256.size inb_S1x128x256_S1x128x256_0_0_0)))) (iota .tc S128x128 32 [1] iota_S128x128_d1_w32) k0_pay47⟩, ⟨Rect.unit ![768, 0] S128x128.size inb_S1024x128_S128x128_768_0, k0_pay45 (k0_pay22 (View.ld x1 (Rect.unit (s := S1x128x256) ![0, 0, 0] S1x128x256.size inb_S1x128x256_S1x128x256_0_0_0)))⟩, ⟨Rect.unit ![640, 0] S128x128.size inb_S1024x128_S128x128_640_0, k0_pay44 (k0_pay22 (View.ld x1 (Rect.unit (s := S1x128x256) ![0, 0, 0] S1x128x256.size inb_S1x128x256_S1x128x256_0_0_0)))⟩, ⟨Rect.unit ![512, 0] S128x128.size inb_S1024x128_S128x128_512_0, k0_pay43 (k0_pay22 (View.ld x1 (Rect.unit (s := S1x128x256) ![0, 0, 0] S1x128x256.size inb_S1x128x256_S1x128x256_0_0_0)))⟩, ⟨Rect.unit ![384, 0] S128x128.size inb_S1024x128_S128x128_384_0, k0_pay42 (k0_pay41 (k0_pay22 (View.ld x1 (Rect.unit (s := S1x128x256) ![0, 0, 0] S1x128x256.size inb_S1x128x256_S1x128x256_0_0_0))))⟩, ⟨Rect.unit ![256, 0] S128x128.size inb_S1024x128_S128x128_256_0, k0_pay40 (k0_pay22 (View.ld x1 (Rect.unit (s := S1x128x256) ![0, 0, 0] S1x128x256.size inb_S1x128x256_S1x128x256_0_0_0)))⟩, ⟨Rect.unit ![128, 0] S128x128.size inb_S1024x128_S128x128_128_0, k0_pay39 (k0_pay22 (View.ld x1 (Rect.unit (s := S1x128x256) ![0, 0, 0] S1x128x256.size inb_S1x128x256_S1x128x256_0_0_0)))⟩, ⟨Rect.unit ![0, 0] S128x128.size inb_S1024x128_S128x128_0_0, k0_pay38 (k0_pay36 (k0_pay22 (View.ld x1 (Rect.unit (s := S1x128x256) ![0, 0, 0] S1x128x256.size inb_S1x128x256_S1x128x256_0_0_0)))) k0_pay37 (Scalar.ofBits .bf16 0x0000#16)⟩]

/-- The tile of outputs from the sums of exponentials `l` and the weighted sums of latents `a`. -/
def outTile (x5 : Vec F S8x256x128 .bf16) (l : Vec F S1024x1 .f32) (a : Vec F S1024x256 .f32) : Vec F S1x128x512 .bf16 := View.canon [⟨Rect.unit ![0, 0, 384] S1x128x128.size inb_S1x128x512_S1x128x128_0_0_384, k0_pay4 (k0_pay63 (fun j => a ((Rect.unit (s := S1024x256) ![768, 0] S128x256.size inb_S1024x256_S128x256_768_0).toLoadRect.idx j)) (fun j => l ((Rect.unit (s := S1024x1) ![768, 0] S128x1.size inb_S1024x1_S128x1_768_0).toLoadRect.idx j)) (View.ld x5 (Rect.unit (s := S8x256x128) ![6, 0, 0] S1x256x128.size inb_S8x256x128_S1x256x128_6_0_0))) (k0_pay64 (fun j => a ((Rect.unit (s := S1024x256) ![896, 0] S128x256.size inb_S1024x256_S128x256_896_0).toLoadRect.idx j)) (fun j => l ((Rect.unit (s := S1024x1) ![896, 0] S128x1.size inb_S1024x1_S128x1_896_0).toLoadRect.idx j))) (View.ld x5 (Rect.unit (s := S8x256x128) ![7, 0, 0] S1x256x128.size inb_S8x256x128_S1x256x128_7_0_0))⟩, ⟨Rect.unit ![0, 0, 256] S1x128x128.size inb_S1x128x512_S1x128x128_0_0_256, k0_pay3 (k0_pay62 (k0_pay61 (fun j => a ((Rect.unit (s := S1024x256) ![512, 0] S128x256.size inb_S1024x256_S128x256_512_0).toLoadRect.idx j)) (fun j => l ((Rect.unit (s := S1024x1) ![512, 0] S128x1.size inb_S1024x1_S128x1_512_0).toLoadRect.idx j))) (View.ld x5 (Rect.unit (s := S8x256x128) ![4, 0, 0] S1x256x128.size inb_S8x256x128_S1x256x128_4_0_0)) (fun j => a ((Rect.unit (s := S1024x256) ![640, 0] S128x256.size inb_S1024x256_S128x256_640_0).toLoadRect.idx j)) (fun j => l ((Rect.unit (s := S1024x1) ![640, 0] S128x1.size inb_S1024x1_S128x1_640_0).toLoadRect.idx j)) (View.ld x5 (Rect.unit (s := S8x256x128) ![5, 0, 0] S1x256x128.size inb_S8x256x128_S1x256x128_5_0_0)))⟩, ⟨Rect.unit ![0, 0, 128] S1x128x128.size inb_S1x128x512_S1x128x128_0_0_128, k0_pay2 (k0_pay60 (fun j => a ((Rect.unit (s := S1024x256) ![256, 0] S128x256.size inb_S1024x256_S128x256_256_0).toLoadRect.idx j)) (fun j => l ((Rect.unit (s := S1024x1) ![256, 0] S128x1.size inb_S1024x1_S128x1_256_0).toLoadRect.idx j)) (View.ld x5 (Rect.unit (s := S8x256x128) ![2, 0, 0] S1x256x128.size inb_S8x256x128_S1x256x128_2_0_0)) (fun j => a ((Rect.unit (s := S1024x256) ![384, 0] S128x256.size inb_S1024x256_S128x256_384_0).toLoadRect.idx j)) (fun j => l ((Rect.unit (s := S1024x1) ![384, 0] S128x1.size inb_S1024x1_S128x1_384_0).toLoadRect.idx j)) (View.ld x5 (Rect.unit (s := S8x256x128) ![3, 0, 0] S1x256x128.size inb_S8x256x128_S1x256x128_3_0_0)))⟩, ⟨Rect.unit ![0, 0, 0] S1x128x128.size inb_S1x128x512_S1x128x128_0_0_0, k0_pay1 (k0_pay59 (k0_pay57 (fun j => a ((Rect.unit (s := S1024x256) ![0, 0] S128x256.size inb_S1024x256_S128x256_0_0).toLoadRect.idx j)) (fun j => l ((Rect.unit (s := S1024x1) ![0, 0] S128x1.size inb_S1024x1_S128x1_0_0).toLoadRect.idx j)) (View.ld x5 (Rect.unit (s := S8x256x128) ![0, 0, 0] S1x256x128.size inb_S8x256x128_S1x256x128_0_0_0))) (fun j => a ((Rect.unit (s := S1024x256) ![128, 0] S128x256.size inb_S1024x256_S128x256_128_0).toLoadRect.idx j)) (k0_pay58 (fun j => l ((Rect.unit (s := S1024x1) ![128, 0] S128x1.size inb_S1024x1_S128x1_128_0).toLoadRect.idx j))) (View.ld x5 (Rect.unit (s := S8x256x128) ![1, 0, 0] S1x256x128.size inb_S8x256x128_S1x256x128_1_0_0)))⟩]

/-- The kernel's loop makes one trip per block of 512 columns that holds a column of the causal part. -/
theorem trips1 (i : grid0.Coords) : (k0_t1_loop i).trips = (i 1).val / 4 + 1 := by
  unfold k0_t1_loop
  dsimp only
  generalize (i 1) = n
  revert n
  decide +kernel

/-- The remainder loop makes no trip. -/
theorem trips2 (i : grid0.Coords) : (k0_t2_loop i).trips = 0 := by
  unfold k0_t2_loop
  dsimp only
  generalize (i 1) = n
  revert n
  decide +kernel

section
variable (c : Dev nD) (i : grid0.Coords) (arg2 : Memref sig .tc .vmem S1x128x512 .bf16) (harg2 : arg2.IsWhole) (arg3 : Memref sig .tc .vmem S1x128x256 .bf16) (harg3 : arg3.IsWhole) (arg4 : Memref sig .tc .vmem S1x2048x256 .f32) (harg4 : arg4.IsWhole) (arg5 : Memref sig .tc .vmem S1x2048x128 .bf16) (harg5 : arg5.IsWhole) (arg6 : Memref sig .tc .vmem S4x128x512 .bf16) (harg6 : arg6.IsWhole) (arg7 : Memref sig .tc .vmem S8x256x128 .bf16) (harg7 : arg7.IsWhole) (arg8 : Memref sig .tc .vmem S1x128x512 .bf16) (harg8 : arg8.IsWhole) (arg9 : Memref sig .tc .vmem S1024x256 .bf16) (harg9 : arg9.IsWhole) (arg10 : Memref sig .tc .vmem S1024x128 .bf16) (harg10 : arg10.IsWhole) (arg11 : Memref sig .tc .vmem S2048x256 .bf16) (harg11 : arg11.IsWhole) (arg12 : Memref sig .tc .vmem S2048x128 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x256 .f32) (harg15 : arg15.IsWhole)

/-- The remainder loop writes nothing. -/
theorem pb2_nil (arg1 v170 : BitVec 32) (c512 : BitVec 32) (v171 : BitVec 32) (v176 : BitVec 32) (v178 : BitVec 32) (v179 : BitVec 1) (v194 : IVec S1024x512 32) (v199 : BitVec 32)
    (X9 : BufTy.Contents (Elt F) arg9.view.ty) (X10 : BufTy.Contents (Elt F) arg10.view.ty) (X11 : BufTy.Contents (Elt F) arg11.view.ty) (X12 : BufTy.Contents (Elt F) arg12.view.ty)
    (G13 : BufTy.Contents (Elt F) arg13.view.ty) (G14 : BufTy.Contents (Elt F) arg14.view.ty) (G15 : BufTy.Contents (Elt F) arg15.view.ty) (n : ℕ) (hn : n = 0) :
    pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 v170 c512 v171 v176 v178 v179 v194 v199 X9 X10 X11 X12 G13 G14 G15 n = ([], [], []) := by
  subst hn; rw [pb_k0_t2.eq_1]

/-- Where the kernel does not copy the batch's keys, the tile it writes is `outTile` of some contents of the running buffers
    of which any invariant of the trips holds. -/
theorem out_B (hc0 : ¬cond0_0 i)
    (x0 : Vec F S1x128x512 .bf16) (x1 : Vec F S1x128x256 .bf16) (x2 : Vec F S1x2048x256 .f32) (x3 : Vec F S1x2048x128 .bf16) (x4 : Vec F S4x128x512 .bf16) (x5 : Vec F S8x256x128 .bf16) (xs2 : Vec F S2048x256 .bf16) (xs3 : Vec F S2048x128 .bf16)
    (Inv : ℕ → Vec F S1024x1 .f32 → Vec F S1024x1 .f32 → Vec F S1024x256 .f32 → Prop)
    (h0 : Inv 0 k0_pay49 k0_pay50 k0_pay51)
    (hs : ∀ (k : Fin (k0_t1_loop i).trips) (m l : Vec F S1024x1 .f32) (a : Vec F S1024x256 .f32), Inv k.val m l a →
      Inv (k.val + 1) (newM i (qLat x0 x4) (qRot x1) xs2 xs3 k m) (newL i (qLat x0 x4) (qRot x1) xs2 xs3 k m l) (newA i (qLat x0 x4) (qRot x1) xs2 xs3 k m a)) :
    ∃ m l a, Inv (k0_t1_loop i).trips m l a ∧ out0_B_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs2 xs3 = outTile x5 l a := by
  have H := fun v170 c512 v171 v176 v178 v179 => loop_inv c i arg2 harg2 arg3 harg3 arg4 harg4 arg5 harg5 arg6 harg6 arg7 harg7 arg8 harg8 arg9 harg9 arg10 harg10 arg11 harg11 arg12 harg12 arg13 harg13 arg14 harg14 arg15 harg15 v170 c512 v171 v176 v178 v179 (arg9.view.writes (Elt F) arg9.view.junk [⟨Rect.unit ![896, 0] S128x256.size inb_S1024x256_S128x256_896_0, k0_pay35 (k0_pay21 (View.ld x0 (Rect.unit (s := S1x128x512) ![0, 0, 0] S1x128x512.size inb_S1x128x512_S1x128x512_0_0_0))) (View.ld x4 (Rect.unit (s := S4x128x512) ![3, 0, 0] S1x128x512.size inb_S4x128x512_S1x128x512_3_0_0))⟩, ⟨Rect.unit ![768, 0] S128x256.size inb_S1024x256_S128x256_768_0, k0_pay34 (k0_pay21 (View.ld x0 (Rect.unit (s := S1x128x512) ![0, 0, 0] S1x128x512.size inb_S1x128x512_S1x128x512_0_0_0))) (View.ld x4 (Rect.unit (s := S4x128x512) ![3, 0, 0] S1x128x512.size inb_S4x128x512_S1x128x512_3_0_0))⟩, ⟨Rect.unit ![640, 0] S128x256.size inb_S1024x256_S128x256_640_0, k0_pay32 (k0_pay21 (View.ld x0 (Rect.unit (s := S1x128x512) ![0, 0, 0] S1x128x512.size inb_S1x128x512_S1x128x512_0_0_0))) (View.ld x4 (Rect.unit (s := S4x128x512) ![2, 0, 0] S1x128x512.size inb_S4x128x512_S1x128x512_2_0_0))⟩, ⟨Rect.unit ![512, 0] S128x256.size inb_S1024x256_S128x256_512_0, k0_pay31 (k0_pay21 (View.ld x0 (Rect.unit (s := S1x128x512) ![0, 0, 0] S1x128x512.size inb_S1x128x512_S1x128x512_0_0_0))) (View.ld x4 (Rect.unit (s := S4x128x512) ![2, 0, 0] S1x128x512.size inb_S4x128x512_S1x128x512_2_0_0))⟩, ⟨Rect.unit ![384, 0] S128x256.size inb_S1024x256_S128x256_384_0, k0_pay29 (k0_pay28 (View.ld x0 (Rect.unit (s := S1x128x512) ![0, 0, 0] S1x128x512.size inb_S1x128x512_S1x128x512_0_0_0)) (View.ld x4 (Rect.unit (s := S4x128x512) ![1, 0, 0] S1x128x512.size inb_S4x128x512_S1x128x512_1_0_0)))⟩, ⟨Rect.unit ![256, 0] S128x256.size inb_S1024x256_S128x256_256_0, k0_pay27 (View.ld x0 (Rect.unit (s := S1x128x512) ![0, 0, 0] S1x128x512.size inb_S1x128x512_S1x128x512_0_0_0)) (View.ld x4 (Rect.unit (s := S4x128x512) ![1, 0, 0] S1x128x512.size inb_S4x128x512_S1x128x512_1_0_0))⟩, ⟨Rect.unit ![128, 0] S128x256.size inb_S1024x256_S128x256_128_0, k0_pay25 (View.ld x0 (Rect.unit (s := S1x128x512) ![0, 0, 0] S1x128x512.size inb_S1x128x512_S1x128x512_0_0_0)) (View.ld x4 (Rect.unit (s := S4x128x512) ![0, 0, 0] S1x128x512.size inb_S4x128x512_S1x128x512_0_0_0))⟩, ⟨Rect.unit ![0, 0] S128x256.size inb_S1024x256_S128x256_0_0, k0_pay24 (View.ld x0 (Rect.unit (s := S1x128x512) ![0, 0, 0] S1x128x512.size inb_S1x128x512_S1x128x512_0_0_0)) (View.ld x4 (Rect.unit (s := S4x128x512) ![0, 0, 0] S1x128x512.size inb_S4x128x512_S1x128x512_0_0_0))⟩]) (arg10.view.writes (Elt F) arg10.view.junk [⟨Rect.unit ![896, 0] S128x128.size inb_S1024x128_S128x128_896_0, k0_pay48 (k0_pay46 (k0_pay22 (View.ld x1 (Rect.unit (s := S1x128x256) ![0, 0, 0] S1x128x256.size inb_S1x128x256_S1x128x256_0_0_0)))) (iota .tc S128x128 32 [1] iota_S128x128_d1_w32) k0_pay47⟩, ⟨Rect.unit ![768, 0] S128x128.size inb_S1024x128_S128x128_768_0, k0_pay45 (k0_pay22 (View.ld x1 (Rect.unit (s := S1x128x256) ![0, 0, 0] S1x128x256.size inb_S1x128x256_S1x128x256_0_0_0)))⟩, ⟨Rect.unit ![640, 0] S128x128.size inb_S1024x128_S128x128_640_0, k0_pay44 (k0_pay22 (View.ld x1 (Rect.unit (s := S1x128x256) ![0, 0, 0] S1x128x256.size inb_S1x128x256_S1x128x256_0_0_0)))⟩, ⟨Rect.unit ![512, 0] S128x128.size inb_S1024x128_S128x128_512_0, k0_pay43 (k0_pay22 (View.ld x1 (Rect.unit (s := S1x128x256) ![0, 0, 0] S1x128x256.size inb_S1x128x256_S1x128x256_0_0_0)))⟩, ⟨Rect.unit ![384, 0] S128x128.size inb_S1024x128_S128x128_384_0, k0_pay42 (k0_pay41 (k0_pay22 (View.ld x1 (Rect.unit (s := S1x128x256) ![0, 0, 0] S1x128x256.size inb_S1x128x256_S1x128x256_0_0_0))))⟩, ⟨Rect.unit ![256, 0] S128x128.size inb_S1024x128_S128x128_256_0, k0_pay40 (k0_pay22 (View.ld x1 (Rect.unit (s := S1x128x256) ![0, 0, 0] S1x128x256.size inb_S1x128x256_S1x128x256_0_0_0)))⟩, ⟨Rect.unit ![128, 0] S128x128.size inb_S1024x128_S128x128_128_0, k0_pay39 (k0_pay22 (View.ld x1 (Rect.unit (s := S1x128x256) ![0, 0, 0] S1x128x256.size inb_S1x128x256_S1x128x256_0_0_0)))⟩, ⟨Rect.unit ![0, 0] S128x128.size inb_S1024x128_S128x128_0_0, k0_pay38 (k0_pay36 (k0_pay22 (View.ld x1 (Rect.unit (s := S1x128x256) ![0, 0, 0] S1x128x256.size inb_S1x128x256_S1x128x256_0_0_0)))) k0_pay37 (Scalar.ofBits .bf16 0x0000#16)⟩]) (harg11.unread xs2) (harg12.unread xs3) Inv h0 (by
    rw [View.read_writes_junk_eq_canon, View.read_writes_junk_eq_canon, harg11.read_unread, harg12.read_unread]
    exact hs) _ le_rfl
  refine ⟨_, _, _, H (Scalar.subi (Scalar.addi (Scalar.muli (Scalar.addi (BitVec.ofNat 32 (i 1).val) 1#32) 128#32) 512#32) 1#32) 512#32 (Scalar.divsi (Scalar.subi (Scalar.addi (Scalar.muli (Scalar.addi (BitVec.ofNat 32 (i 1).val) 1#32) 128#32) 512#32) 1#32) 512#32) (Scalar.subi (Scalar.extui (Scalar.cmpi .sgt (Scalar.subi (Scalar.addi (Scalar.muli (Scalar.addi (BitVec.ofNat 32 (i 1).val) 1#32) 128#32) 512#32) 1#32) 0#32)) (Scalar.extui (Scalar.cmpi .slt (Scalar.subi (Scalar.addi (Scalar.muli (Scalar.addi (BitVec.ofNat 32 (i 1).val) 1#32) 128#32) 512#32) 1#32) 0#32))) (Scalar.extui (Scalar.cmpi .sgt 512#32 0#32)) (Scalar.cmpi .slt 512#32 0#32), ?_⟩
  · unfold out0_B_6
    rw [View.read_writes_junk_eq_canon]
    unfold kernelRun0_B
    dsimp only
    sl_unfold_words
    simp only [View.readCov_eq_canon', View.readAt_eq_ld, harg2.read_unread, harg3.read_unread, harg6.read_unread, harg7.read_unread]
    rw [pb2_nil]
    rotate_left
    · exact trips2 i
    · simp only [List.nil_append]
      rfl

/-- The same where the kernel first copies the batch's keys. -/
theorem out_A (hc0 : cond0_0 i)
    (x0 : Vec F S1x128x512 .bf16) (x1 : Vec F S1x128x256 .bf16) (x2 : Vec F S1x2048x256 .f32) (x3 : Vec F S1x2048x128 .bf16) (x4 : Vec F S4x128x512 .bf16) (x5 : Vec F S8x256x128 .bf16)
    (Inv : ℕ → Vec F S1024x1 .f32 → Vec F S1024x1 .f32 → Vec F S1024x256 .f32 → Prop)
    (h0 : Inv 0 k0_pay49 k0_pay50 k0_pay51)
    (hs : ∀ (k : Fin (k0_t1_loop i).trips) (m l : Vec F S1024x1 .f32) (a : Vec F S1024x256 .f32), Inv k.val m l a →
      Inv (k.val + 1) (newM i (qLat x0 x4) (qRot x1) (k0_pay19 x2) (k0_pay20 x3) k m) (newL i (qLat x0 x4) (qRot x1) (k0_pay19 x2) (k0_pay20 x3) k m l) (newA i (qLat x0 x4) (qRot x1) (k0_pay19 x2) (k0_pay20 x3) k m a)) :
    ∃ m l a, Inv (k0_t1_loop i).trips m l a ∧ out0_A_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = outTile x5 l a := by
  have H := fun v170 c512 v171 v176 v178 v179 => loop_inv c i arg2 harg2 arg3 harg3 arg4 harg4 arg5 harg5 arg6 harg6 arg7 harg7 arg8 harg8 arg9 harg9 arg10 harg10 arg11 harg11 arg12 harg12 arg13 harg13 arg14 harg14 arg15 harg15 v170 c512 v171 v176 v178 v179 (arg9.view.writes (Elt F) arg9.view.junk [⟨Rect.unit ![896, 0] S128x256.size inb_S1024x256_S128x256_896_0, k0_pay35 (k0_pay21 (View.ld x0 (Rect.unit (s := S1x128x512) ![0, 0, 0] S1x128x512.size inb_S1x128x512_S1x128x512_0_0_0))) (View.ld x4 (Rect.unit (s := S4x128x512) ![3, 0, 0] S1x128x512.size inb_S4x128x512_S1x128x512_3_0_0))⟩, ⟨Rect.unit ![768, 0] S128x256.size inb_S1024x256_S128x256_768_0, k0_pay34 (k0_pay21 (View.ld x0 (Rect.unit (s := S1x128x512) ![0, 0, 0] S1x128x512.size inb_S1x128x512_S1x128x512_0_0_0))) (View.ld x4 (Rect.unit (s := S4x128x512) ![3, 0, 0] S1x128x512.size inb_S4x128x512_S1x128x512_3_0_0))⟩, ⟨Rect.unit ![640, 0] S128x256.size inb_S1024x256_S128x256_640_0, k0_pay32 (k0_pay21 (View.ld x0 (Rect.unit (s := S1x128x512) ![0, 0, 0] S1x128x512.size inb_S1x128x512_S1x128x512_0_0_0))) (View.ld x4 (Rect.unit (s := S4x128x512) ![2, 0, 0] S1x128x512.size inb_S4x128x512_S1x128x512_2_0_0))⟩, ⟨Rect.unit ![512, 0] S128x256.size inb_S1024x256_S128x256_512_0, k0_pay31 (k0_pay21 (View.ld x0 (Rect.unit (s := S1x128x512) ![0, 0, 0] S1x128x512.size inb_S1x128x512_S1x128x512_0_0_0))) (View.ld x4 (Rect.unit (s := S4x128x512) ![2, 0, 0] S1x128x512.size inb_S4x128x512_S1x128x512_2_0_0))⟩, ⟨Rect.unit ![384, 0] S128x256.size inb_S1024x256_S128x256_384_0, k0_pay29 (k0_pay28 (View.ld x0 (Rect.unit (s := S1x128x512) ![0, 0, 0] S1x128x512.size inb_S1x128x512_S1x128x512_0_0_0)) (View.ld x4 (Rect.unit (s := S4x128x512) ![1, 0, 0] S1x128x512.size inb_S4x128x512_S1x128x512_1_0_0)))⟩, ⟨Rect.unit ![256, 0] S128x256.size inb_S1024x256_S128x256_256_0, k0_pay27 (View.ld x0 (Rect.unit (s := S1x128x512) ![0, 0, 0] S1x128x512.size inb_S1x128x512_S1x128x512_0_0_0)) (View.ld x4 (Rect.unit (s := S4x128x512) ![1, 0, 0] S1x128x512.size inb_S4x128x512_S1x128x512_1_0_0))⟩, ⟨Rect.unit ![128, 0] S128x256.size inb_S1024x256_S128x256_128_0, k0_pay25 (View.ld x0 (Rect.unit (s := S1x128x512) ![0, 0, 0] S1x128x512.size inb_S1x128x512_S1x128x512_0_0_0)) (View.ld x4 (Rect.unit (s := S4x128x512) ![0, 0, 0] S1x128x512.size inb_S4x128x512_S1x128x512_0_0_0))⟩, ⟨Rect.unit ![0, 0] S128x256.size inb_S1024x256_S128x256_0_0, k0_pay24 (View.ld x0 (Rect.unit (s := S1x128x512) ![0, 0, 0] S1x128x512.size inb_S1x128x512_S1x128x512_0_0_0)) (View.ld x4 (Rect.unit (s := S4x128x512) ![0, 0, 0] S1x128x512.size inb_S4x128x512_S1x128x512_0_0_0))⟩]) (arg10.view.writes (Elt F) arg10.view.junk [⟨Rect.unit ![896, 0] S128x128.size inb_S1024x128_S128x128_896_0, k0_pay48 (k0_pay46 (k0_pay22 (View.ld x1 (Rect.unit (s := S1x128x256) ![0, 0, 0] S1x128x256.size inb_S1x128x256_S1x128x256_0_0_0)))) (iota .tc S128x128 32 [1] iota_S128x128_d1_w32) k0_pay47⟩, ⟨Rect.unit ![768, 0] S128x128.size inb_S1024x128_S128x128_768_0, k0_pay45 (k0_pay22 (View.ld x1 (Rect.unit (s := S1x128x256) ![0, 0, 0] S1x128x256.size inb_S1x128x256_S1x128x256_0_0_0)))⟩, ⟨Rect.unit ![640, 0] S128x128.size inb_S1024x128_S128x128_640_0, k0_pay44 (k0_pay22 (View.ld x1 (Rect.unit (s := S1x128x256) ![0, 0, 0] S1x128x256.size inb_S1x128x256_S1x128x256_0_0_0)))⟩, ⟨Rect.unit ![512, 0] S128x128.size inb_S1024x128_S128x128_512_0, k0_pay43 (k0_pay22 (View.ld x1 (Rect.unit (s := S1x128x256) ![0, 0, 0] S1x128x256.size inb_S1x128x256_S1x128x256_0_0_0)))⟩, ⟨Rect.unit ![384, 0] S128x128.size inb_S1024x128_S128x128_384_0, k0_pay42 (k0_pay41 (k0_pay22 (View.ld x1 (Rect.unit (s := S1x128x256) ![0, 0, 0] S1x128x256.size inb_S1x128x256_S1x128x256_0_0_0))))⟩, ⟨Rect.unit ![256, 0] S128x128.size inb_S1024x128_S128x128_256_0, k0_pay40 (k0_pay22 (View.ld x1 (Rect.unit (s := S1x128x256) ![0, 0, 0] S1x128x256.size inb_S1x128x256_S1x128x256_0_0_0)))⟩, ⟨Rect.unit ![128, 0] S128x128.size inb_S1024x128_S128x128_128_0, k0_pay39 (k0_pay22 (View.ld x1 (Rect.unit (s := S1x128x256) ![0, 0, 0] S1x128x256.size inb_S1x128x256_S1x128x256_0_0_0)))⟩, ⟨Rect.unit ![0, 0] S128x128.size inb_S1024x128_S128x128_0_0, k0_pay38 (k0_pay36 (k0_pay22 (View.ld x1 (Rect.unit (s := S1x128x256) ![0, 0, 0] S1x128x256.size inb_S1x128x256_S1x128x256_0_0_0)))) k0_pay37 (Scalar.ofBits .bf16 0x0000#16)⟩]) (arg11.view.writes (Elt F) arg11.view.junk [⟨Rect.unit ![0, 0] S2048x256.size inb_S2048x256_S2048x256_0_0, k0_pay19 (View.ld x2 (Rect.unit (s := S1x2048x256) ![0, 0, 0] S1x2048x256.size inb_S1x2048x256_S1x2048x256_0_0_0))⟩]) (arg12.view.writes (Elt F) arg12.view.junk [⟨Rect.unit ![0, 0] S2048x128.size inb_S2048x128_S2048x128_0_0, k0_pay20 (View.ld x3 (Rect.unit (s := S1x2048x128) ![0, 0, 0] S1x2048x128.size inb_S1x2048x128_S1x2048x128_0_0_0))⟩]) Inv h0 (by
    rw [View.read_writes_junk_eq_canon, View.read_writes_junk_eq_canon, View.read_writes_junk_eq_canon, View.read_writes_junk_eq_canon,
      View.canon_unit_zero (S := S2048x256) hz, View.canon_unit_zero (S := S2048x128) hz, View.ld_unit_zero (S := S1x2048x256) hz3, View.ld_unit_zero (S := S1x2048x128) hz3]
    exact hs) _ le_rfl
  refine ⟨_, _, _, H (Scalar.subi (Scalar.addi (Scalar.muli (Scalar.addi (BitVec.ofNat 32 (i 1).val) 1#32) 128#32) 512#32) 1#32) 512#32 (Scalar.divsi (Scalar.subi (Scalar.addi (Scalar.muli (Scalar.addi (BitVec.ofNat 32 (i 1).val) 1#32) 128#32) 512#32) 1#32) 512#32) (Scalar.subi (Scalar.extui (Scalar.cmpi .sgt (Scalar.subi (Scalar.addi (Scalar.muli (Scalar.addi (BitVec.ofNat 32 (i 1).val) 1#32) 128#32) 512#32) 1#32) 0#32)) (Scalar.extui (Scalar.cmpi .slt (Scalar.subi (Scalar.addi (Scalar.muli (Scalar.addi (BitVec.ofNat 32 (i 1).val) 1#32) 128#32) 512#32) 1#32) 0#32))) (Scalar.extui (Scalar.cmpi .sgt 512#32 0#32)) (Scalar.cmpi .slt 512#32 0#32), ?_⟩
  · unfold out0_A_6
    rw [View.read_writes_junk_eq_canon]
    unfold kernelRun0_A
    dsimp only
    sl_unfold_words
    simp only [View.readCov_eq_canon', View.readAt_eq_ld, harg2.read_unread, harg3.read_unread, harg4.read_unread, harg5.read_unread, harg6.read_unread, harg7.read_unread]
    rw [pb2_nil]
    rotate_left
    · exact trips2 i
    · simp only [List.nil_append]
      rfl

/-- What the first point of a batch leaves in the copy of the latents; -/
theorem keep_A2 (hc0 : cond0_0 i)
    (x0 : Vec F S1x128x512 .bf16) (x1 : Vec F S1x128x256 .bf16) (x2 : Vec F S1x2048x256 .f32) (x3 : Vec F S1x2048x128 .bf16) (x4 : Vec F S4x128x512 .bf16) (x5 : Vec F S8x256x128 .bf16) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = k0_pay19 x2 := by
  unfold sout0_A_2
  rw [View.read_writes_junk_eq_canon]
  unfold kernelRun0_A
  dsimp only
  sl_unfold_words
  simp only [View.readAt_eq_ld, harg4.read_unread, View.canon_unit_zero (S := S2048x256) hz, View.ld_unit_zero (S := S1x2048x256) hz3]

/-- and in the copy of the rotated keys. -/
theorem keep_A3 (hc0 : cond0_0 i)
    (x0 : Vec F S1x128x512 .bf16) (x1 : Vec F S1x128x256 .bf16) (x2 : Vec F S1x2048x256 .f32) (x3 : Vec F S1x2048x128 .bf16) (x4 : Vec F S4x128x512 .bf16) (x5 : Vec F S8x256x128 .bf16) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 = k0_pay20 x3 := by
  unfold sout0_A_3
  rw [View.read_writes_junk_eq_canon]
  unfold kernelRun0_A
  dsimp only
  sl_unfold_words
  simp only [View.readAt_eq_ld, harg5.read_unread, View.canon_unit_zero (S := S2048x128) hz, View.ld_unit_zero (S := S1x2048x128) hz3]
end
end Cert.KernelIdeal.Body
end
-- ==== Proof.Online.lean ====
module

public import Idealize.ShloMosaic.PureOps.Ideal

@[expose] public section

noncomputable section

open Idealize.ShloMosaic Finset

/-! The arithmetic of a causal softmax over real scores, apart from any program: the weighted mean that it is, what a
    running maximum, sum and weighted sum hold after each block of 512 keys, and what the textbook form computes. -/

namespace Cert.Online

/-- The sum of reals, read as an extended real, is the sum of the reals so read. -/
theorem coe_sum {ι : Type*} (t : Finset ι) (f : ι → ℝ) : ((∑ k ∈ t, f k : ℝ) : EReal) = ∑ k ∈ t, (f k : EReal) := by
  classical
  induction t using Finset.induction_on with
  | empty => simp
  | insert x t hx ih => rw [sum_insert hx, sum_insert hx, EReal.coe_add, ih]

variable (a v : ℕ → ℝ) (p : ℕ)

/-- The sum, over the first `N` keys, of the exponentials of the visible scores less `M`. -/
def den (M : ℝ) (N : ℕ) : ℝ := ∑ k ∈ range N, if k ≤ p then Real.exp (a k - M) else 0

/-- The same sum weighted by `v`. -/
def num (M : ℝ) (N : ℕ) : ℝ := ∑ k ∈ range N, if k ≤ p then Real.exp (a k - M) * v k else 0

/-- The attention's value for a query at position `p`: the mean of `v` over the visible keys, weighted by the
    exponentials of their scores. -/
def att : ℝ := num a v p 0 (p + 1) / den a p 0 (p + 1)

theorem den_shift (M M' : ℝ) (N : ℕ) : den a p M' N = den a p M N * Real.exp (M - M') := by
  rw [den, den, sum_mul]
  refine sum_congr rfl fun k _ => ?_
  by_cases h : k ≤ p
  · rw [if_pos h, if_pos h, ← Real.exp_add]; congr 1; ring
  · rw [if_neg h, if_neg h, zero_mul]

theorem num_shift (M M' : ℝ) (N : ℕ) : num a v p M' N = num a v p M N * Real.exp (M - M') := by
  rw [num, num, sum_mul]
  refine sum_congr rfl fun k _ => ?_
  by_cases h : k ≤ p
  · rw [if_pos h, if_pos h, mul_right_comm, ← Real.exp_add]; congr 2; ring
  · rw [if_neg h, if_neg h, zero_mul]

theorem den_cut (M : ℝ) {N : ℕ} (h : p < N) : den a p M N = den a p M (p + 1) := by
  refine (sum_subset (range_subset_range.2 h) fun k _ hk => if_neg ?_).symm
  rw [mem_range] at hk; omega

theorem num_cut (M : ℝ) {N : ℕ} (h : p < N) : num a v p M N = num a v p M (p + 1) := by
  refine (sum_subset (range_subset_range.2 h) fun k _ hk => if_neg ?_).symm
  rw [mem_range] at hk; omega

theorem den_pos (M : ℝ) {N : ℕ} (h : p < N) : 0 < den a p M N := by
  refine sum_pos' (fun k _ => ?_) ⟨0, mem_range.2 (by omega), ?_⟩
  · split <;> positivity
  · rw [if_pos (Nat.zero_le p)]; positivity

/-- The quotient of the two sums does not depend on what is subtracted from the scores. -/
theorem quot_eq (M : ℝ) {N : ℕ} (h : p < N) : num a v p M N / den a p M N = att a v p := by
  rw [att, num_cut a v p M h, den_cut a p M h, num_shift a v p 0 M, den_shift a p 0 M]
  exact mul_div_mul_right _ _ (Real.exp_ne_zero _)

/-- A maximum of extended reals that are reals or `⊥`, one of them real, is real. -/
theorem exists_fold_max {n : ℕ} (s : Fin n → EReal) (hlt : ∀ c, s c < ⊤) (c0 : Fin n) (r : ℝ) (h0 : s c0 = r) :
    ∃ M : ℝ, univ.fold max (⊥ : EReal) s = M := by
  have htop : univ.fold max (⊥ : EReal) s < ⊤ := (fold_max_lt _).2 ⟨bot_lt_top, fun c _ => hlt c⟩
  have hbot : ⊥ < univ.fold max (⊥ : EReal) s :=
    lt_of_lt_of_le (h0 ▸ EReal.bot_lt_coe r) ((le_fold_max _).2 (.inr ⟨c0, mem_univ _, le_rfl⟩))
  exact ⟨_, (EReal.coe_toReal htop.ne hbot.ne').symm⟩

/-- A row's running values after `j` blocks of 512 keys: nothing yet, or some real `M` and the sums that go with it. -/
def Row (j : ℕ) (m l x : EReal) : Prop :=
  (j = 0 ∧ m = ⊥ ∧ l = 0 ∧ x = 0)
  ∨ (0 < j ∧ ∃ M : ℝ, m = M ∧ l = (den a p M (512 * j) : ℝ) ∧ x = (num a v p M (512 * j) : ℝ))

theorem exp_score (M : ℝ) (k : ℕ) (s : EReal) (hs : s = if k ≤ p then ((a k : ℝ) : EReal) else ⊥) :
    Ideal.exp (s - (M : EReal)) = ((if k ≤ p then Real.exp (a k - M) else 0 : ℝ) : EReal) := by
  rw [hs]
  by_cases h : k ≤ p
  · rw [if_pos h, if_pos h, ← EReal.coe_sub, Ideal.exp_coe]
  · rw [if_neg h, if_neg h, EReal.bot_sub, Ideal.exp_bot, EReal.coe_zero]

/-- One block more: the new maximum, the sums rescaled to it and the block's own terms added. -/
theorem Row.step {j : ℕ} {m l x : EReal} (h : Row a v p j m l x) (s w : Fin 512 → EReal)
    (hs : ∀ c : Fin 512, s c = if 512 * j + (c : ℕ) ≤ p then ((a (512 * j + (c : ℕ)) : ℝ) : EReal) else ⊥)
    (hw : ∀ c : Fin 512, w c = ((v (512 * j + (c : ℕ)) : ℝ) : EReal)) (m' : EReal)
    (hm' : m' = max m (univ.fold max (⊥ : EReal) s)) :
    Row a v p (j + 1) m' (l * Ideal.exp (m - m') + ∑ c, Ideal.exp (s c - m'))
      (x * Ideal.exp (m - m') + ∑ c, Ideal.exp (s c - m') * w c) := by
  have hlt : ∀ c, s c < ⊤ := fun c => by
    rw [hs]; split
    · exact EReal.coe_lt_top _
    · exact bot_lt_top
  have key : ∀ M' : ℝ, m' = M' → (∑ c, Ideal.exp (s c - m') = ((den a p M' (512 * (j + 1)) - den a p M' (512 * j) : ℝ) : EReal))
      ∧ (∑ c, Ideal.exp (s c - m') * w c = ((num a v p M' (512 * (j + 1)) - num a v p M' (512 * j) : ℝ) : EReal)) := by
    intro M' e
    subst e
    constructor
    · rw [den, den, mul_add, mul_one, sum_range_add, add_sub_cancel_left, ← Fin.sum_univ_eq_sum_range (fun k => if 512 * j + k ≤ p then Real.exp (a (512 * j + k) - M') else 0) 512, coe_sum]
      exact sum_congr rfl fun c _ => exp_score a p M' _ _ (hs c)
    · rw [num, num, mul_add, mul_one, sum_range_add, add_sub_cancel_left, ← Fin.sum_univ_eq_sum_range (fun k => if 512 * j + k ≤ p then Real.exp (a (512 * j + k) - M') * v (512 * j + k) else 0) 512, coe_sum]
      refine sum_congr rfl fun c _ => ?_
      rw [exp_score a p M' _ _ (hs c), hw c, ← EReal.coe_mul]
      congr 1
      split <;> simp
  refine .inr ⟨Nat.succ_pos _, ?_⟩
  rcases h with ⟨rfl, rfl, rfl, rfl⟩ | ⟨hj, M, rfl, rfl, rfl⟩
  · obtain ⟨M', hM'⟩ := exists_fold_max s hlt 0 (a 0) (by rw [hs 0]; exact if_pos (Nat.zero_le _))
    rw [max_eq_right bot_le, hM'] at hm'
    obtain ⟨k1, k2⟩ := key M' hm'
    refine ⟨M', hm', ?_, ?_⟩
    · rw [k1, zero_mul, zero_add, mul_zero, den, den, range_zero, sum_empty, sub_zero]
    · rw [k2, zero_mul, zero_add, mul_zero, num, num, range_zero, sum_empty, sub_zero]
  · obtain ⟨M', hM'⟩ : ∃ M' : ℝ, m' = M' := by
      have htop : m' < ⊤ := hm' ▸ max_lt (EReal.coe_lt_top M) ((fold_max_lt _).2 ⟨bot_lt_top, fun c _ => hlt c⟩)
      have hbot : ⊥ < m' := hm' ▸ lt_of_lt_of_le (EReal.bot_lt_coe M) (le_max_left _ _)
      exact ⟨_, (EReal.coe_toReal htop.ne hbot.ne').symm⟩
    obtain ⟨k1, k2⟩ := key M' hM'
    refine ⟨M', hM', ?_, ?_⟩
    · rw [k1, hM', ← EReal.coe_sub, Ideal.exp_coe, ← EReal.coe_mul, ← den_shift, ← EReal.coe_add]; congr 1; ring
    · rw [k2, hM', ← EReal.coe_sub, Ideal.exp_coe, ← EReal.coe_mul, ← num_shift, ← EReal.coe_add]; congr 1; ring

/-- After every visible key, the weighted sum times the reciprocal of the sum is the attention's value. -/
theorem Row.att_eq {j : ℕ} {m l x : EReal} (h : Row a v p j m l x) (hj : p < 512 * j) :
    x * Ideal.div 1 l = (att a v p : ℝ) := by
  rcases h with ⟨rfl, _⟩ | ⟨_, M, rfl, rfl, rfl⟩
  · omega
  · rw [Ideal.div_coe (den_pos a p M hj).ne', one_mul, ← EReal.coe_mul, mul_one_div, quot_eq a v p M hj]

/-- The textbook form: subtract the row's maximum, exponentiate, divide by the sum, and weigh `v` with the quotients. -/
theorem softmax_eq {n : ℕ} (hp : p < n) (s w : Fin n → EReal)
    (hs : ∀ k : Fin n, s k = if (k : ℕ) ≤ p then ((a k : ℝ) : EReal) else ⊥) (hw : ∀ k : Fin n, w k = ((v k : ℝ) : EReal))
    (m : EReal) (hm : m = univ.fold max (⊥ : EReal) s) :
    ∑ k, w k * Ideal.div (Ideal.exp (s k - m)) (∑ k, Ideal.exp (s k - m)) = (att a v p : ℝ) := by
  have hlt : ∀ c, s c < ⊤ := fun c => by
    rw [hs]; split
    · exact EReal.coe_lt_top _
    · exact bot_lt_top
  obtain ⟨M, hM⟩ := exists_fold_max s hlt ⟨0, by omega⟩ (a 0) (by rw [hs]; exact if_pos (Nat.zero_le _))
  rw [hM] at hm
  subst hm
  have e1 : ∑ k, Ideal.exp (s k - (M : EReal)) = ((den a p M n : ℝ) : EReal) := by
    rw [den, ← Fin.sum_univ_eq_sum_range (fun k => if k ≤ p then Real.exp (a k - M) else 0) n, coe_sum]
    exact sum_congr rfl fun c _ => exp_score a p M _ _ (hs c)
  rw [e1, ← quot_eq a v p M hp, div_eq_mul_one_div, num, ← Fin.sum_univ_eq_sum_range (fun k => if k ≤ p then Real.exp (a k - M) * v k else 0) n, sum_mul, coe_sum]
  refine sum_congr rfl fun k _ => ?_
  rw [exp_score a p M _ _ (hs k), hw k, Ideal.div_coe (den_pos a p M hp).ne', ← EReal.coe_mul, ← EReal.coe_mul]
  congr 1
  split <;> ring

end Cert.Online

end
-- ==== Proof.Tile.lean ====
module

public import proofs.«01_k».proof.Proof.Body
public import proofs.«01_k».proof.Proof.Online
public import Idealize.ShloMosaic.Lib.Pointwise
public import Idealize.ShloMosaic.Lib.Pipeline.ValueKit
public import Idealize.ShloMosaic.Lib.WordArith.Masks

@[expose] public section

set_option maxRecDepth 16384
set_option maxHeartbeats 2000000

noncomputable section

open Idealize.ShloMosaic Idealize.ShloMosaic.TcCoe Idealize.SL.Sem

/-! What one grid point computes, element by element, in exact arithmetic: the scores' operands, one trip of the loop, and
    the tile that is stored. -/

namespace Cert.KernelIdeal.Tile
open Cert.KernelIdeal Cert.KernelIdeal.Gen Cert.KernelIdeal.Body

/-- The latent query of row `y` (head `y / 128`, query `y % 128`): its pair of heads' 128 numbers against the pair's matrix. -/
theorem qLat_apply (x0 : Vec Ideal S1x128x512 .bf16) (x4 : Vec Ideal S4x128x512 .bf16) (y : Fin 1024) (c : Fin 256) :
    qLat x0 x4 (ix2 y c) = ∑ k : Fin 128, x0 (ix3 0 ⟨y % 128, by omega⟩ ⟨128 * (y / 256) + k, by omega⟩) * x4 (ix3 ⟨y / 256, by omega⟩ k ⟨256 * (y / 128 % 2) + c, by omega⟩) := by
  unfold qLat
  canon_tiles x h
  all_goals
    idx_vars x
    try simp only [ix2_0, ix2_1] at *
    unfold_payloads
    pointwise []
    refine Finset.sum_congr rfl fun k _ => ?_
    congr 2 <;> idx_ext <;> (try simp only [Fin.ext_iff]) <;> omega

theorem lanes0 (x : Fin 128) : IntOp.andi (IntOp.cmpi CmpIPredicate.sge (BitVec.ofNat 32 ↑x) 0#32) (IntOp.cmpi CmpIPredicate.slt (BitVec.ofNat 32 ↑x) 32#32) = if (x : ℕ) / 32 = 0 then 1#1 else 0#1 := by
  revert x; decide +kernel
theorem lanes1 (x : Fin 128) : IntOp.andi (IntOp.cmpi CmpIPredicate.sge (BitVec.ofNat 32 ↑x) 32#32) (IntOp.cmpi CmpIPredicate.slt (BitVec.ofNat 32 ↑x) 64#32) = if (x : ℕ) / 32 = 1 then 1#1 else 0#1 := by
  revert x; decide +kernel
theorem lanes2 (x : Fin 128) : IntOp.andi (IntOp.cmpi CmpIPredicate.sge (BitVec.ofNat 32 ↑x) 64#32) (IntOp.cmpi CmpIPredicate.slt (BitVec.ofNat 32 ↑x) 96#32) = if (x : ℕ) / 32 = 2 then 1#1 else 0#1 := by
  revert x; decide +kernel
theorem lanes3 (x : Fin 128) : IntOp.andi (IntOp.cmpi CmpIPredicate.sge (BitVec.ofNat 32 ↑x) 96#32) (IntOp.cmpi CmpIPredicate.slt (BitVec.ofNat 32 ↑x) 128#32) = if (x : ℕ) / 32 = 3 then 1#1 else 0#1 := by
  revert x; decide +kernel

theorem select_ite {α : Type} (P : Prop) [Decidable P] (a b : α) : Scalar.select (if P then 1#1 else 0#1) a b = if P then a else b := by
  by_cases h : P <;> simp [Scalar.select, h]

/-- The rotated query of row `y`, nonzero in its head's 32 lanes alone. -/
theorem qRot_apply (x1 : Vec Ideal S1x128x256 .bf16) (y : Fin 1024) (c : Fin 128) :
    qRot x1 (ix2 y c) = if (c : ℕ) / 32 = y / 128 % 4 then x1 (ix3 0 ⟨y % 128, by omega⟩ ⟨128 * (y / 512) + c, by omega⟩) else 0 := by
  unfold qRot
  canon_tiles x h
  all_goals
    idx_vars x
    try simp only [ix2_0, ix2_1] at *
    unfold_payloads
    pointwise []
    simp only [lanes0, lanes1, lanes2, lanes3, select_ite]
    refine if_congr (by omega) ?_ rfl
    congr 1; idx_ext <;> (try simp only [Fin.ext_iff]) <;> omega

/-- The tile of outputs: column `c` takes its two heads' weighted sums, each divided by its sum of exponentials. -/
theorem outTile_apply (x5 : Vec Ideal S8x256x128 .bf16) (l : Vec Ideal S1024x1 .f32) (a : Vec Ideal S1024x256 .f32) (z : Fin 1) (r : Fin 128) (c : Fin 512) :
    outTile x5 l a (ix3 z r c) =
      ∑ k : Fin 256, a (ix2 ⟨256 * (c / 128) + r, by omega⟩ k) * Ideal.div 1 (l (ix2 ⟨256 * (c / 128) + r, by omega⟩ 0)) * x5 (ix3 ⟨2 * (c / 128), by omega⟩ k ⟨c % 128, by omega⟩)
      + ∑ k : Fin 256, a (ix2 ⟨256 * (c / 128) + 128 + r, by omega⟩ k) * Ideal.div 1 (l (ix2 ⟨256 * (c / 128) + 128 + r, by omega⟩ 0)) * x5 (ix3 ⟨2 * (c / 128) + 1, by omega⟩ k ⟨c % 128, by omega⟩) := by
  unfold outTile
  canon_tiles x h
  all_goals
    idx_vars x
    try simp only [ix3_0, ix3_1, ix3_2] at *
    unfold_payloads
    pointwise []
    refine congrArg₂ (· + ·) ?_ ?_ <;> refine Finset.sum_congr rfl fun k _ => ?_ <;>
      refine congrArg₂ (· * ·) (congrArg₂ (· * ·) (congrArg a ?_) (congrArg (fun j => Ideal.div 1 (l j)) ?_)) (congrArg x5 ?_) <;>
      idx_ext <;> (try simp only [Fin.ext_iff]) <;> (try omega)

/-- A trip's first row. -/
theorem row_off (k : ℕ) (hk : k < 4) : BitVec.toNat (Scalar.indexCast (Scalar.muli (Scf.iv 0#32 1#32 k) 512#32)) = 512 * k := by
  have e : k = 0 ∨ k = 1 ∨ k = 2 ∨ k = 3 := by omega
  rcases e with rfl | rfl | rfl | rfl <;> rfl

/-- The causal mask of trip `k`, as a statement about positions. -/
theorem visible (b k x r : ℕ) (hb : b < 16) (hk : k < 4) (hx : x < 512) (hr : r < 1024) :
    IntOp.cmpi CmpIPredicate.sle (IntOp.addi (BitVec.ofNat 32 x) (Scalar.muli (Scf.iv 0#32 1#32 k) 512#32))
      (IntOp.addi (Scalar.muli (BitVec.ofNat 32 b) 128#32) (IntOp.andi (BitVec.ofNat 32 r) 127#32))
    = if 512 * k + x ≤ 128 * b + r % 128 then 1#1 else 0#1 := by
  have e1 : (IntOp.addi (BitVec.ofNat 32 x) (Scalar.muli (Scf.iv 0#32 1#32 k) 512#32)).toNat = 512 * k + x := by
    have h := WordArith.toNat_iv_zero_one k (by omega)
    show (BitVec.ofNat 32 x + Scf.iv 0#32 1#32 k * 512#32).toNat = _
    rw [BitVec.toNat_add, BitVec.toNat_mul, h, BitVec.toNat_ofNat, BitVec.toNat_ofNat]
    omega
  have e2 : (IntOp.addi (Scalar.muli (BitVec.ofNat 32 b) 128#32) (IntOp.andi (BitVec.ofNat 32 r) 127#32)).toNat = 128 * b + r % 128 := by
    have h := WordArith.toNat_andi_lowMask (BitVec.ofNat 32 r) 127#32 7 rfl
    show (BitVec.ofNat 32 b * 128#32 + Scalar.andi (BitVec.ofNat 32 r) 127#32).toNat = _
    rw [BitVec.toNat_add, BitVec.toNat_mul, h, BitVec.toNat_ofNat, BitVec.toNat_ofNat, BitVec.toNat_ofNat]
    omega
  have e3 : IntOp.cmpi CmpIPredicate.sle (IntOp.addi (BitVec.ofNat 32 x) (Scalar.muli (Scf.iv 0#32 1#32 k) 512#32))
      (IntOp.addi (Scalar.muli (BitVec.ofNat 32 b) 128#32) (IntOp.andi (BitVec.ofNat 32 r) 127#32)) = 1#1 ↔ 512 * k + x ≤ 128 * b + r % 128 := by
    rw [IntOp.cmpi_sle, BitVec.toInt_eq_toNat_of_lt (by omega), BitVec.toInt_eq_toNat_of_lt (by omega), e1, e2]
    omega
  by_cases h : 512 * k + x ≤ 128 * b + r % 128
  · rw [if_pos h]; exact e3.2 h
  · rw [if_neg h]
    rcases BitVec.eq_zero_or_eq_one (IntOp.cmpi CmpIPredicate.sle (IntOp.addi (BitVec.ofNat 32 x) (Scalar.muli (Scf.iv 0#32 1#32 k) 512#32))
      (IntOp.addi (Scalar.muli (BitVec.ofNat 32 b) 128#32) (IntOp.andi (BitVec.ofNat 32 r) 127#32))) with h' | h'
    · exact h'
    · exact absurd (e3.1 h') h

theorem negInf : Ideal.ofBits FTy.f32 0xFF800000#32 = ⊥ := by simp [Ideal.ofBits, Ideal.ieee]

/-- One trip keeps the running values of every row and column to the attention's partial sums. -/
theorem step (i : grid0.Coords) (q : Vec Ideal S1024x256 .bf16) (q2 : Vec Ideal S1024x128 .bf16) (ks : Vec Ideal S2048x256 .bf16)
    (k2s : Vec Ideal S2048x128 .bf16) (k : Fin (k0_t1_loop i).trips) (m l : Vec Ideal S1024x1 .f32) (a : Vec Ideal S1024x256 .f32)
    (A W : ℕ → ℝ) (r : Fin 1024) (c : Fin 256)
    (hA : ∀ n : Fin 2048, ∑ d : Fin 256, q (ix2 r d) * ks (ix2 n d) + ∑ d : Fin 128, q2 (ix2 r d) * k2s (ix2 n d) = ((A n : ℝ) : EReal))
    (hW : ∀ n : Fin 2048, ks (ix2 n c) = ((W n : ℝ) : EReal))
    (h : Online.Row A W (128 * (i 1).val + r % 128) k.val (m (ix2 r 0)) (l (ix2 r 0)) (a (ix2 r c))) :
    Online.Row A W (128 * (i 1).val + r % 128) (k.val + 1) (newM i q q2 ks k2s k m (ix2 r 0)) (newL i q q2 ks k2s k m l (ix2 r 0)) (newA i q q2 ks k2s k m a (ix2 r c)) := by
  have hb : (i 1).val < 16 := (i 1).isLt
  have hk : k.val < 4 := by have := lt_of_lt_of_eq k.isLt (trips1 i); omega
  have hsel : ∀ x : Fin 512, Scalar.select (IntOp.cmpi CmpIPredicate.sle (IntOp.addi (BitVec.ofNat 32 x.val) (Scalar.muli (Scf.iv 0#32 1#32 k.val) 512#32))
      (IntOp.addi (Scalar.muli (BitVec.ofNat 32 (i 1).val) 128#32) (IntOp.andi (BitVec.ofNat 32 r.val) 127#32)))
      (∑ d : Fin 256, q (ix2 r d) * ks (ix2 ⟨512 * k.val + x.val, by omega⟩ d) + ∑ d : Fin 128, q2 (ix2 r d) * k2s (ix2 ⟨512 * k.val + x.val, by omega⟩ d))
      (Named.named (F := Ideal) κ "mask" (φ := .f32) 0xF149F2CA#32)
      = if 512 * k.val + x.val ≤ 128 * (i 1).val + r.val % 128 then ((A (512 * k.val + x.val) : ℝ) : EReal) else ⊥ := fun x => by
    rw [visible _ _ _ _ hb hk x.isLt r.isLt, select_ite, hA]
    rfl
  have H := h.step A W _ (fun x : Fin 512 => if 512 * k.val + x.val ≤ 128 * (i 1).val + r.val % 128 then ((A (512 * k.val + x.val) : ℝ) : EReal) else ⊥)
    (fun x : Fin 512 => ks (ix2 ⟨512 * k.val + x.val, by omega⟩ c)) (fun _ => rfl) (fun x => hW _) _ rfl
  pointwise [newM, newL, newA, k0_pay54, k0_pay53, k0_pay6, k0_pay5, k0_pay7, k0_pay8, k0_pay9, k0_pay10, k0_pay11, k0_pay52, blkK, blkR, col, k0_off1, k0_off2]
  simp only [row_off _ hk, hsel, negInf]
  exact H

end Cert.KernelIdeal.Tile

end
-- ==== Proof.Operands.lean ====
module
public import proofs.«01_k».proof.Proof.Tile
public import proofs.«01_k».proof.Proof.Gen.KernelIdeal.Value
public import Idealize.ShloMosaic.Lib.Pointwise
public import Idealize.ShloMosaic.Lib.Claim
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 2000000

noncomputable section

open Idealize.ShloMosaic Idealize.ShloMosaic.TcCoe Idealize.SL.Sem

namespace Cert.KernelIdeal.Operands

open Cert.KernelIdeal Cert.KernelIdeal.Gen Cert.KernelIdeal.Body

theorem idx : ∀ t : Fin cfg0.N, win0_0.index t = ![t.val / 16, t.val % 16, 0]
    ∧ win0_1.index t = ![t.val / 16, t.val % 16, 0]
    ∧ win0_2.index t = ![t.val / 16, 0, 0]
    ∧ win0_3.index t = ![t.val / 16, 0, 0]
    ∧ win0_4.index t = ![0, 0, 0]
    ∧ win0_5.index t = ![0, 0, 0]
    ∧ (grid0.coords t 1).val = t.val % 16 ∧ t.val / 16 < 8 :=
  (by decide +kernel : ∀ t : Fin grid0.N, _)

variable (m : (ℓ : Loc nD τ sig) → Buf (Elt Ideal) ℓ) (c : Dev nD)

/-- The arguments' arrays at launch. -/
abbrev q0 : Vec Ideal S8x2048x512 .f32 := m ((c : Thread nD τ).loc main_arg0)
/-- The rotary queries. -/
abbrev q1 : Vec Ideal S8x2048x256 .f32 := m ((c : Thread nD τ).loc main_arg1)
/-- The latents. -/
abbrev kv : Vec Ideal S8x2048x256 .f32 := m ((c : Thread nD τ).loc main_arg2)
/-- The rotary keys. -/
abbrev kr : Vec Ideal S8x2048x32 .f32 := m ((c : Thread nD τ).loc main_arg3)
/-- The keys' matrix. -/
abbrev wk : Vec Ideal S256x8x64 .f32 := m ((c : Thread nD τ).loc main_arg4)
/-- The values' matrix. -/
abbrev wv : Vec Ideal S256x8x64 .f32 := m ((c : Thread nD τ).loc main_arg5)

theorem arr0 (b : Fin 8) (s : Fin 2048) (e : Fin 512) :
    (V m c main_v2 : Vec Ideal S8x2048x512 .bf16) (ix3 b s e) = q0 m c (ix3 b s e) * Ideal.ofBits FTy.f32 0x3DD105EC#32 := by
  entry_read
  pointwise

theorem arr1 (b : Fin 8) (s : Fin 2048) (e : Fin 256) :
    (V m c main_v5 : Vec Ideal S8x2048x256 .bf16) (ix3 b s e) = q1 m c (ix3 b s e) * Ideal.ofBits FTy.f32 0x3DD105EC#32 := by
  entry_read
  pointwise

theorem arr3 (b : Fin 8) (s : Fin 2048) (e : Fin 128) :
    (V m c main_v7 : Vec Ideal S8x2048x128 .bf16) (ix3 b s e) = kr m c (ix3 b s ⟨e % 32, by omega⟩) := by
  entry_read
  pointwise
  have he := e.isLt
  split_ifs <;> refine congrArg (kr m c) ?_ <;> idx_ext <;> (try simp only [Fin.ext_iff]) <;> omega

/-- The keys' matrix two heads at a time: head `2 g` above on the left, head `2 g + 1` below on the right, zeros elsewhere. -/
theorem arr4 (g : Fin 4) (k : Fin 128) (e : Fin 512) :
    (V m c main_v45 : Vec Ideal S4x128x512 .bf16) (ix3 g k e) = if k.val / 64 = e.val / 256 then wk m c (ix3 ⟨e % 256, by omega⟩ ⟨2 * g + k / 64, by omega⟩ ⟨k % 64, by omega⟩) else 0 := by
  have hg := g.isLt
  have hk := k.isLt
  have he := e.isLt
  unfold V
  after_reads_simp
  pointwise
  after_reads_simp
  pointwise
  after_reads_simp
  pointwise
  split_ifs <;> first | rfl | (exfalso; omega) | (refine congrArg (wk m c) ?_ <;> idx_ext <;> (try simp only [Fin.ext_iff]) <;> omega) | (refine Eq.trans ?_ (if_pos (by omega)).symm; refine congrArg (wk m c) ?_ <;> idx_ext <;> (try simp only [Fin.ext_iff]) <;> omega)

/-- The values' matrix head by head: an even head's columns on the left, an odd head's on the right, zeros elsewhere. -/
theorem arr5 (h : Fin 8) (k : Fin 256) (e : Fin 128) :
    (V m c main_v83 : Vec Ideal S8x256x128 .bf16) (ix3 h k e) = if e.val / 64 = h.val % 2 then wv m c (ix3 k h ⟨e % 64, by omega⟩) else 0 := by
  have hg := h.isLt
  have hk := k.isLt
  have he := e.isLt
  unfold V
  after_reads_simp
  pointwise
  after_reads_simp
  pointwise
  after_reads_simp
  pointwise
  split_ifs <;> first | rfl | (exfalso; omega) | (refine congrArg (wv m c) ?_ <;> idx_ext <;> (try simp only [Fin.ext_iff]) <;> omega) | (refine Eq.trans ?_ (if_pos (by omega)).symm; refine congrArg (wv m c) ?_ <;> idx_ext <;> (try simp only [Fin.ext_iff]) <;> omega)

/-! The blocks of point `t`: batch `t / 16`, queries `128 (t % 16) …`. -/

theorem blk0 (t : Fin cfg0.N) (r : Fin 128) (e : Fin 512) :
    (iblk m c 0 t : Vec Ideal S1x128x512 .bf16) (ix3 0 r e) = q0 m c (ix3 ⟨t / 16, (idx t).2.2.2.2.2.2.2⟩ ⟨128 * (t % 16) + r, by omega⟩ e) * Ideal.ofBits FTy.f32 0x3DD105EC#32 := by
  rw [← arr0]
  blk_ext [iblk, idx t]

theorem blk1 (t : Fin cfg0.N) (r : Fin 128) (e : Fin 256) :
    (iblk m c 1 t : Vec Ideal S1x128x256 .bf16) (ix3 0 r e) = q1 m c (ix3 ⟨t / 16, (idx t).2.2.2.2.2.2.2⟩ ⟨128 * (t % 16) + r, by omega⟩ e) * Ideal.ofBits FTy.f32 0x3DD105EC#32 := by
  rw [← arr1]
  blk_ext [iblk, idx t]

theorem blk2 (t : Fin cfg0.N) (n : Fin 2048) (d : Fin 256) :
    (iblk m c 2 t : Vec Ideal S1x2048x256 .f32) (ix3 0 n d) = kv m c (ix3 ⟨t / 16, (idx t).2.2.2.2.2.2.2⟩ n d) := by
  blk_ext [iblk, V, idx t]

theorem blk3 (t : Fin cfg0.N) (n : Fin 2048) (e : Fin 128) :
    (iblk m c 3 t : Vec Ideal S1x2048x128 .bf16) (ix3 0 n e) = kr m c (ix3 ⟨t / 16, (idx t).2.2.2.2.2.2.2⟩ n ⟨e % 32, by omega⟩) := by
  rw [← arr3]
  blk_ext [iblk, idx t]

theorem blk4 (t : Fin cfg0.N) (g : Fin 4) (k : Fin 128) (e : Fin 512) :
    (iblk m c 4 t : Vec Ideal S4x128x512 .bf16) (ix3 g k e) = if k.val / 64 = e.val / 256 then wk m c (ix3 ⟨e % 256, by omega⟩ ⟨2 * g + k / 64, by omega⟩ ⟨k % 64, by omega⟩) else 0 := by
  rw [← arr4]
  blk_ext [iblk, idx t]

theorem blk5 (t : Fin cfg0.N) (h : Fin 8) (k : Fin 256) (e : Fin 128) :
    (iblk m c 5 t : Vec Ideal S8x256x128 .bf16) (ix3 h k e) = if e.val / 64 = h.val % 2 then wv m c (ix3 k h ⟨e % 64, by omega⟩) else 0 := by
  rw [← arr5]
  blk_ext [iblk, idx t]

end Cert.KernelIdeal.Operands
-- ==== Proof.Carry.lean ====
module
public import proofs.«01_k».proof.Proof.Operands

@[expose] public section

set_option maxRecDepth 16384
set_option maxHeartbeats 1000000

noncomputable section

open Idealize.ShloMosaic Idealize.ShloMosaic.TcCoe Idealize.SL.Sem

/-! What each grid point leaves: the two scratch arrays keep the batch's keys from its first tile on, and every point stores
    its tile of the attention. -/

namespace Cert.KernelIdeal.Carry

open Cert.KernelIdeal Cert.KernelIdeal.Gen Cert.KernelIdeal.Body Cert.KernelIdeal.Operands

variable (m : (ℓ : Loc nD τ sig) → Buf (Elt Ideal) ℓ) (c : Dev nD)

/-- The latents' block is the same at all points of a batch, -/
theorem blk2_eq (t u : Fin cfg0.N) (h : t.val / 16 = u.val / 16) : (iblk m c 2 t : Vec Ideal S1x2048x256 .f32) = iblk m c 2 u := by
  funext y
  idx_vars y
  have ha : y0 = 0 := Subsingleton.elim _ _
  subst ha
  exact (blk2 m c t y1 y2).trans (Eq.trans (by simp only [h]) (blk2 m c u y1 y2).symm)

/-- and so is the rotary keys' block. -/
theorem blk3_eq (t u : Fin cfg0.N) (h : t.val / 16 = u.val / 16) : (iblk m c 3 t : Vec Ideal S1x2048x128 .bf16) = iblk m c 3 u := by
  funext y
  idx_vars y
  have ha : y0 = 0 := Subsingleton.elim _ _
  subst ha
  exact (blk3 m c t y1 y2).trans (Eq.trans (by simp only [h]) (blk3 m c u y1 y2).symm)

/-- A batch's first point fills the scratch arrays, -/
theorem first (t : Fin cfg0.N) (h0 : t.val % 16 = 0) :
    (outsAt0 m c t.val t.isLt).2.1 = k0_pay19 (iblk m c 2 t) ∧ (outsAt0 m c t.val t.isLt).2.2 = k0_pay20 (iblk m c 3 t) := by
  rw [outsAt0_A m c t h0]
  dsimp only
  exact ⟨keep_A2 (hc0 := (hcond0_0 t).mpr h0) (x0 := iblk m c 0 t) (x1 := iblk m c 1 t) (x2 := iblk m c 2 t) (x3 := iblk m c 3 t) (x4 := iblk m c 4 t) (x5 := iblk m c 5 t) .., keep_A3 (hc0 := (hcond0_0 t).mpr h0) (x0 := iblk m c 0 t) (x1 := iblk m c 1 t) (x2 := iblk m c 2 t) (x3 := iblk m c 3 t) (x4 := iblk m c 4 t) (x5 := iblk m c 5 t) ..⟩

/-- every other point leaves them as they were, -/
theorem later (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only [sout0_B_2, sout0_B_3]

/-- so that after every point they hold the keys of the point's batch. -/
theorem carried : ∀ (n : ℕ) (hn : n < cfg0.N),
    (outsAt0 m c n hn).2.1 = k0_pay19 (iblk m c 2 ⟨n, hn⟩) ∧ (outsAt0 m c n hn).2.2 = k0_pay20 (iblk m c 3 ⟨n, hn⟩) := by
  intro n
  induction n using Nat.strong_induction_on with
  | _ n ih =>
    intro hn
    by_cases h0 : n % 16 = 0
    · exact first m c ⟨n, hn⟩ h0
    · have hn' : n - 1 < cfg0.N := Nat.lt_of_le_of_lt (Nat.sub_le _ _) hn
      have e : (⟨n - 1, hn'⟩ : Fin cfg0.N).val / 16 = (⟨n, hn⟩ : Fin cfg0.N).val / 16 := by
        show (n - 1) / 16 = n / 16
        omega
      rw [← blk2_eq m c _ _ e, ← blk3_eq m c _ _ e]
      have q := later m c ⟨n, hn⟩ h0
      rw [show (outsAt0 m c n hn).2 = (outsAt0 m c (n - 1) hn').2 from q]
      exact ih (n - 1) (by omega) hn'

/-- The tile point `t` stores, when the scores and the values are the reals `A` and `W`: the attention's averages, times the
    values' matrix. -/
theorem point (t : Fin cfg0.N) (A : Fin 1024 → ℕ → ℝ) (W : Fin 256 → ℕ → ℝ)
    (hA : ∀ (r : Fin 1024) (n : Fin 2048), ∑ d : Fin 256, qLat (iblk m c 0 t) (iblk m c 4 t) (ix2 r d) * k0_pay19 (iblk m c 2 t) (ix2 n d) + ∑ d : Fin 128, qRot (iblk m c 1 t) (ix2 r d) * k0_pay20 (iblk m c 3 t) (ix2 n d) = ((A r n : ℝ) : EReal))
    (hW : ∀ (d : Fin 256) (n : Fin 2048), k0_pay19 (iblk m c 2 t) (ix2 n d) = ((W d n : ℝ) : EReal)) :
    ∃ (l : Vec Ideal S1024x1 .f32) (a : Vec Ideal S1024x256 .f32), (outsAt0 m c t.val t.isLt).1 = outTile (iblk m c 5 t) l a
      ∧ ∀ (r : Fin 1024) (d : Fin 256), a (ix2 r d) * Ideal.div 1 (l (ix2 r 0)) = ((Online.att (A r) (W d) (128 * (t.val % 16) + r % 128) : ℝ) : EReal) := by
  obtain ⟨-, -, -, -, -, -, h1, -⟩ := idx t
  let Inv : ℕ → Vec Ideal S1024x1 .f32 → Vec Ideal S1024x1 .f32 → Vec Ideal S1024x256 .f32 → Prop := fun k mm l a =>
    ∀ (r : Fin 1024) (d : Fin 256), Online.Row (A r) (W d) (128 * (grid0.coords t 1).val + r % 128) k (mm (ix2 r 0)) (l (ix2 r 0)) (a (ix2 r d))
  have h0 : Inv 0 (k0_pay49 (F := Ideal)) (k0_pay50 (F := Ideal)) (k0_pay51 (F := Ideal)) := fun r d => by
    refine Or.inl ⟨rfl, ?_, ?_, ?_⟩
    · pointwise [k0_pay49]
      simp [Ideal.ofBits, Ideal.ieee]
    · pointwise [k0_pay50]
    · pointwise [k0_pay51]
  have hs : ∀ (k : Fin (k0_t1_loop (grid0.coords t)).trips) (mm l : Vec Ideal S1024x1 .f32) (a : Vec Ideal S1024x256 .f32), Inv k.val mm l a →
      Inv (k.val + 1) (newM (grid0.coords t) (qLat (iblk m c 0 t) (iblk m c 4 t)) (qRot (iblk m c 1 t)) (k0_pay19 (iblk m c 2 t)) (k0_pay20 (iblk m c 3 t)) k mm) (newL (grid0.coords t) (qLat (iblk m c 0 t) (iblk m c 4 t)) (qRot (iblk m c 1 t)) (k0_pay19 (iblk m c 2 t)) (k0_pay20 (iblk m c 3 t)) k mm l) (newA (grid0.coords t) (qLat (iblk m c 0 t) (iblk m c 4 t)) (qRot (iblk m c 1 t)) (k0_pay19 (iblk m c 2 t)) (k0_pay20 (iblk m c 3 t)) k mm a) :=
    fun k mm l a h r d => Tile.step (grid0.coords t) _ _ _ _ k mm l a (A r) (W d) r d (hA r) (hW d) (h r d)
  have key : ∃ (mm l : Vec Ideal S1024x1 .f32) (a : Vec Ideal S1024x256 .f32), Inv (k0_t1_loop (grid0.coords t)).trips mm l a ∧ (outsAt0 m c t.val t.isLt).1 = outTile (iblk m c 5 t) l a := by
    by_cases hz : t.val % 16 = 0
    · rw [outsAt0_A m c t hz]
      exact out_A (hc0 := (hcond0_0 t).mpr hz) (Inv := Inv) (h0 := h0) (hs := hs) ..
    · rw [outsAt0_B m c t hz]
      have hn : t.val - 1 < cfg0.N := Nat.lt_of_le_of_lt (Nat.sub_le _ _) t.isLt
      have e : (⟨t.val - 1, hn⟩ : Fin cfg0.N).val / 16 = t.val / 16 := by
        show (t.val - 1) / 16 = t.val / 16
        omega
      rw [(carried m c (t.val - 1) hn).1, (carried m c (t.val - 1) hn).2, blk2_eq m c _ _ e, blk3_eq m c _ _ e]
      exact out_B (x2 := iblk m c 2 t) (x3 := iblk m c 3 t) (hc0 := fun h => hz ((hcond0_0 t).mp h)) (Inv := Inv) (h0 := h0) (hs := hs) ..
  obtain ⟨mm, l, a, hI, e⟩ := key
  refine ⟨l, a, e, fun r d => ?_⟩
  have q := Online.Row.att_eq (A r) (W d) _ (hI r d) (by
    rw [trips1]
    omega)
  rw [h1] at q
  exact q

end Cert.KernelIdeal.Carry
-- ==== Proof.Score.lean ====
module
public import proofs.«01_k».proof.Proof.Online
public import Idealize.ShloMosaic.Lib.Pointwise

@[expose] public section

noncomputable section

open Idealize.ShloMosaic Idealize.ShloMosaic.TcCoe Idealize.SL.Sem

/-! The attention over the reals: the scale, a head's scores, the latents as values. -/

namespace Cert.Score

/-- The scale of the scores, the number `0x3DD105EC` names. -/
def scale : ℝ := (Ideal.ofBits FTy.f32 0x3DD105EC#32).toReal

theorem scale_eq : Ideal.ofBits FTy.f32 0x3DD105EC#32 = ((scale : ℝ) : EReal) := by
  refine (EReal.coe_toReal ?_ ?_).symm
  · simp [Ideal.ofBits, Ideal.ieee]
    try exact EReal.coe_ne_top _
  · simp [Ideal.ofBits, Ideal.ieee]
    try exact EReal.coe_ne_bot _

variable (X0 : Fin 8 → Fin 2048 → Fin 512 → ℝ) (X1 : Fin 8 → Fin 2048 → Fin 256 → ℝ) (X2 : Fin 8 → Fin 2048 → Fin 256 → ℝ)
  (X3 : Fin 8 → Fin 2048 → Fin 32 → ℝ) (X4 : Fin 256 → Fin 8 → Fin 64 → ℝ)

/-- The score of key `n` for query `s` of head `h` in batch `b`. -/
def score (b h : Fin 8) (s : Fin 2048) : ℕ → ℝ := fun n =>
  if hn : n < 2048 then
    scale * ((∑ d : Fin 256, X2 b ⟨n, hn⟩ d * ∑ k : Fin 64, X4 d h k * X0 b s ⟨h * 64 + k, by omega⟩)
      + ∑ k : Fin 32, X3 b ⟨n, hn⟩ k * X1 b s ⟨h * 32 + k, by omega⟩)
  else 0

/-- Column `d` of the latents of batch `b`. -/
def value (b : Fin 8) (d : Fin 256) : ℕ → ℝ := fun n => if hn : n < 2048 then X2 b ⟨n, hn⟩ d else 0

/-- A sum that vanishes outside `L` places from `o` on is the sum over these. -/
theorem sum_block {M : Type} [AddCommMonoid M] {N L : ℕ} (o : ℕ) (h : o + L ≤ N) (f : Fin N → M)
    (h0 : ∀ k : Fin N, (k.val < o ∨ o + L ≤ k.val) → f k = 0) :
    ∑ k, f k = ∑ j : Fin L, f ⟨o + j, by omega⟩ := by
  symm
  refine Finset.sum_of_injOn (fun j : Fin L => (⟨o + j, by omega⟩ : Fin N)) ?_ ?_ ?_ ?_
  · intro a _ b _ e
    have := congrArg Fin.val e
    simp only at this
    exact Fin.ext (by omega)
  · intro a _
    exact Finset.mem_coe.mpr (Finset.mem_univ _)
  · intro k _ hk
    apply h0
    by_contra hc
    refine hk ⟨⟨k.val - o, by omega⟩, Finset.mem_coe.mpr (Finset.mem_univ _), Fin.ext ?_⟩
    show o + (k.val - o) = k.val
    omega
  · intro a _
    rfl

end Cert.Score
-- ==== Proof.Attention.lean ====
module
public import proofs.«01_k».proof.Proof.Carry
public import proofs.«01_k».proof.Proof.Score

@[expose] public section

set_option maxRecDepth 16384
set_option maxHeartbeats 1000000

noncomputable section

open Idealize.ShloMosaic Idealize.ShloMosaic.TcCoe Idealize.SL.Sem

/-! The kernel's result at an index: the attention's averages of the latents, times the values' matrix. -/

namespace Cert.KernelIdeal.Attention

open Cert.KernelIdeal Cert.KernelIdeal.Gen Cert.KernelIdeal.Body Cert.KernelIdeal.Operands Cert.KernelIdeal.Value

variable (m : (ℓ : Loc nD τ sig) → Buf (Elt Ideal) ℓ) (c : Dev nD)
variable (X0 : Fin 8 → Fin 2048 → Fin 512 → ℝ) (X1 : Fin 8 → Fin 2048 → Fin 256 → ℝ) (X2 : Fin 8 → Fin 2048 → Fin 256 → ℝ)
  (X3 : Fin 8 → Fin 2048 → Fin 32 → ℝ) (X4 : Fin 256 → Fin 8 → Fin 64 → ℝ)

/-- The batch of a point. -/
abbrev batch (t : Fin cfg0.N) : Fin 8 := ⟨t / 16, (idx t).2.2.2.2.2.2.2⟩

/-- The query a row of a point's tile stands for. -/
abbrev query (t : Fin cfg0.N) (r : Fin 1024) : Fin 2048 := ⟨128 * (t % 16) + r % 128, by omega⟩

/-- The first scratch array's keys: the latents. -/
theorem keys (h2 : ∀ b s e, kv m c (ix3 b s e) = ((X2 b s e : ℝ) : EReal)) (t : Fin cfg0.N) (n : Fin 2048) (d : Fin 256) :
    k0_pay19 (iblk m c 2 t) (ix2 n d) = ((X2 (batch t) n d : ℝ) : EReal) := by
  have e : ∀ x : Vec Ideal S1x2048x256 .f32, k0_pay19 x (ix2 n d) = x (ix3 0 n d) := fun x => by
    pointwise [k0_pay19]
  rw [e]
  exact (blk2 m c t n d).trans (h2 _ _ _)

/-- The second scratch array's keys: the rotary keys, four times side by side. -/
theorem rotKeys (h3 : ∀ b s e, kr m c (ix3 b s e) = ((X3 b s e : ℝ) : EReal)) (t : Fin cfg0.N) (n : Fin 2048) (d : Fin 128) :
    k0_pay20 (iblk m c 3 t) (ix2 n d) = ((X3 (batch t) n ⟨d % 32, by omega⟩ : ℝ) : EReal) := by
  have e : ∀ x : Vec Ideal S1x2048x128 .bf16, k0_pay20 x (ix2 n d) = x (ix3 0 n d) := fun x => by
    pointwise [k0_pay20]
  rw [e]
  exact (blk3 m c t n d).trans (h3 _ _ _)

/-- The latent query of a row, a real number. -/
theorem latQuery (h0 : ∀ b s e, q0 m c (ix3 b s e) = ((X0 b s e : ℝ) : EReal)) (h4 : ∀ b s e, wk m c (ix3 b s e) = ((X4 b s e : ℝ) : EReal))
    (t : Fin cfg0.N) (r : Fin 1024) (d : Fin 256) :
    qLat (iblk m c 0 t) (iblk m c 4 t) (ix2 r d)
      = ((∑ k : Fin 64, X0 (batch t) (query t r) ⟨(r / 128) * 64 + k, by omega⟩ * Score.scale * X4 d ⟨r / 128, by omega⟩ k : ℝ) : EReal) := by
  rw [Tile.qLat_apply, Online.coe_sum]
  simp only [blk0, blk4]
  rw [Score.sum_block (L := 64) (64 * (r / 128 % 2)) (by omega) _ (fun k hk => by
    have hk' := k.isLt
    have hd := d.isLt
    rw [if_neg (by show ¬ k.val / 64 = (256 * (r.val / 128 % 2) + d.val) / 256; omega), mul_zero])]
  refine Finset.sum_congr rfl fun k _ => ?_
  have hk' := k.isLt
  have hd := d.isLt
  have hr := r.isLt
  rw [if_pos (by show (64 * (r.val / 128 % 2) + k.val) / 64 = (256 * (r.val / 128 % 2) + d.val) / 256; omega), h0, h4, Score.scale_eq, ← EReal.coe_mul, ← EReal.coe_mul]
  congr 3
  · congr 1
    exact Fin.ext (by show 128 * (r.val / 256) + (64 * (r.val / 128 % 2) + k.val) = r.val / 128 * 64 + k.val; omega)
  · exact Fin.ext (by show (256 * (r.val / 128 % 2) + d.val) % 256 = d.val; omega)
  · exact Fin.ext (by show 2 * (r.val / 256) + (64 * (r.val / 128 % 2) + k.val) / 64 = r.val / 128; omega)
  · exact Fin.ext (by show (64 * (r.val / 128 % 2) + k.val) % 64 = k.val; omega)

/-- The rotary part of a score, a real number. -/
theorem rotScore (h1 : ∀ b s e, q1 m c (ix3 b s e) = ((X1 b s e : ℝ) : EReal)) (h3 : ∀ b s e, kr m c (ix3 b s e) = ((X3 b s e : ℝ) : EReal))
    (t : Fin cfg0.N) (r : Fin 1024) (n : Fin 2048) :
    ∑ d : Fin 128, qRot (iblk m c 1 t) (ix2 r d) * k0_pay20 (iblk m c 3 t) (ix2 n d)
      = ((∑ k : Fin 32, X1 (batch t) (query t r) ⟨(r / 128) * 32 + k, by omega⟩ * Score.scale * X3 (batch t) n k : ℝ) : EReal) := by
  rw [Online.coe_sum]
  simp only [Tile.qRot_apply, rotKeys m c X3 h3, blk1]
  rw [Score.sum_block (L := 32) (32 * (r / 128 % 4)) (by omega) _ (fun k hk => by
    have hk' := k.isLt
    rw [if_neg (by omega), zero_mul])]
  refine Finset.sum_congr rfl fun k _ => ?_
  have hk' := k.isLt
  have hr := r.isLt
  rw [if_pos (by show (32 * (r.val / 128 % 4) + k.val) / 32 = r.val / 128 % 4; omega), h1, Score.scale_eq, ← EReal.coe_mul, ← EReal.coe_mul]
  congr 3
  · congr 1
    exact Fin.ext (by show 128 * (r.val / 512) + (32 * (r.val / 128 % 4) + k.val) = r.val / 128 * 32 + k.val; omega)
  · exact Fin.ext (by show (32 * (r.val / 128 % 4) + k.val) % 32 = k.val; omega)

/-- A score of the kernel's is the score. -/
theorem score_eq (h0 : ∀ b s e, q0 m c (ix3 b s e) = ((X0 b s e : ℝ) : EReal)) (h1 : ∀ b s e, q1 m c (ix3 b s e) = ((X1 b s e : ℝ) : EReal))
    (h2 : ∀ b s e, kv m c (ix3 b s e) = ((X2 b s e : ℝ) : EReal)) (h3 : ∀ b s e, kr m c (ix3 b s e) = ((X3 b s e : ℝ) : EReal))
    (h4 : ∀ b s e, wk m c (ix3 b s e) = ((X4 b s e : ℝ) : EReal)) (t : Fin cfg0.N) (r : Fin 1024) (n : Fin 2048) :
    ∑ d : Fin 256, qLat (iblk m c 0 t) (iblk m c 4 t) (ix2 r d) * k0_pay19 (iblk m c 2 t) (ix2 n d) + ∑ d : Fin 128, qRot (iblk m c 1 t) (ix2 r d) * k0_pay20 (iblk m c 3 t) (ix2 n d)
      = ((Score.score X0 X1 X2 X3 X4 (batch t) ⟨r / 128, by omega⟩ (query t r) n : ℝ) : EReal) := by
  rw [rotScore m c X1 X3 h1 h3]
  simp only [latQuery m c X0 X4 h0 h4, keys m c X2 h2, ← EReal.coe_mul, ← Online.coe_sum, ← EReal.coe_add]
  unfold Score.score
  rw [dif_pos n.isLt]
  refine congrArg _ ?_
  rw [mul_add, Finset.mul_sum, Finset.mul_sum]
  refine congrArg₂ _ (Finset.sum_congr rfl fun d _ => ?_) (Finset.sum_congr rfl fun k _ => ?_)
  · rw [Finset.sum_mul, Finset.mul_sum, Finset.mul_sum]
    refine Finset.sum_congr rfl fun k _ => ?_
    ring
  · ring

/-- The kernel's result at an index. -/
theorem kernel_at (h0 : ∀ b s e, q0 m c (ix3 b s e) = ((X0 b s e : ℝ) : EReal)) (h1 : ∀ b s e, q1 m c (ix3 b s e) = ((X1 b s e : ℝ) : EReal))
    (h2 : ∀ b s e, kv m c (ix3 b s e) = ((X2 b s e : ℝ) : EReal)) (h3 : ∀ b s e, kr m c (ix3 b s e) = ((X3 b s e : ℝ) : EReal))
    (h4 : ∀ b s e, wk m c (ix3 b s e) = ((X4 b s e : ℝ) : EReal)) (b : Fin 8) (s : Fin 2048) (e : Fin 512) :
    (G6 m c : Vec Ideal S8x2048x512 .bf16) (ix3 b s e)
      = ∑ k : Fin 256, ((Online.att (Score.score X0 X1 X2 X3 X4 b ⟨e / 64, by omega⟩ s) (Score.value X2 b k) s : ℝ) : EReal) * wv m c (ix3 k ⟨e / 64, by omega⟩ ⟨e % 64, by omega⟩) := by
  have hb := b.isLt
  have hs := s.isLt
  have he := e.isLt
  have hp : pt6Of (ix3 b s e) = 16 * b + s / 128 := by
    show 16 * (b.val / 1 - 0) + 1 * (s.val / 128 - 0) + 1 * (e.val / 512 - 0) = _
    omega
  have ht : pt6Of (ix3 b s e) < cfg0.N := by
    rw [hp, show cfg0.N = 128 from N_0]
    omega
  have hl : (loc6Of (ix3 b s e) : S1x128x512.Idx) = ix3 0 ⟨s % 128, by omega⟩ e := by
    idx_ext
  unfold G6
  rw [dif_pos ht, ← outsAt0_sweep m c _ ht]
  obtain ⟨l, a, eo, ea⟩ := Carry.point m c ⟨pt6Of (ix3 b s e), ht⟩ (fun r => Score.score X0 X1 X2 X3 X4 (batch ⟨pt6Of (ix3 b s e), ht⟩) ⟨r / 128, by omega⟩ (query ⟨pt6Of (ix3 b s e), ht⟩ r))
    (fun d => Score.value X2 (batch ⟨pt6Of (ix3 b s e), ht⟩) d) (fun r n => score_eq m c X0 X1 X2 X3 X4 h0 h1 h2 h3 h4 _ r n)
    (fun d n => by
      rw [keys m c X2 h2]
      unfold Score.value
      rw [dif_pos n.isLt])
  have eo' := congrFun eo (ix3 0 ⟨s % 128, by omega⟩ e)
  refine Eq.trans (congrArg _ hl) (eo'.trans ?_)
  rw [Tile.outTile_apply]
  simp only [ea, blk5]
  have key : ∀ (h : Fin 8) (r : Fin 1024) (k : Fin 256) (hh : r.val / 128 = h.val) (hr : r.val % 128 = s.val % 128) (h8 : r.val / 128 < 8),
      Online.att (Score.score X0 X1 X2 X3 X4 (batch ⟨pt6Of (ix3 b s e), ht⟩) ⟨r.val / 128, h8⟩ (query ⟨pt6Of (ix3 b s e), ht⟩ r))
        (Score.value X2 (batch ⟨pt6Of (ix3 b s e), ht⟩) k) (128 * (pt6Of (ix3 b s e) % 16) + r.val % 128)
      = Online.att (Score.score X0 X1 X2 X3 X4 b h s) (Score.value X2 b k) s := fun h r k hh hr h8 => by
    have e1 : batch ⟨pt6Of (ix3 b s e), ht⟩ = b := Fin.ext (by show pt6Of (ix3 b s e) / 16 = b.val; omega)
    have e2 : query ⟨pt6Of (ix3 b s e), ht⟩ r = s := Fin.ext (by show 128 * (pt6Of (ix3 b s e) % 16) + r.val % 128 = s.val; omega)
    have e3 : (⟨r.val / 128, h8⟩ : Fin 8) = h := Fin.ext hh
    have e4 : 128 * (pt6Of (ix3 b s e) % 16) + r.val % 128 = s.val := by omega
    rw [e1, e2, e3, e4]
  by_cases hq : e.val % 128 / 64 = 0
  · refine (congrArg₂ _ (Finset.sum_congr rfl fun k _ => ?_) (Finset.sum_eq_zero fun k _ => ?_)).trans (add_zero _)
    · rw [if_pos (by omega)]
      refine congrArg₂ _ (congrArg _ (key ⟨e / 64, by omega⟩ ⟨256 * (e / 128) + s % 128, by omega⟩ k (by show (256 * (e.val / 128) + s.val % 128) / 128 = e.val / 64; omega) (by show (256 * (e.val / 128) + s.val % 128) % 128 = s.val % 128; omega) _)) (congrArg (wv m c) ?_)
      idx_ext <;> (try simp only [Fin.ext_iff]) <;> omega
    · rw [if_neg (by omega), mul_zero]
  · refine (congrArg₂ _ (Finset.sum_eq_zero fun k _ => ?_) (Finset.sum_congr rfl fun k _ => ?_)).trans (zero_add _)
    · rw [if_neg (by omega), mul_zero]
    · rw [if_pos (by omega)]
      refine congrArg₂ _ (congrArg _ (key ⟨e / 64, by omega⟩ ⟨256 * (e / 128) + 128 + s % 128, by omega⟩ k (by show (256 * (e.val / 128) + 128 + s.val % 128) / 128 = e.val / 64; omega) (by show (256 * (e.val / 128) + 128 + s.val % 128) % 128 = s.val % 128; omega) _)) (congrArg (wv m c) ?_)
      idx_ext <;> (try simp only [Fin.ext_iff]) <;> omega

end Cert.KernelIdeal.Attention
-- ==== Proof.RefDefs.lean ====
module
public import proofs.«01_k».proof.Proof.Score
public import proofs.«01_k».proof.Proof.Gen.ReferenceIdeal.Run
public import Idealize.ShloMosaic.Lib.Pointwise
public import Idealize.ShloMosaic.Lib.Pipeline.ValueKit
public import Idealize.ShloMosaic.Lib.WordArith.Masks

@[expose] public section

set_option maxRecDepth 16384
set_option maxHeartbeats 1000000

noncomputable section

open Idealize.ShloMosaic Idealize.ShloMosaic.TcCoe Idealize.SL.Sem

namespace Cert.ReferenceIdeal.RefValue

open Cert.ReferenceIdeal Cert.ReferenceIdeal.Gen Cert.ReferenceIdeal.Value

variable (m : (ℓ : Loc nD τ sig) → Buf (Elt Ideal) ℓ) (c : Dev nD)

/-- The masked scores. -/
def scores (x0 : FVec Ideal S8x2048x512 .f32) (x1 : FVec Ideal S8x2048x256 .f32) (x2 : FVec Ideal S8x2048x256 .f32) (x3 : FVec Ideal S8x2048x32 .f32) (x4 : FVec Ideal S256x8x64 .f32) : FVec Ideal S8x8x2048x2048 .f32 :=
  (select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (broadcastInDim S8x8x2048x2048 ![] bcast_S_S8x8x2048x2048 (constant S_ .f32 0x3DD105EC#32)) (addf (transpose S8x8x2048x2048 [0, 3, 2, 1] (Host.dotGeneral dot_S8x2048x256_S8x2048x8x256_S8x2048x2048x8_2_3_1_12_0_0 none x2 (transpose S8x2048x8x256 [2, 3, 0, 1] (Host.dotGeneral dot_S256x8x64_S8x2048x8x64_S8x256x8x2048_2_3_0_01_1_2 none x4 (shapeCast _ x0 shapeCasts_S8x2048x512_S8x2048x8x64)) transposes_S8x256x8x2048_S8x2048x8x256_2_3_0_1)) transposes_S8x2048x2048x8_S8x8x2048x2048_0_3_2_1) (transpose S8x8x2048x2048 [0, 3, 2, 1] (Host.dotGeneral dot_S8x2048x32_S8x2048x8x32_S8x2048x2048x8_2_3_1_12_0_0 none x3 (shapeCast _ x1 shapeCasts_S8x2048x256_S8x2048x8x32)) transposes_S8x2048x2048x8_S8x8x2048x2048_0_3_2_1))) (broadcastInDim S8x8x2048x2048 ![] bcast_S_S8x8x2048x2048 (id (constant S_ .f32 0xFF800000#32))))

/-- The exponentials of the scores less their row's maximum. -/
def expo (S0 : FVec Ideal S8x8x2048x2048 .f32) : FVec Ideal S8x8x2048x2048 .f32 :=
  (Host.exp (subf S0 (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) (Host.reduce FloatOps.maximumf S0 (constant S_ .f32 0xFF800000#32) reducesTo_S8x8x2048x2048_S8x8x2048_d3 h_S_))))))

/-- Each row divided by its sum. -/
def prob (E0 : FVec Ideal S8x8x2048x2048 .f32) : FVec Ideal S8x8x2048x2048 .f32 :=
  (Host.divf E0 (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd E0 (constant S_ .f32 0x00000000#32) reducesTo_S8x8x2048x2048_S8x8x2048_d3 h_S_))))

/-- The averages of the latents, and the values' matrix. -/
def outp (x2 : FVec Ideal S8x2048x256 .f32) (x5 : FVec Ideal S256x8x64 .f32) (P0 : FVec Ideal S8x8x2048x2048 .f32) : FVec Ideal S8x2048x512 .bf16 :=
  truncf .bf16 (shapeCast S8x2048x512 (transpose S8x2048x8x64 [2, 3, 0, 1] (Host.dotGeneral dot_S256x8x64_S8x2048x8x256_S8x64x8x2048_0_3_2_01_1_2 none x5 (transpose S8x2048x8x256 [0, 3, 2, 1] (Host.dotGeneral dot_S8x2048x256_S8x8x2048x2048_S8x256x8x2048_1_3_2_12_0_0 none x2 P0) transposes_S8x256x8x2048_S8x2048x8x256_0_3_2_1)) transposes_S8x64x8x2048_S8x2048x8x64_2_3_0_1) shapeCasts_S8x2048x8x64_S8x2048x512) bitsLt_bf16_f32

end Cert.ReferenceIdeal.RefValue
-- ==== Proof.RefValue.lean ====
module
public import proofs.«01_k».proof.Proof.RefDefs
public import proofs.«01_k».proof.Proof.Score
public import proofs.«01_k».proof.Proof.Gen.ReferenceIdeal.Run
public import Idealize.ShloMosaic.Lib.Pointwise
public import Idealize.ShloMosaic.Lib.Pipeline.ValueKit
public import Idealize.ShloMosaic.Lib.WordArith.Masks

@[expose] public section

set_option maxRecDepth 16384
set_option maxHeartbeats 1000000

noncomputable section

open Idealize.ShloMosaic Idealize.ShloMosaic.TcCoe Idealize.SL.Sem

namespace Cert.ReferenceIdeal.RefValue

open Cert.ReferenceIdeal Cert.ReferenceIdeal.Gen Cert.ReferenceIdeal.Value

variable (m : (ℓ : Loc nD τ sig) → Buf (Elt Ideal) ℓ) (c : Dev nD)

/-- The reference's result in these four steps. -/
theorem res_eq : (res_main_v34 m c : FVec Ideal S8x2048x512 .bf16) = outp (m ((c.tc : Thread nD τ).loc main_arg2)) (m ((c.tc : Thread nD τ).loc main_arg5)) (prob (expo (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))) := by
  unfold res_main_v34
  rfl

/-- The last step at an index. -/
theorem outp_at (x2 : FVec Ideal S8x2048x256 .f32) (x5 : FVec Ideal S256x8x64 .f32) (P0 : FVec Ideal S8x8x2048x2048 .f32) (b : Fin 8) (s : Fin 2048) (e : Fin 512) :
    outp x2 x5 P0 (ix3 b s e) = ∑ k : Fin 256, x5 (ix3 k ⟨e / 64, by omega⟩ ⟨e % 64, by omega⟩) * ∑ n : Fin 2048, x2 (ix3 b n k) * P0 (ix4 b ⟨e / 64, by omega⟩ s n) := by
  pointwise [outp]

/-- The quotients at an index. -/
theorem prob_at (E0 : FVec Ideal S8x8x2048x2048 .f32) (b : Fin 8) (h : Fin 8) (s n : Fin 2048) :
    prob E0 (ix4 b h s n) = Ideal.div (E0 (ix4 b h s n)) (∑ k : Fin 2048, E0 (ix4 b h s k)) := by
  pointwise [prob]

/-- A row's maximum. -/
theorem top_at (S0 : FVec Ideal S8x8x2048x2048 .f32) (j : S8x8x2048.Idx) :
    Host.reduce FloatOps.maximumf S0 (constant S_ .f32 0xFF800000#32) reducesTo_S8x8x2048x2048_S8x8x2048_d3 h_S_ j
      = Finset.univ.fold max (⊥ : EReal) fun k : Fin 2048 => S0 (ix4 (j 0) (j 1) (j 2) k) := by
  have e : ∀ i, constant (F := Ideal) S_ FTy.f32 4286578688#32 i = (⊥ : EReal) := fun i => by
    show Ideal.ofBits FTy.f32 0xFF800000#32 = ⊥
    simp [Ideal.ofBits, Ideal.ieee]
  rw [Host.reduce_eq_fold, Shape.ReducesTo.fold_fiber_r4_a3, e]
  rfl

/-- The exponential at an index, over any row maxima `M`. -/
theorem expo_at' (S0 : FVec Ideal S8x8x2048x2048 .f32) (M : FVec Ideal S8x8x2048 .f32) (b h : Fin 8) (s n : Fin 2048) :
    (Host.exp (subf S0 (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) M)))) : FVec Ideal S8x8x2048x2048 .f32) (ix4 b h s n)
      = Ideal.exp (S0 (ix4 b h s n) - M (ix3 b h s)) := by
  have e : Ideal.ofBits FTy.f32 0xFF800000#32 = (⊥ : EReal) := by simp [Ideal.ofBits, Ideal.ieee]
  pointwise
  rw [e, max_eq_right bot_le]

/-- The exponentials at an index. -/
theorem expo_at (S0 : FVec Ideal S8x8x2048x2048 .f32) (b h : Fin 8) (s n : Fin 2048) :
    expo S0 (ix4 b h s n) = Ideal.exp (S0 (ix4 b h s n) - Finset.univ.fold max (⊥ : EReal) fun k : Fin 2048 => S0 (ix4 b h s k)) := by
  unfold expo
  rw [expo_at', top_at]
  rfl

/-- The masked scores at an index. -/
theorem scores_at (x0 : FVec Ideal S8x2048x512 .f32) (x1 : FVec Ideal S8x2048x256 .f32) (x2 : FVec Ideal S8x2048x256 .f32) (x3 : FVec Ideal S8x2048x32 .f32) (x4 : FVec Ideal S256x8x64 .f32) (b : Fin 8) (h : Fin 8) (s n : Fin 2048) :
    scores x0 x1 x2 x3 x4 (ix4 b h s n) = if n.val ≤ s.val then Ideal.ofBits FTy.f32 0x3DD105EC#32 * ((∑ d : Fin 256, x2 (ix3 b n d) * ∑ k : Fin 64, x4 (ix3 d h k) * x0 (ix3 b s ⟨h * 64 + k, by omega⟩)) + ∑ k : Fin 32, x3 (ix3 b n k) * x1 (ix3 b s ⟨h * 32 + k, by omega⟩)) else ⊥ := by
  have hn := n.isLt
  have hs := s.isLt
  pointwise [scores]
  have e : id (constant (F := Ideal) S_ FTy.f32 4286578688#32) ix0 = (⊥ : EReal) := by
    show Ideal.ofBits FTy.f32 0xFF800000#32 = ⊥
    simp [Ideal.ofBits, Ideal.ieee]
  rw [e]
  have w : IntOp.cmpi CmpIPredicate.sle (BitVec.ofNat 32 n.val) (BitVec.ofNat 32 s.val) = 1 ↔ n.val ≤ s.val := by
    show _ = 1#1 ↔ _
    rw [IntOp.cmpi_sle, BitVec.toInt_eq_toNat_of_lt (by rw [BitVec.toNat_ofNat]; omega), BitVec.toInt_eq_toNat_of_lt (by rw [BitVec.toNat_ofNat]; omega), BitVec.toNat_ofNat, BitVec.toNat_ofNat]
    omega
  unfold Scalar.select
  by_cases hh : n.val ≤ s.val
  · rw [if_pos hh, if_pos (w.2 hh)]
  · rw [if_neg hh, if_neg (fun q => hh (w.1 q))]

/-- The reference's result, when the arrays that the scores are made of hold real numbers: the attention's averages of the
    latents, times the values' matrix. -/
theorem ref_at (x0 : FVec Ideal S8x2048x512 .f32) (x1 : FVec Ideal S8x2048x256 .f32) (x2 : FVec Ideal S8x2048x256 .f32) (x3 : FVec Ideal S8x2048x32 .f32) (x4 x5 : FVec Ideal S256x8x64 .f32)
    (X0 : Fin 8 → Fin 2048 → Fin 512 → ℝ) (X1 : Fin 8 → Fin 2048 → Fin 256 → ℝ) (X2 : Fin 8 → Fin 2048 → Fin 256 → ℝ)
    (X3 : Fin 8 → Fin 2048 → Fin 32 → ℝ) (X4 : Fin 256 → Fin 8 → Fin 64 → ℝ)
    (h0 : ∀ b s e, x0 (ix3 b s e) = ((X0 b s e : ℝ) : EReal)) (h1 : ∀ b s e, x1 (ix3 b s e) = ((X1 b s e : ℝ) : EReal))
    (h2 : ∀ b s e, x2 (ix3 b s e) = ((X2 b s e : ℝ) : EReal)) (h3 : ∀ b s e, x3 (ix3 b s e) = ((X3 b s e : ℝ) : EReal))
    (h4 : ∀ b s e, x4 (ix3 b s e) = ((X4 b s e : ℝ) : EReal)) (b : Fin 8) (s : Fin 2048) (e : Fin 512) :
    outp x2 x5 (prob (expo (scores x0 x1 x2 x3 x4))) (ix3 b s e)
      = ∑ k : Fin 256, ((Online.att (Score.score X0 X1 X2 X3 X4 b ⟨e / 64, by omega⟩ s) (Score.value X2 b k) s : ℝ) : EReal) * x5 (ix3 k ⟨e / 64, by omega⟩ ⟨e % 64, by omega⟩) := by
  rw [outp_at]
  refine Finset.sum_congr rfl fun k _ => ?_
  rw [mul_comm]
  congr 1
  simp only [prob_at, expo_at]
  refine Online.softmax_eq (Score.score X0 X1 X2 X3 X4 b ⟨e / 64, by omega⟩ s) (Score.value X2 b k) s s.isLt (fun n => scores x0 x1 x2 x3 x4 (ix4 b ⟨e / 64, by omega⟩ s n)) (fun n => x2 (ix3 b n k)) (fun n => ?_) (fun n => ?_) _ rfl
  · show scores x0 x1 x2 x3 x4 (ix4 b ⟨e / 64, by omega⟩ s n) = _
    rw [scores_at]
    refine if_congr Iff.rfl ?_ rfl
    unfold Score.score
    rw [dif_pos n.isLt]
    simp only [h0, h1, h2, h3, h4, Score.scale_eq, ← EReal.coe_mul, ← Online.coe_sum, ← EReal.coe_add]
  · show x2 (ix3 b n k) = _
    unfold Score.value
    rw [dif_pos n.isLt, h2]

end Cert.ReferenceIdeal.RefValue
-- ==== Proof.Finite.lean ====
module
public import proofs.«01_k».proof.Pre_finite
public import Idealize.ShloMosaic.Lib.Pointwise

@[expose] public section

noncomputable section

open Idealize.ShloMosaic Idealize.ShloMosaic.TcCoe Idealize.SL.Sem

/-! The precondition read: every element it names is a real number. -/

namespace Cert.Finite

/-- The predicate's broadcasts are of scalars. -/
theorem facts : Cert.Pre_finite.Facts := by
  constructor <;> decide

/-- An element whose magnitude is below the infinity is a real number. -/
theorem real_of {s u : Shape} (x : FVec Ideal s .f32) (d : Fin u.rank → Fin s.rank) (h : u.BroadcastsInDim s d)
    (e : cmpf .olt (Host.absf x) (broadcastInDim s d h (constant u .f32 0x7F800000#32)) = fun _ => 1#1) (i : s.Idx) :
    x i = ((EReal.toReal (x i) : ℝ) : EReal) := by
  have q := congrFun e i
  have w : Ideal.ofBits FTy.f32 0x7F800000#32 = (⊤ : EReal) := by simp [Ideal.ofBits, Ideal.ieee]
  simp only [pointwise] at q
  rw [w] at q
  have q' : (FloatOps.absf (x i) : EReal) < ⊤ := by
    by_contra hc
    rw [decide_eq_false hc] at q
    exact absurd q (by decide)
  have q2 : max (x i : EReal) (-(x i : EReal)) < ⊤ := q'
  refine (EReal.coe_toReal (fun hx => ?_) (fun hx => ?_)).symm
  · rw [hx] at q2
    exact absurd q2 (by simp)
  · rw [hx] at q2
    exact absurd q2 (by simp)

end Cert.Finite
-- ==== Proof.Claims.lean ====
module
public import proofs.«01_k».proof.Defs
public import proofs.«01_k».proof.Proof.Attention
public import proofs.«01_k».proof.Proof.RefValue
public import proofs.«01_k».proof.Proof.Finite
public import Idealize.ShloMosaic.Adequacy
public import Idealize.ShloMosaic.Init

@[expose] public section

set_option maxRecDepth 16384

noncomputable section

open Idealize.ShloMosaic Idealize.ShloMosaic.TcCoe Idealize.SL.Sem

/-! The prompt attention: kernel and reference end with the same array. -/

namespace Cert.PromptAttention

local instance : Cert.KernelIdeal.Facts := Cert.KernelIdeal.Gen.facts
local instance : Cert.ReferenceIdeal.Facts := Cert.ReferenceIdeal.Gen.facts
local instance : Cert.Pre_finite.Facts := Cert.Finite.facts

/-- The two results are equal, element by element. -/
theorem value (m : (ℓ : Loc Cert.KernelIdeal.nD Cert.KernelIdeal.τ Cert.KernelIdeal.sig) → Buf (Elt Ideal) ℓ) (hp : Cert.Pre_KernelIdeal_finite m) (c : Dev Cert.KernelIdeal.nD) :
    (Cert.KernelIdeal.Value.G6 m c : Vec Ideal Cert.KernelIdeal.S8x2048x512 .bf16)
      = Cert.ReferenceIdeal.RefValue.outp (Cert.KernelIdeal.Operands.kv m c) (Cert.KernelIdeal.Operands.wv m c) (Cert.ReferenceIdeal.RefValue.prob (Cert.ReferenceIdeal.RefValue.expo (Cert.ReferenceIdeal.RefValue.scores (Cert.KernelIdeal.Operands.q0 m c) (Cert.KernelIdeal.Operands.q1 m c) (Cert.KernelIdeal.Operands.kv m c) (Cert.KernelIdeal.Operands.kr m c) (Cert.KernelIdeal.Operands.wk m c)))) := by
  obtain ⟨p0, p1, p2, p3, p4⟩ := hp c
  have f0 := Cert.Finite.real_of (Cert.KernelIdeal.Operands.q0 m c) _ _ p0
  have f1 := Cert.Finite.real_of (Cert.KernelIdeal.Operands.q1 m c) _ _ p1
  have f2 := Cert.Finite.real_of (Cert.KernelIdeal.Operands.kv m c) _ _ p2
  have f3 := Cert.Finite.real_of (Cert.KernelIdeal.Operands.kr m c) _ _ p3
  have f4 := Cert.Finite.real_of (Cert.KernelIdeal.Operands.wk m c) _ _ p4
  funext i
  obtain ⟨b, s, e, rfl⟩ : ∃ (b : Fin 8) (s : Fin 2048) (e : Fin 512), i = ix3 b s e := by
    idx_vars i
    exact ⟨_, _, _, rfl⟩
  exact (Cert.KernelIdeal.Attention.kernel_at m c (fun b s e => EReal.toReal (Cert.KernelIdeal.Operands.q0 m c (ix3 b s e))) (fun b s e => EReal.toReal (Cert.KernelIdeal.Operands.q1 m c (ix3 b s e))) (fun b s e => EReal.toReal (Cert.KernelIdeal.Operands.kv m c (ix3 b s e)))
      (fun b s e => EReal.toReal (Cert.KernelIdeal.Operands.kr m c (ix3 b s e))) (fun b s e => EReal.toReal (Cert.KernelIdeal.Operands.wk m c (ix3 b s e)))
      (fun _ _ _ => f0 _) (fun _ _ _ => f1 _) (fun _ _ _ => f2 _) (fun _ _ _ => f3 _) (fun _ _ _ => f4 _) b s e).trans
    (Cert.ReferenceIdeal.RefValue.ref_at (Cert.KernelIdeal.Operands.q0 m c) (Cert.KernelIdeal.Operands.q1 m c) (Cert.KernelIdeal.Operands.kv m c) (Cert.KernelIdeal.Operands.kr m c) (Cert.KernelIdeal.Operands.wk m c) (Cert.KernelIdeal.Operands.wv m c) _ _ _ _ _
      (fun _ _ _ => f0 _) (fun _ _ _ => f1 _) (fun _ _ _ => f2 _) (fun _ _ _ => f3 _) (fun _ _ _ => f4 _) b s e).symm

/-- The reference runs to its end. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, kernel and reference end with the same result. -/
theorem algebraic : Cert.algebraic_KernelIdeal_ReferenceIdeal_pre_finite := by
  intro m ρ m' ρ' hp ha
  refine ⟨fun c => Cert.KernelIdeal.Value.G6 m c, Cert.KernelIdeal.Value.run (F := Ideal) m ρ, ?_⟩
  refine (θ_run Cert.ReferenceIdeal.defs _ _).mono (fun r h c => ⟨(h c).1.trans ?_, (h c).2⟩) (Cert.ReferenceIdeal.Value.run (F := Ideal) m' ρ')
  obtain ⟨a0, a1, a2, a3, a4, a5⟩ := ha c
  refine Eq.trans ?_ (value m hp c).symm
  refine (Cert.ReferenceIdeal.RefValue.res_eq m' c).trans ?_
  rw [a0, a1, a2, a3, a4, a5]

end Cert.PromptAttention
-- ==== Proof.Feed.lean ====
module
public import Idealize.ShloMosaic.PureOps.Ideal
public import Idealize.ShloMosaic.Lib.Pointwise

@[expose] public section

noncomputable section

open Idealize.ShloMosaic

/-! The rest of a layer after its mixer, for one token: the modulated norm, the squared-ReLU channel mixer and the gated
    residual. -/

namespace Cert.Feed

/-- One over the root of the mean square (the literals 1024 and 1e-6). -/
def inv (x : Fin 1024 → EReal) : EReal :=
  Ideal.rsqrt (Ideal.div (∑ k, x k * x k) (Ideal.ofBits FTy.f32 0x44800000#32) + Ideal.ofBits FTy.f32 0x358637BD#32)

/-- The norm with its gain. -/
def norm (x g : Fin 1024 → EReal) (e : Fin 1024) : EReal := x e * inv x * g e

/-- The norm, scaled and shifted. -/
def hid (x g sc sh : Fin 1024 → EReal) (e : Fin 1024) : EReal := norm x g e * (1 + sc e) + sh e

/-- The square of the positive part. -/
def sq (y : EReal) : EReal := max y 0 * max y 0

/-- The hidden activations. -/
def act (h : Fin 1024 → EReal) (u : Fin 1024 → Fin 4096 → EReal) (f : Fin 4096) : EReal := sq (∑ k, h k * u k f)

/-- The stream after the channel mixer. -/
def rest (x g sc sh : Fin 1024 → EReal) (u : Fin 1024 → Fin 4096 → EReal) (d : Fin 4096 → Fin 1024 → EReal) (ga : Fin 1024 → EReal)
    (e : Fin 1024) : EReal :=
  x e + ga e * ∑ f, act (hid x g sc sh) u f * d f e

/-- A sum over 4096 terms in four runs of 1024. -/
theorem sum_four (f : Fin 4096 → EReal) :
    ∑ k, f k = (∑ k : Fin 1024, f ⟨k, by omega⟩) + (∑ k : Fin 1024, f ⟨1024 + k, by omega⟩) + (∑ k : Fin 1024, f ⟨2048 + k, by omega⟩)
      + ∑ k : Fin 1024, f ⟨3072 + k, by omega⟩ := by
  have h1 := Fin.sum_univ_add (a := 3072) (b := 1024) f
  have h2 := Fin.sum_univ_add (a := 2048) (b := 1024) fun k : Fin 3072 => f (Fin.castAdd 1024 k)
  have h3 := Fin.sum_univ_add (a := 1024) (b := 1024) fun k : Fin 2048 => f (Fin.castAdd 1024 (Fin.castAdd 1024 k))
  exact h1.trans (congrArg₂ _ (h2.trans (congrArg₂ _ h3 rfl)) rfl)

/-- A sum over 1024 terms in two runs of 512. -/
theorem sum_two (f : Fin 1024 → EReal) :
    ∑ k, f k = (∑ k : Fin 512, f ⟨k, by omega⟩) + ∑ k : Fin 512, f ⟨512 + k, by omega⟩ :=
  Fin.sum_univ_add (a := 512) (b := 512) f

/-- From the one order to the other and back. -/
theorem there (n : Nat) (hn : n < 1024) :
    (n / 64 % 2 * 512 + n / 128 * 64 + n % 64) / 64 % 8 * 128 + (n / 64 % 2 * 512 + n / 128 * 64 + n % 64) / 512 * 64 + (n / 64 % 2 * 512 + n / 128 * 64 + n % 64) % 64 = n := by
  have h0 : n / 128 = n / 64 / 2 := by omega
  have h1 : n = 64 * (n / 64) + n % 64 := by omega
  have h2 : n % 64 < 64 := by omega
  have h3 : n / 64 < 16 := by omega
  rw [h0]
  generalize n / 64 = q at *
  generalize n % 64 = r at *
  subst h1
  clear hn h0
  interval_cases q <;> omega

/-- And the other way round. -/
theorem back (n : Nat) (hn : n < 1024) :
    (n / 64 % 8 * 128 + n / 512 * 64 + n % 64) / 64 % 2 * 512 + (n / 64 % 8 * 128 + n / 512 * 64 + n % 64) / 128 * 64 + (n / 64 % 8 * 128 + n / 512 * 64 + n % 64) % 64 = n := by
  have h0 : n / 512 = n / 64 / 8 := by omega
  have h1 : n = 64 * (n / 64) + n % 64 := by omega
  have h2 : n % 64 < 64 := by omega
  have h3 : n / 64 < 16 := by omega
  rw [h0]
  generalize n / 64 = q at *
  generalize n % 64 = r at *
  subst h1
  clear hn h0
  interval_cases q <;> omega

/-- The two orders of sixteen heads of 64: place `k` of the one is place `(k / 64 % 2) 512 + (k / 128) 64 + k % 64` of the other. -/
def heads : Fin 1024 ≃ Fin 1024 where
  toFun k := ⟨k.val / 64 % 2 * 512 + k.val / 128 * 64 + k.val % 64, by omega⟩
  invFun j := ⟨j.val / 64 % 8 * 128 + j.val / 512 * 64 + j.val % 64, by omega⟩
  left_inv k := Fin.ext (there k.val k.isLt)
  right_inv j := Fin.ext (back j.val j.isLt)

/-- A sum over the places of the heads, in the other order and in two runs of 512. -/
theorem sum_heads (f : Fin 1024 → EReal) :
    ∑ j, f j = (∑ k : Fin 512, f ⟨k / 64 % 2 * 512 + k / 128 * 64 + k % 64, by omega⟩)
      + ∑ k : Fin 512, f ⟨k / 64 % 2 * 512 + (4 + k / 128) * 64 + k % 64, by omega⟩ := by
  refine (heads.sum_comp f).symm.trans ((sum_two _).trans (congrArg₂ _ (Finset.sum_congr rfl fun k _ => rfl) (Finset.sum_congr rfl fun k _ => congrArg f (Fin.ext ?_))))
  show (512 + k.val) / 64 % 2 * 512 + (512 + k.val) / 128 * 64 + (512 + k.val) % 64 = k.val / 64 % 2 * 512 + (4 + k.val / 128) * 64 + k.val % 64
  have h1 : (512 + k.val) / 64 % 2 = k.val / 64 % 2 := by omega
  have h2 : (512 + k.val) / 128 = 4 + k.val / 128 := by omega
  have h3 : (512 + k.val) % 64 = k.val % 64 := by omega
  rw [h1, h2, h3]

end Cert.Feed
-- ==== Proof.PostTile.lean ====
module
public import proofs.«01_k».proof.Proof.Feed
public import proofs.«01_k».proof.Proof.Gen.PostIdeal.Frame
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.SL.Sem

namespace Cert.PostIdeal.Tile

open Cert.PostIdeal Cert.PostIdeal.Gen

/-- The stream after the mixer's gated residual. -/
theorem pay2_at (v0 : Vec Ideal S256x512 .bf16) (v2 : Vec Ideal S512x1024 .bf16) (v5 : Vec Ideal S256x512 .bf16) (v7 : Vec Ideal S512x1024 .bf16) (v11 : Vec Ideal S256x1024 .f32) (v13 : Vec Ideal S1x1x1024 .f32) (r : Fin 256) (e : Fin 1024) :
    k0_pay2 v0 v2 v5 v7 v11 v13 (ix2 r e) = v11 (ix2 r e) + v13 (ix3 0 0 e) * ((∑ k : Fin 512, v0 (ix2 r k) * v2 (ix2 k e)) + ∑ k : Fin 512, v5 (ix2 r k) * v7 (ix2 k e)) := by
  pointwise [k0_pay2]

/-- Its norm. -/
theorem pay3_at (v0 : Vec Ideal S256x512 .bf16) (v2 : Vec Ideal S512x1024 .bf16) (v5 : Vec Ideal S256x512 .bf16) (v7 : Vec Ideal S512x1024 .bf16) (v11 : Vec Ideal S256x1024 .f32) (v13 : Vec Ideal S1x1x1024 .f32) (v18 : Vec Ideal S1x1024 .f32) (r : Fin 256) (e : Fin 1024) :
    k0_pay3 v0 v2 v5 v7 v11 v13 v18 (ix2 r e) = Feed.norm (fun k => k0_pay2 v0 v2 v5 v7 v11 v13 (ix2 r k)) (fun k => v18 (ix2 0 k)) e := by
  unfold k0_pay3 Feed.norm Feed.inv
  generalize k0_pay2 v0 v2 v5 v7 v11 v13 = X
  pointwise

/-- The norm, scaled and shifted. -/
theorem pay6_at (v31 : FVec Ideal S256x1024 .f32) (v32 : Vec Ideal S1x1x1024 .f32) (v38 : Vec Ideal S1x1x1024 .f32) (r : Fin 256) (e : Fin 1024) :
    k0_pay6 v31 (k0_pay4 v32) k0_pay5 v38 (ix2 r e) = v31 (ix2 r e) * (1 + v32 (ix3 0 0 e)) + v38 (ix3 0 0 e) := by
  pointwise [k0_pay6, k0_pay4, k0_pay5]

/-- The first half of the channel mixer. -/
theorem pay7_at (v31 : FVec Ideal S256x1024 .f32) (v33 : FVec Ideal S1x1024 .f32) (v34 : FVec Ideal S1x1024 .f32) (v38 : Vec Ideal S1x1x1024 .f32) (v44 v51 v55 v62 : Vec Ideal S1024x1024 .bf16) (r : Fin 256) (e : Fin 1024) :
    k0_pay7 v31 v33 v34 v38 v44 v51 v55 v62 (ix2 r e)
      = (∑ f : Fin 1024, Feed.sq (∑ k : Fin 1024, k0_pay6 v31 v33 v34 v38 (ix2 r k) * v44 (ix2 k f)) * v51 (ix2 f e))
        + ∑ f : Fin 1024, Feed.sq (∑ k : Fin 1024, k0_pay6 v31 v33 v34 v38 (ix2 r k) * v55 (ix2 k f)) * v62 (ix2 f e) := by
  unfold k0_pay7 Feed.sq
  generalize k0_pay6 v31 v33 v34 v38 = X
  pointwise

/-- A chunk of hidden activations. -/
theorem pay8_at (v31 : FVec Ideal S256x1024 .f32) (v33 : FVec Ideal S1x1024 .f32) (v34 : FVec Ideal S1x1024 .f32) (v38 : Vec Ideal S1x1x1024 .f32) (v66 : Vec Ideal S1024x1024 .bf16) (r : Fin 256) (f : Fin 1024) :
    k0_pay8 v31 v33 v34 v38 v66 (ix2 r f) = Feed.sq (∑ k : Fin 1024, k0_pay6 v31 v33 v34 v38 (ix2 r k) * v66 (ix2 k f)) := by
  unfold k0_pay8 Feed.sq
  generalize k0_pay6 v31 v33 v34 v38 = X
  pointwise

/-- The second half of the channel mixer, and the gated residual. -/
theorem pay1_at (v17 : FVec Ideal S256x1024 .f32) (v42 : FVec Ideal S256x1024 .bf16) (v65 : FVec Ideal S256x1024 .f32) (v72 : FVec Ideal S256x1024 .bf16) (v73 v77 v84 : Vec Ideal S1024x1024 .bf16) (v88 : Vec Ideal S1x1x1024 .f32) (r : Fin 256) (e : Fin 1024) :
    k0_pay1 v17 v42 v65 v72 v73 v77 v84 v88 (ix2 r e)
      = v17 (ix2 r e) + v88 (ix3 0 0 e) * (v65 (ix2 r e) + (∑ f : Fin 1024, v72 (ix2 r f) * v73 (ix2 f e))
        + ∑ f : Fin 1024, Feed.sq (∑ k : Fin 1024, v42 (ix2 r k) * v77 (ix2 k f)) * v84 (ix2 f e)) := by
  unfold Feed.sq
  pointwise [k0_pay1]

end Cert.PostIdeal.Tile
-- ==== Proof.PostOut.lean ====
module
public import proofs.«01_k».proof.Proof.PostTile

@[expose] public section

set_option maxRecDepth 16384
set_option maxHeartbeats 1000000

noncomputable section

open Idealize.ShloMosaic Idealize.ShloMosaic.TcCoe Idealize.SL.Sem

namespace Cert.PostIdeal.Tile

open Cert.PostIdeal Cert.PostIdeal.Gen

theorem hz : (![0, 0] : Fin 2 → Nat) = fun _ => 0 := funext fun a => by fin_cases a <;> rfl
theorem hz3 : (![0, 0, 0] : Fin 3 → Nat) = fun _ => 0 := funext fun a => by fin_cases a <;> rfl

/-- What the body stores at an index, from its blocks. -/
theorem tile_at (x0 x1 : Vec Ideal S256x512 .bf16) (x2 : Vec Ideal S256x1024 .f32) (x3 x4 x5 x6 : Vec Ideal S1x1x1024 .f32) (x7 x8 : Vec Ideal S512x1024 .bf16) (x9 : Vec Ideal S1x1024 .f32) (x10 : Vec Ideal S1024x4096 .bf16) (x11 : Vec Ideal S4096x1024 .bf16) (x12 : Vec Ideal S1x1024 .f32) (r : Fin 256) (e : Fin 1024) :
    out0_13 x0 x1 x2 x3 x4 x5 x6 x7 x8 x9 x10 x11 x12 (ix2 r e)
      = Feed.rest (fun k => x2 (ix2 r k) + x3 (ix3 0 0 k) * ((∑ j : Fin 512, x0 (ix2 r j) * x7 (ix2 j k)) + ∑ j : Fin 512, x1 (ix2 r j) * x8 (ix2 j k)))
          (fun k => x9 (ix2 0 k)) (fun k => x5 (ix3 0 0 k)) (fun k => x4 (ix3 0 0 k)) (fun k f => x10 (ix2 k f)) (fun f k => x11 (ix2 f k)) (fun k => x6 (ix3 0 0 k)) e := by
  unfold out0_13 k0_pay9 k0_pay10 k0_pay11
  rw [View.canon_unit_zero (S := S256x1024) hz]
  simp only [View.ld_unit_zero (S := S256x512) hz, View.ld_unit_zero (S := S512x1024) hz, View.ld_unit_zero (S := S256x1024) hz, View.ld_unit_zero (S := S1x1024) hz, View.ld_unit_zero (S := S1x1x1024) hz3]
  rw [pay1_at, pay7_at]
  simp only [pay8_at, pay6_at, pay3_at, pay2_at]
  unfold Feed.rest
  rw [Feed.sum_four]
  unfold Feed.act Feed.hid
  refine congrArg₂ _ rfl (congrArg₂ _ rfl (congrArg₂ _ (congrArg₂ _ (congrArg₂ _ ?_ ?_) ?_) ?_)) <;>
    refine Finset.sum_congr rfl fun f _ => congrArg₂ _ (congrArg Feed.sq (Finset.sum_congr rfl fun k _ => congrArg₂ _ rfl ?_)) ?_ <;>
    first
      | (refine congrArg x10 ?_; idx_ext)
      | (refine congrArg x11 ?_; idx_ext)

end Cert.PostIdeal.Tile
-- ==== Proof.PostOperands.lean ====
module
public import proofs.«01_k».proof.Proof.PostOut
public import proofs.«01_k».proof.Proof.Gen.PostIdeal.Value
public import Idealize.ShloMosaic.Lib.Pointwise
public import Idealize.ShloMosaic.Lib.Claim
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 2000000

noncomputable section

open Idealize.ShloMosaic Idealize.ShloMosaic.TcCoe Idealize.SL.Sem

namespace Cert.PostIdeal.Operands

open Cert.PostIdeal Cert.PostIdeal.Gen

/-- Which block of its array each window holds at point `t`. -/
theorem idx : ∀ t : Fin cfg0.N, win0_0.index t = ![t.val, 0] ∧ win0_1.index t = ![t.val, 0] ∧ win0_2.index t = ![t.val, 0]
    ∧ win0_3.index t = ![t.val / 8, 0, 2] ∧ win0_4.index t = ![t.val / 8, 0, 3] ∧ win0_5.index t = ![t.val / 8, 0, 4] ∧ win0_6.index t = ![t.val / 8, 0, 5]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![t.val, 0] ∧ t.val / 8 < 8 ∧ win0_13.flush t = true :=
  (by decide +kernel : ∀ t : Fin grid0.N, _)

theorem lt (t : Fin cfg0.N) : t.val / 8 < 8 := (idx t).2.2.2.2.2.2.2.2.2.2.2.2.2.2.1

variable (m : (ℓ : Loc nD τ sig) → Buf (Elt Ideal) ℓ) (c : Dev nD)

/-- The latent attention's output. -/
abbrev a0 : Vec Ideal S8x2048x512 .f32 := m ((c : Thread nD τ).loc main_arg0)
/-- The differential attention's output. -/
abbrev a1 : Vec Ideal S8x2048x512 .f32 := m ((c : Thread nD τ).loc main_arg1)
/-- The stream. -/
abbrev a2 : Vec Ideal S8x2048x1024 .f32 := m ((c : Thread nD τ).loc main_arg2)
/-- The six modulations. -/
abbrev a3 : Vec Ideal S8x6144 .f32 := m ((c : Thread nD τ).loc main_arg3)
/-- The output projection. -/
abbrev a4 : Vec Ideal S1024x1024 .f32 := m ((c : Thread nD τ).loc main_arg4)
/-- The norm's gain. -/
abbrev a5 : Vec Ideal S1024 .f32 := m ((c : Thread nD τ).loc main_arg5)
/-- The channel mixer's first matrix. -/
abbrev a6 : Vec Ideal S1024x4096 .f32 := m ((c : Thread nD τ).loc main_arg6)
/-- The channel mixer's second matrix. -/
abbrev a7 : Vec Ideal S4096x1024 .f32 := m ((c : Thread nD τ).loc main_arg7)

theorem arr0 (n : Fin 16384) (e : Fin 512) : (V m c main_v2 : Vec Ideal S16384x512 .bf16) (ix2 n e) = a0 m c (ix3 ⟨n / 2048, by omega⟩ ⟨n % 2048, by omega⟩ e) := by
  have hn := n.isLt
  have he := e.isLt
  unfold V
  after_reads_simp
  pointwise

theorem arr1 (n : Fin 16384) (e : Fin 512) : (V m c main_v4 : Vec Ideal S16384x512 .bf16) (ix2 n e) = a1 m c (ix3 ⟨n / 2048, by omega⟩ ⟨n % 2048, by omega⟩ e) := by
  have hn := n.isLt
  have he := e.isLt
  unfold V
  after_reads_simp
  pointwise

theorem arr2 (n : Fin 16384) (e : Fin 1024) : (V m c main_v5 : Vec Ideal S16384x1024 .f32) (ix2 n e) = a2 m c (ix3 ⟨n / 2048, by omega⟩ ⟨n % 2048, by omega⟩ e) := by
  have hn := n.isLt
  have he := e.isLt
  unfold V
  after_reads_simp
  pointwise

theorem arr3 (b : Fin 8) (e : Fin 6144) : (V m c main_v6 : Vec Ideal S8x1x6144 .f32) (ix3 b 0 e) = a3 m c (ix2 b e) := by
  have hn := b.isLt
  have he := e.isLt
  unfold V
  after_reads_simp
  pointwise

theorem arr7 (k : Fin 512) (e : Fin 1024) : (V m c main_v7 : Vec Ideal S512x1024 .bf16) (ix2 k e) = a4 m c (ix2 ⟨k, by omega⟩ e) := by
  unfold V
  after_reads_simp
  pointwise

theorem arr8 (k : Fin 512) (e : Fin 1024) : (V m c main_v8 : Vec Ideal S512x1024 .bf16) (ix2 k e) = a4 m c (ix2 ⟨512 + k, by omega⟩ e) := by
  unfold V
  after_reads_simp
  pointwise

theorem arr9 (e : Fin 1024) : (V m c main_v11 : Vec Ideal S1x1024 .f32) (ix2 0 e) = a5 m c (ix1 e) := by
  have he := e.isLt
  unfold V
  after_reads_simp
  pointwise

theorem arr10 (k : Fin 1024) (e : Fin 4096) : (V m c main_v9 : Vec Ideal S1024x4096 .bf16) (ix2 k e) = a6 m c (ix2 k e) := by
  unfold V
  after_reads_simp
  pointwise

theorem arr11 (k : Fin 4096) (e : Fin 1024) : (V m c main_v10 : Vec Ideal S4096x1024 .bf16) (ix2 k e) = a7 m c (ix2 k e) := by
  unfold V
  after_reads_simp
  pointwise

/-! The blocks of point `t`: tokens `256 t …`, batch `t / 8`. -/

/-- The token a row of a point's tile stands for. -/
abbrev tok (t : Fin cfg0.N) (r : Fin 256) : Fin 2048 := ⟨256 * (t % 8) + r, by omega⟩

/-- The batch of a point. -/
abbrev bat (t : Fin cfg0.N) : Fin 8 := ⟨t / 8, lt t⟩

theorem blk0 (t : Fin cfg0.N) (r : Fin 256) (e : Fin 512) :
    (iblk m c 0 t : Vec Ideal S256x512 .bf16) (ix2 r e) = a0 m c (ix3 (bat t) (tok t r) e) := by
  have hr := r.isLt
  have ht := lt t
  have e1 : (⟨(256 * t.val + r.val) / 2048, by omega⟩ : Fin 8) = bat t := Fin.ext (by show (256 * t.val + r.val) / 2048 = t.val / 8; omega)
  have e2 : (⟨(256 * t.val + r.val) % 2048, by omega⟩ : Fin 2048) = tok t r := Fin.ext (by show (256 * t.val + r.val) % 2048 = 256 * (t.val % 8) + r.val; omega)
  rw [← e1, ← e2, ← arr0 m c ⟨256 * t + r, by omega⟩ e]
  blk_ext [iblk, idx t]

theorem blk1 (t : Fin cfg0.N) (r : Fin 256) (e : Fin 512) :
    (iblk m c 1 t : Vec Ideal S256x512 .bf16) (ix2 r e) = a1 m c (ix3 (bat t) (tok t r) e) := by
  have hr := r.isLt
  have ht := lt t
  have e1 : (⟨(256 * t.val + r.val) / 2048, by omega⟩ : Fin 8) = bat t := Fin.ext (by show (256 * t.val + r.val) / 2048 = t.val / 8; omega)
  have e2 : (⟨(256 * t.val + r.val) % 2048, by omega⟩ : Fin 2048) = tok t r := Fin.ext (by show (256 * t.val + r.val) % 2048 = 256 * (t.val % 8) + r.val; omega)
  rw [← e1, ← e2, ← arr1 m c ⟨256 * t + r, by omega⟩ e]
  blk_ext [iblk, idx t]

theorem blk2 (t : Fin cfg0.N) (r : Fin 256) (e : Fin 1024) :
    (iblk m c 2 t : Vec Ideal S256x1024 .f32) (ix2 r e) = a2 m c (ix3 (bat t) (tok t r) e) := by
  have hr := r.isLt
  have ht := lt t
  have e1 : (⟨(256 * t.val + r.val) / 2048, by omega⟩ : Fin 8) = bat t := Fin.ext (by show (256 * t.val + r.val) / 2048 = t.val / 8; omega)
  have e2 : (⟨(256 * t.val + r.val) % 2048, by omega⟩ : Fin 2048) = tok t r := Fin.ext (by show (256 * t.val + r.val) % 2048 = 256 * (t.val % 8) + r.val; omega)
  rw [← e1, ← e2, ← arr2 m c ⟨256 * t + r, by omega⟩ e]
  blk_ext [iblk, idx t]

theorem blk3 (t : Fin cfg0.N) (e : Fin 1024) :
    (iblk m c 3 t : Vec Ideal S1x1x1024 .f32) (ix3 0 0 e) = a3 m c (ix2 (bat t) ⟨2048 + e, by omega⟩) := by
  rw [← arr3]
  blk_ext [iblk, idx t]

theorem blk4 (t : Fin cfg0.N) (e : Fin 1024) :
    (iblk m c 4 t : Vec Ideal S1x1x1024 .f32) (ix3 0 0 e) = a3 m c (ix2 (bat t) ⟨3072 + e, by omega⟩) := by
  rw [← arr3]
  blk_ext [iblk, idx t]

theorem blk5 (t : Fin cfg0.N) (e : Fin 1024) :
    (iblk m c 5 t : Vec Ideal S1x1x1024 .f32) (ix3 0 0 e) = a3 m c (ix2 (bat t) ⟨4096 + e, by omega⟩) := by
  rw [← arr3]
  blk_ext [iblk, idx t]

theorem blk6 (t : Fin cfg0.N) (e : Fin 1024) :
    (iblk m c 6 t : Vec Ideal S1x1x1024 .f32) (ix3 0 0 e) = a3 m c (ix2 (bat t) ⟨5120 + e, by omega⟩) := by
  rw [← arr3]
  blk_ext [iblk, idx t]

theorem blk7 (t : Fin cfg0.N) (k : Fin 512) (e : Fin 1024) :
    (iblk m c 7 t : Vec Ideal S512x1024 .bf16) (ix2 k e) = a4 m c (ix2 ⟨k, by omega⟩ e) := by
  rw [← arr7]
  blk_ext [iblk, idx t]

theorem blk8 (t : Fin cfg0.N) (k : Fin 512) (e : Fin 1024) :
    (iblk m c 8 t : Vec Ideal S512x1024 .bf16) (ix2 k e) = a4 m c (ix2 ⟨512 + k, by omega⟩ e) := by
  rw [← arr8]
  blk_ext [iblk, idx t]

theorem blk9 (t : Fin cfg0.N) (e : Fin 1024) :
    (iblk m c 9 t : Vec Ideal S1x1024 .f32) (ix2 0 e) = a5 m c (ix1 e) := by
  rw [← arr9]
  blk_ext [iblk, idx t]

theorem blk10 (t : Fin cfg0.N) (k : Fin 1024) (e : Fin 4096) :
    (iblk m c 10 t : Vec Ideal S1024x4096 .bf16) (ix2 k e) = a6 m c (ix2 k e) := by
  rw [← arr10]
  blk_ext [iblk, idx t]

theorem blk11 (t : Fin cfg0.N) (k : Fin 4096) (e : Fin 1024) :
    (iblk m c 11 t : Vec Ideal S4096x1024 .bf16) (ix2 k e) = a7 m c (ix2 k e) := by
  rw [← arr11]
  blk_ext [iblk, idx t]

/-- The result at the token a row of a point's tile stands for: what the body stores there. -/
theorem out_at (t : Fin cfg0.N) (r : Fin 256) (e : Fin 1024) (h : 256 * t.val + r.val < 16384) :
    ((dats m 0 c).arrAt 13 cfg0.N : Vec Ideal S16384x1024 .f32) (ix2 ⟨256 * t + r, h⟩ e)
      = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) := by
  have hb := congrFun ((Value.blocks13 m c t (idx t).2.2.2.2.2.2.2.2.2.2.2.2.2.2.2).trans (Value.flushed13 m c t)) (ix2 r e)
  refine Eq.trans ?_ hb
  generalize (dats m 0 c).arrAt 13 cfg0.N = A
  blk_ext [idx t]

/-- A token's stream after the attention and the output projection. -/
def stream (x0 x1 : Vec Ideal S8x2048x512 .f32) (x2 : Vec Ideal S8x2048x1024 .f32) (x3 : Vec Ideal S8x6144 .f32) (x4 : Vec Ideal S1024x1024 .f32) (b : Fin 8) (s : Fin 2048) (k : Fin 1024) : EReal :=
  x2 (ix3 b s k) + x3 (ix2 b ⟨2048 + k, by omega⟩) * ((∑ j : Fin 512, x0 (ix3 b s j) * x4 (ix2 ⟨j, by omega⟩ k)) + ∑ j : Fin 512, x1 (ix3 b s j) * x4 (ix2 ⟨512 + j, by omega⟩ k))

/-- The kernel's result at an index. -/
theorem kernel_at (n : Fin 16384) (e : Fin 1024) :
    ((dats m 0 c).arrAt 13 cfg0.N : Vec Ideal S16384x1024 .f32) (ix2 n e)
      = Feed.rest (stream (a0 m c) (a1 m c) (a2 m c) (a3 m c) (a4 m c) ⟨n / 2048, by omega⟩ ⟨n % 2048, by omega⟩) (fun k => a5 m c (ix1 k))
          (fun k => a3 m c (ix2 ⟨n / 2048, by omega⟩ ⟨4096 + k, by omega⟩)) (fun k => a3 m c (ix2 ⟨n / 2048, by omega⟩ ⟨3072 + k, by omega⟩))
          (fun k f => a6 m c (ix2 k f)) (fun f k => a7 m c (ix2 f k)) (fun k => a3 m c (ix2 ⟨n / 2048, by omega⟩ ⟨5120 + k, by omega⟩)) e := by
  have hn := n.isLt
  have hN : cfg0.N = 64 := N_0
  let t : Fin cfg0.N := ⟨n / 256, by omega⟩
  let r : Fin 256 := ⟨n % 256, by omega⟩
  have en : (⟨256 * t + r, by show 256 * (n.val / 256) + n.val % 256 < 16384; omega⟩ : Fin 16384) = n := Fin.ext (by show 256 * (n.val / 256) + n.val % 256 = n.val; omega)
  have e1 : bat t = ⟨n / 2048, by omega⟩ := Fin.ext (by show n.val / 256 / 8 = n.val / 2048; omega)
  have e2 : tok t r = ⟨n % 2048, by omega⟩ := Fin.ext (by show 256 * (n.val / 256 % 8) + n.val % 256 = n.val % 2048; omega)
  have h := out_at m c t r e (by show 256 * (n.val / 256) + n.val % 256 < 16384; omega)
  rw [en] at h
  refine h.trans ((Tile.tile_at _ _ _ _ _ _ _ _ _ _ _ _ _ r e).trans ?_)
  simp only [blk0, blk1, blk2, blk3, blk4, blk5, blk6, blk7, blk8, blk9, blk10, blk11, e1, e2]
  rfl

end Cert.PostIdeal.Operands
-- ==== Proof.PostRef.lean ====
module
public import proofs.«01_k».proof.Proof.Feed
public import proofs.«01_k».proof.Proof.Gen.PostReferenceIdeal.Run
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.SL.Sem

namespace Cert.PostReferenceIdeal.RefValue

open Cert.PostReferenceIdeal Cert.PostReferenceIdeal.Gen Cert.PostReferenceIdeal.Value

variable (m : (ℓ : Loc nD τ sig) → Buf (Elt Ideal) ℓ) (c : Dev nD)

/-- The stream after the attention and the output projection. -/
def mid (x0 : FVec Ideal S8x2048x512 .f32) (x1 : FVec Ideal S8x2048x512 .f32) (x2 : FVec Ideal S8x2048x1024 .f32) (x3 : FVec Ideal S8x6144 .f32) (x4 : FVec Ideal S1024x1024 .f32) : FVec Ideal S8x2048x1024 .f32 :=
  (addf x2 (mulf (broadcastInDim S8x2048x1024 ![0, 1, 2] bcast_S8x1x1024_S8x2048x1024_0_1_2 (extractStridedSlice S8x1x1024 ![0, 0, 2048] (broadcastInDim S8x1x6144 ![0, 2] bcast_S8x6144_S8x1x6144_0_2 x3) slices_S8x1x6144_S8x1x1024_0_0_2048)) (Host.dotGeneral dot_S8x2048x1024_S1024x1024_S8x2048x1024_2_0_01_1_n_n none (concatenate S8x2048x1024 2 [⟨S8x2048x512, x0⟩, ⟨S8x2048x512, x1⟩] concatenates_S8x2048x512_S8x2048x512_S8x2048x1024_d2) x4)))

/-- The norm, scaled and shifted by the modulations. -/
def hidden (X : FVec Ideal S8x2048x1024 .f32) (x3 : FVec Ideal S8x6144 .f32) (x5 : FVec Ideal S1024 .f32) : FVec Ideal S8x2048x1024 .f32 :=
  (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x5))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 x3) slices_S8x1x6144_S8x1x1024_0_0_4096)))) (broadcastInDim S8x2048x1024 ![0, 1, 2] bcast_S8x1x1024_S8x2048x1024_0_1_2 (extractStridedSlice S8x1x1024 ![0, 0, 3072] (broadcastInDim S8x1x6144 ![0, 2] bcast_S8x6144_S8x1x6144_0_2 x3) slices_S8x1x6144_S8x1x1024_0_0_3072)))

/-- The square of the positive part of the first matrix's product. -/
def acts (H : FVec Ideal S8x2048x1024 .f32) (x6 : FVec Ideal S1024x4096 .f32) : FVec Ideal S8x2048x4096 .f32 :=
  (mulf (maximumf (Host.dotGeneral dot_S8x2048x1024_S1024x4096_S8x2048x4096_2_0_01_1_n_n none H x6) (broadcastInDim S8x2048x4096 ![] bcast_S_S8x2048x4096 (constant S_ .f32 0x00000000#32))) (maximumf (Host.dotGeneral dot_S8x2048x1024_S1024x4096_S8x2048x4096_2_0_01_1_n_n none H x6) (broadcastInDim S8x2048x4096 ![] bcast_S_S8x2048x4096 (constant S_ .f32 0x00000000#32))))

/-- The stream after the channel mixer. -/
def outs (X : FVec Ideal S8x2048x1024 .f32) (A : FVec Ideal S8x2048x4096 .f32) (x3 : FVec Ideal S8x6144 .f32) (x7 : FVec Ideal S4096x1024 .f32) : FVec Ideal S8x2048x1024 .f32 :=
  (addf X (mulf (broadcastInDim S8x2048x1024 ![0, 1, 2] bcast_S8x1x1024_S8x2048x1024_0_1_2 (extractStridedSlice S8x1x1024 ![0, 0, 5120] (broadcastInDim S8x1x6144 ![0, 2] bcast_S8x6144_S8x1x6144_0_2 x3) slices_S8x1x6144_S8x1x1024_0_0_5120)) (Host.dotGeneral dot_S8x2048x4096_S4096x1024_S8x2048x1024_2_0_01_1_n_n none A x7)))

/-- The result. -/
def last (O : FVec Ideal S8x2048x1024 .f32) : FVec Ideal S16384x1024 .f32 :=
  shapeCast S16384x1024 O shapeCasts_S8x2048x1024_S16384x1024

/-- The reference's result in these steps. -/
theorem res_eq : (res_main_v38 m c : FVec Ideal S16384x1024 .f32) = last (outs (mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (acts (hidden (mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg3)) (m ((c.tc : Thread nD τ).loc main_arg5))) (m ((c.tc : Thread nD τ).loc main_arg6))) (m ((c.tc : Thread nD τ).loc main_arg3)) (m ((c.tc : Thread nD τ).loc main_arg7))) := by
  unfold res_main_v38 last outs acts hidden mid
  rfl

/-- The stream after the output projection, at an index. -/
theorem mid_at (x0 : FVec Ideal S8x2048x512 .f32) (x1 : FVec Ideal S8x2048x512 .f32) (x2 : FVec Ideal S8x2048x1024 .f32) (x3 : FVec Ideal S8x6144 .f32) (x4 : FVec Ideal S1024x1024 .f32) (b : Fin 8) (s : Fin 2048) (e : Fin 1024) :
    mid x0 x1 x2 x3 x4 (ix3 b s e) = x2 (ix3 b s e) + x3 (ix2 b ⟨2048 + e, by omega⟩) * ((∑ j : Fin 512, x0 (ix3 b s j) * x4 (ix2 ⟨j, by omega⟩ e)) + ∑ j : Fin 512, x1 (ix3 b s j) * x4 (ix2 ⟨512 + j, by omega⟩ e)) := by
  pointwise [mid]

/-- The scaled and shifted norm, at an index. -/
theorem hidden_at (X : FVec Ideal S8x2048x1024 .f32) (x3 : FVec Ideal S8x6144 .f32) (x5 : FVec Ideal S1024 .f32) (b : Fin 8) (s : Fin 2048) (e : Fin 1024) :
    hidden X x3 x5 (ix3 b s e) = Feed.hid (fun k => X (ix3 b s k)) (fun k => x5 (ix1 k)) (fun k => x3 (ix2 b ⟨4096 + k, by omega⟩)) (fun k => x3 (ix2 b ⟨3072 + k, by omega⟩)) e := by
  unfold Feed.hid Feed.norm Feed.inv
  pointwise [hidden]

/-- The activations, at an index. -/
theorem acts_at (H : FVec Ideal S8x2048x1024 .f32) (x6 : FVec Ideal S1024x4096 .f32) (b : Fin 8) (s : Fin 2048) (f : Fin 4096) :
    acts H x6 (ix3 b s f) = Feed.act (fun k => H (ix3 b s k)) (fun k f => x6 (ix2 k f)) f := by
  unfold Feed.act Feed.sq
  pointwise [acts]

/-- The stream after the channel mixer, at an index. -/
theorem outs_at (X : FVec Ideal S8x2048x1024 .f32) (A : FVec Ideal S8x2048x4096 .f32) (x3 : FVec Ideal S8x6144 .f32) (x7 : FVec Ideal S4096x1024 .f32) (b : Fin 8) (s : Fin 2048) (e : Fin 1024) :
    outs X A x3 x7 (ix3 b s e) = X (ix3 b s e) + x3 (ix2 b ⟨5120 + e, by omega⟩) * ∑ f : Fin 4096, A (ix3 b s f) * x7 (ix2 f e) := by
  pointwise [outs]

/-- The result at an index. -/
theorem last_at (O : FVec Ideal S8x2048x1024 .f32) (n : Fin 16384) (e : Fin 1024) :
    last O (ix2 n e) = O (ix3 ⟨n / 2048, by omega⟩ ⟨n % 2048, by omega⟩ e) := by
  pointwise [last]

/-- The rest of the layer, at an index. -/
theorem rest_at (x0 : FVec Ideal S8x2048x512 .f32) (x1 : FVec Ideal S8x2048x512 .f32) (x2 : FVec Ideal S8x2048x1024 .f32) (x3 : FVec Ideal S8x6144 .f32) (x4 : FVec Ideal S1024x1024 .f32) (x5 : FVec Ideal S1024 .f32) (x6 : FVec Ideal S1024x4096 .f32) (x7 : FVec Ideal S4096x1024 .f32) (b : Fin 8) (s : Fin 2048) (e : Fin 1024) :
    outs (mid x0 x1 x2 x3 x4) (acts (hidden (mid x0 x1 x2 x3 x4) x3 x5) x6) x3 x7 (ix3 b s e)
      = Feed.rest (fun e => x2 (ix3 b s e) + x3 (ix2 b ⟨2048 + e, by omega⟩) * ((∑ j : Fin 512, x0 (ix3 b s j) * x4 (ix2 ⟨j, by omega⟩ e)) + ∑ j : Fin 512, x1 (ix3 b s j) * x4 (ix2 ⟨512 + j, by omega⟩ e))) (fun k => x5 (ix1 k)) (fun k => x3 (ix2 b ⟨4096 + k, by omega⟩)) (fun k => x3 (ix2 b ⟨3072 + k, by omega⟩)) (fun k f => x6 (ix2 k f)) (fun f k => x7 (ix2 f k)) (fun k => x3 (ix2 b ⟨5120 + k, by omega⟩)) e := by
  rw [outs_at]
  simp only [acts_at, hidden_at, mid_at]
  rfl

end Cert.PostReferenceIdeal.RefValue
-- ==== Proof.PostClaims.lean ====
module
public import proofs.«01_k».proof.Defs
public import proofs.«01_k».proof.Proof.PostOperands
public import proofs.«01_k».proof.Proof.PostRef
public import Idealize.ShloMosaic.Adequacy
public import Idealize.ShloMosaic.Init

@[expose] public section

set_option maxRecDepth 16384

noncomputable section

open Idealize.ShloMosaic Idealize.ShloMosaic.TcCoe Idealize.SL.Sem

/-! The rest of layer 0: kernel and reference end with the same array. -/

namespace Cert.PromptPost

open Cert.PostIdeal.Operands Cert.PostReferenceIdeal.RefValue

local instance : Cert.PostIdeal.Facts := Cert.PostIdeal.Gen.facts
local instance : Cert.PostReferenceIdeal.Facts := Cert.PostReferenceIdeal.Gen.facts

/-- The two results are equal, element by element. -/
theorem value (m : (ℓ : Loc Cert.PostIdeal.nD Cert.PostIdeal.τ Cert.PostIdeal.sig) → Buf (Elt Ideal) ℓ) (c : Dev Cert.PostIdeal.nD) :
    ((Cert.PostIdeal.Gen.dats m 0 c).arrAt 13 Cert.PostIdeal.cfg0.N : Vec Ideal Cert.PostIdeal.S16384x1024 .f32)
      = last (outs (mid (a0 m c) (a1 m c) (a2 m c) (a3 m c) (a4 m c)) (acts (hidden (mid (a0 m c) (a1 m c) (a2 m c) (a3 m c) (a4 m c)) (a3 m c) (a5 m c)) (a6 m c)) (a3 m c) (a7 m c)) := by
  funext i
  obtain ⟨n, e, rfl⟩ : ∃ (n : Fin 16384) (e : Fin 1024), i = ix2 n e := by
    idx_vars i
    exact ⟨_, _, rfl⟩
  refine (kernel_at m c n e).trans (Eq.trans ?_ (last_at _ n e).symm)
  rw [rest_at]
  rfl

/-- The reference runs to its end. -/
theorem frame_reference : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run (F := Ideal) m ρ)

/-- From memories that agree on the arguments, kernel and reference end with the same result. -/
theorem algebraic : Cert.algebraic_PostIdeal_PostReferenceIdeal := by
  intro m ρ m' ρ' _ ha
  refine ⟨fun c => (Cert.PostIdeal.Gen.dats m 0 c).arrAt 13 Cert.PostIdeal.cfg0.N, Cert.PostIdeal.Value.run_blocks (F := Ideal) m ρ, ?_⟩
  refine (θ_run Cert.PostReferenceIdeal.defs _ _).mono (fun r h c => ⟨(h c).1.trans ?_, (h c).2⟩) (Cert.PostReferenceIdeal.Value.run (F := Ideal) m' ρ')
  obtain ⟨e0, e1, e2, e3, e4, e5, e6, e7, e8⟩ := ha c
  refine Eq.trans ?_ (value m c).symm
  refine (res_eq m' c).trans ?_
  rw [e0, e1, e2, e3, e4, e5, e6, e7]

end Cert.PromptPost
-- ==== Proof.PostFinalTile.lean ====
module
public import proofs.«01_k».proof.Proof.PostOut
public import proofs.«01_k».proof.Proof.Gen.PostFinalIdeal.Frame

@[expose] public section

set_option maxRecDepth 16384
set_option maxHeartbeats 1000000

noncomputable section

open Idealize.ShloMosaic Idealize.ShloMosaic.TcCoe Idealize.SL.Sem

/-! The last layer's body is the other layers' followed by the final norm. -/

namespace Cert.PostFinalIdeal.Tile

open Cert.PostFinalIdeal Cert.PostFinalIdeal.Gen

/-- The final norm of what the other layers store. -/
theorem pay1_at (v17 : FVec Ideal S256x1024 .f32) (v42 : FVec Ideal S256x1024 .bf16) (v65 : FVec Ideal S256x1024 .f32) (v72 : FVec Ideal S256x1024 .bf16) (v73 v77 v84 : Vec Ideal S1024x1024 .bf16) (v88 : Vec Ideal S1x1x1024 .f32) (v93 : Vec Ideal S1x1024 .f32) (r : Fin 256) (e : Fin 1024) :
    k0_pay1 v17 v42 v65 v72 v73 v77 v84 v88 v93 (ix2 r e)
      = Feed.norm (fun k => PostIdeal.Gen.k0_pay1 v17 v42 v65 v72 v73 v77 v84 v88 (ix2 r k)) (fun k => v93 (ix2 0 k)) e := by
  unfold Feed.norm Feed.inv
  simp only [PostIdeal.Tile.pay1_at]
  unfold Feed.sq
  pointwise [k0_pay1]

/-- What the body stores at an index: the norm of what the other layers' body stores. -/
theorem tile_at (x0 x1 : Vec Ideal S256x512 .bf16) (x2 : Vec Ideal S256x1024 .f32) (x3 x4 x5 x6 : Vec Ideal S1x1x1024 .f32) (x7 x8 : Vec Ideal S512x1024 .bf16) (x9 : Vec Ideal S1x1024 .f32) (x10 : Vec Ideal S1024x4096 .bf16) (x11 : Vec Ideal S4096x1024 .bf16) (x12 : Vec Ideal S1x1024 .f32) (r : Fin 256) (e : Fin 1024) :
    out0_13 x0 x1 x2 x3 x4 x5 x6 x7 x8 x9 x10 x11 x12 (ix2 r e)
      = Feed.norm (fun k => PostIdeal.Gen.out0_13 x0 x1 x2 x3 x4 x5 x6 x7 x8 x9 x10 x11 x12 (ix2 r k)) (fun k => x12 (ix2 0 k)) e := by
  unfold out0_13 PostIdeal.Gen.out0_13
  rw [View.canon_unit_zero (S := S256x1024) PostIdeal.Tile.hz, View.canon_unit_zero (S := S256x1024) PostIdeal.Tile.hz, pay1_at]
  have l : (fun k : Fin 1024 => View.ld x12 r0_4 (ix2 0 k)) = fun k => x12 (ix2 0 k) :=
    funext fun k => congrFun (View.ld_unit_zero (S := S1x1024) PostIdeal.Tile.hz _ x12) (ix2 0 k)
  rw [l]
  rfl

end Cert.PostFinalIdeal.Tile
-- ==== Proof.PostFinalOperands.lean ====
module
public import proofs.«01_k».proof.Proof.PostFinalTile
public import proofs.«01_k».proof.Proof.Gen.PostFinalIdeal.Value
public import Idealize.ShloMosaic.Lib.Pointwise
public import Idealize.ShloMosaic.Lib.Claim
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 2000000

noncomputable section

open Idealize.ShloMosaic Idealize.ShloMosaic.TcCoe Idealize.SL.Sem

namespace Cert.PostFinalIdeal.Operands

open Cert.PostFinalIdeal Cert.PostFinalIdeal.Gen

/-- Which block of its array each window holds at point `t`. -/
theorem idx : ∀ t : Fin cfg0.N, win0_0.index t = ![t.val, 0] ∧ win0_1.index t = ![t.val, 1] ∧ win0_2.index t = ![t.val, 0]
    ∧ win0_3.index t = ![t.val / 8, 0, 2] ∧ win0_4.index t = ![t.val / 8, 0, 3] ∧ win0_5.index t = ![t.val / 8, 0, 4] ∧ win0_6.index t = ![t.val / 8, 0, 5]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![t.val, 0] ∧ t.val / 8 < 8 ∧ win0_13.flush t = true :=
  (by decide +kernel : ∀ t : Fin grid0.N, _)

theorem lt (t : Fin cfg0.N) : t.val / 8 < 8 := (idx t).2.2.2.2.2.2.2.2.2.2.2.2.2.2.1

variable (m : (ℓ : Loc nD τ sig) → Buf (Elt Ideal) ℓ) (c : Dev nD)

/-- The sparse attention's output, head (j, g) of the model's order. -/
abbrev a0 : Vec Ideal S8x2048x2x8x64 .f32 := m ((c : Thread nD τ).loc main_arg0)
/-- The stream. -/
abbrev a1 : Vec Ideal S8x2048x1024 .f32 := m ((c : Thread nD τ).loc main_arg1)
/-- The six modulations. -/
abbrev a2 : Vec Ideal S8x6144 .f32 := m ((c : Thread nD τ).loc main_arg2)
/-- The output projection. -/
abbrev a3 : Vec Ideal S1024x1024 .f32 := m ((c : Thread nD τ).loc main_arg3)
/-- The norm's gain. -/
abbrev a4 : Vec Ideal S1024 .f32 := m ((c : Thread nD τ).loc main_arg4)
/-- The channel mixer's first matrix. -/
abbrev a5 : Vec Ideal S1024x4096 .f32 := m ((c : Thread nD τ).loc main_arg5)
/-- The channel mixer's second matrix. -/
abbrev a6 : Vec Ideal S4096x1024 .f32 := m ((c : Thread nD τ).loc main_arg6)
/-- The final norm's gain. -/
abbrev a7 : Vec Ideal S1024 .f32 := m ((c : Thread nD τ).loc main_arg7)

/-- The attention's output in the kernel's order of heads. -/
theorem arr0 (n : Fin 16384) (e : Fin 1024) : (V m c main_v2 : Vec Ideal S16384x1024 .bf16) (ix2 n e)
    = a0 m c (ix5 ⟨n / 2048, by omega⟩ ⟨n % 2048, by omega⟩ ⟨e / 64 % 2, by omega⟩ ⟨e / 128, by omega⟩ ⟨e % 64, by omega⟩) := by
  have hn := n.isLt
  have he := e.isLt
  unfold V
  after_reads_simp
  pointwise

theorem arr2 (n : Fin 16384) (e : Fin 1024) : (V m c main_v13 : Vec Ideal S16384x1024 .f32) (ix2 n e) = a1 m c (ix3 ⟨n / 2048, by omega⟩ ⟨n % 2048, by omega⟩ e) := by
  have hn := n.isLt
  have he := e.isLt
  unfold V
  after_reads_simp
  pointwise

theorem arr3 (b : Fin 8) (e : Fin 6144) : (V m c main_v14 : Vec Ideal S8x1x6144 .f32) (ix3 b 0 e) = a2 m c (ix2 b e) := by
  have hn := b.isLt
  have he := e.isLt
  unfold V
  after_reads_simp
  pointwise

/-- A row of the gathered table is the table's row at its index, clamped into the table. -/
theorem gather_head {α : Type} (x : S16x64x1024.Idx → α) (ix : IVec S16x1 32) (h : Fin 16) (l : Fin 64) (e : Fin 1024) :
    Host.gather gather_S16x64x1024_S16x1_S16x64x1024_12_0_n_n_0_1_1641024 x ix (ix3 h l e) = x (ix3 ⟨min (ix (ix2 h 0)).toInt.toNat 15, by omega⟩ l e) := by
  unfold Host.gather
  refine congrArg x (funext fun a => Fin.ext ?_)
  show GatherDims.start _ (ix3 h l e) ix a + GatherDims.batchCoord _ (ix3 h l e) a + GatherDims.offCoord _ (ix3 h l e) a = _
  rw [GatherDims.batchCoord_eq_zero _ _ _ List.not_mem_nil]
  have h3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (fun q => ((GatherDims.mem_sKept _ _).mp q).1 (List.mem_singleton.mpr rfl))]
    simp only [Nat.add_zero]
    unfold GatherDims.start
    rw [dif_pos (show (0 : Fin 3) ∈ gather_S16x64x1024_S16x1_S16x64x1024_12_0_n_n_0_1_1641024.startIndexMap from List.mem_singleton.mpr rfl)]
    refine congrArg (fun z => min (ix z).toInt.toNat 15) (funext fun b => Fin.ext ?_)
    match b with
    | ⟨0, _⟩ => rfl
    | ⟨1, _⟩ => rfl
  · unfold GatherDims.start
    rw [dif_neg (show ¬ (1 : Fin 3) ∈ gather_S16x64x1024_S16x1_S16x64x1024_12_0_n_n_0_1_1641024.startIndexMap from fun q => absurd (List.mem_singleton.mp q) (by decide)), Nat.zero_add]
    rfl
  · unfold GatherDims.start
    rw [dif_neg (show ¬ (2 : Fin 3) ∈ gather_S16x64x1024_S16x1_S16x64x1024_12_0_n_n_0_1_1641024.startIndexMap from fun q => absurd (List.mem_singleton.mp q) (by decide)), Nat.zero_add]
    rfl

/-- The table of heads: the kernel's head `h` is the model's `8 (h % 2) + h / 2`. -/
theorem head_at (h : Fin 16) :
    min (BitVec.toInt (Scalar.select (IntOp.cmpi CmpIPredicate.slt (lit0 (S16.rowMajor (ix1 h))) 0#32) (IntOp.addi (lit0 (S16.rowMajor (ix1 h))) 16#32) (lit0 (S16.rowMajor (ix1 h))))).toNat 15
      = h.val % 2 * 8 + h.val / 2 := by
  have e : (S16.rowMajor (ix1 h) : Fin 16) = h := by
    fin_cases h <;> rfl
  rw [e]
  clear e
  revert h
  decide

/-- The projection's rows in the kernel's order of heads. -/
theorem arr7 (k : Fin 512) (e : Fin 1024) : (V m c main_v15 : Vec Ideal S512x1024 .bf16) (ix2 k e) = a3 m c (ix2 ⟨(k / 64 % 2) * 512 + (k / 128) * 64 + k % 64, by omega⟩ e) := by
  unfold V
  after_reads_simp
  pointwise
  rw [gather_head]
  pointwise
  have h := head_at ⟨k / 64, by omega⟩
  refine congrArg (fun z => a3 m c (ix2 z e)) (Fin.ext ?_)
  refine (congrArg (fun z => z * 64 + k.val % 64) h).trans ?_
  show (k.val / 64 % 2 * 8 + k.val / 64 / 2) * 64 + k.val % 64 = k.val / 64 % 2 * 512 + k.val / 128 * 64 + k.val % 64
  omega

theorem arr8 (k : Fin 512) (e : Fin 1024) : (V m c main_v16 : Vec Ideal S512x1024 .bf16) (ix2 k e) = a3 m c (ix2 ⟨(k / 64 % 2) * 512 + (4 + k / 128) * 64 + k % 64, by omega⟩ e) := by
  unfold V
  after_reads_simp
  pointwise
  rw [gather_head]
  pointwise
  have h := head_at ⟨(512 + k) / 64, by omega⟩
  refine congrArg (fun z => a3 m c (ix2 z e)) (Fin.ext ?_)
  refine (congrArg (fun z => z * 64 + (512 + k.val) % 64) h).trans ?_
  show ((512 + k.val) / 64 % 2 * 8 + (512 + k.val) / 64 / 2) * 64 + (512 + k.val) % 64 = k.val / 64 % 2 * 512 + (4 + k.val / 128) * 64 + k.val % 64
  omega

theorem arr9 (e : Fin 1024) : (V m c main_v19 : Vec Ideal S1x1024 .f32) (ix2 0 e) = a4 m c (ix1 e) := by
  have he := e.isLt
  unfold V
  after_reads_simp
  pointwise

theorem arr12 (e : Fin 1024) : (V m c main_v20 : Vec Ideal S1x1024 .f32) (ix2 0 e) = a7 m c (ix1 e) := by
  have he := e.isLt
  unfold V
  after_reads_simp
  pointwise

theorem arr10 (k : Fin 1024) (e : Fin 4096) : (V m c main_v17 : Vec Ideal S1024x4096 .bf16) (ix2 k e) = a5 m c (ix2 k e) := by
  unfold V
  after_reads_simp
  pointwise

theorem arr11 (k : Fin 4096) (e : Fin 1024) : (V m c main_v18 : Vec Ideal S4096x1024 .bf16) (ix2 k e) = a6 m c (ix2 k e) := by
  unfold V
  after_reads_simp
  pointwise

/-! The blocks of point `t`: tokens `256 t …`, batch `t / 8`. -/

/-- The token a row of a point's tile stands for. -/
abbrev tok (t : Fin cfg0.N) (r : Fin 256) : Fin 2048 := ⟨256 * (t % 8) + r, by omega⟩

/-- The batch of a point. -/
abbrev bat (t : Fin cfg0.N) : Fin 8 := ⟨t / 8, lt t⟩

theorem blk0 (t : Fin cfg0.N) (r : Fin 256) (e : Fin 512) :
    (iblk m c 0 t : Vec Ideal S256x512 .bf16) (ix2 r e) = a0 m c (ix5 (bat t) (tok t r) ⟨e / 64 % 2, by omega⟩ ⟨e / 128, by omega⟩ ⟨e % 64, by omega⟩) := by
  have hr := r.isLt
  have he := e.isLt
  have ht := lt t
  have e1 : (⟨(256 * t.val + r.val) / 2048, by omega⟩ : Fin 8) = bat t := Fin.ext (by show (256 * t.val + r.val) / 2048 = t.val / 8; omega)
  have e2 : (⟨(256 * t.val + r.val) % 2048, by omega⟩ : Fin 2048) = tok t r := Fin.ext (by show (256 * t.val + r.val) % 2048 = 256 * (t.val % 8) + r.val; omega)
  have e3 : (⟨e.val / 64 % 2, by omega⟩ : Fin 2) = ⟨e / 64 % 2, by omega⟩ := Fin.ext (by show e.val / 64 % 2 = e.val / 64 % 2; omega)
  have e4 : (⟨e.val / 128, by omega⟩ : Fin 8) = ⟨e / 128, by omega⟩ := Fin.ext (by show e.val / 128 = e.val / 128; omega)
  have e5 : (⟨e.val % 64, by omega⟩ : Fin 64) = ⟨e % 64, by omega⟩ := Fin.ext (by show e.val % 64 = e.val % 64; omega)
  have h := arr0 m c ⟨256 * t + r, by omega⟩ ⟨e, by omega⟩
  rw [← e1, ← e2, ← e3, ← e4, ← e5]
  refine Eq.trans ?_ h
  blk_ext [iblk, idx t]

theorem blk1 (t : Fin cfg0.N) (r : Fin 256) (e : Fin 512) :
    (iblk m c 1 t : Vec Ideal S256x512 .bf16) (ix2 r e) = a0 m c (ix5 (bat t) (tok t r) ⟨e / 64 % 2, by omega⟩ ⟨4 + e / 128, by omega⟩ ⟨e % 64, by omega⟩) := by
  have hr := r.isLt
  have he := e.isLt
  have ht := lt t
  have e1 : (⟨(256 * t.val + r.val) / 2048, by omega⟩ : Fin 8) = bat t := Fin.ext (by show (256 * t.val + r.val) / 2048 = t.val / 8; omega)
  have e2 : (⟨(256 * t.val + r.val) % 2048, by omega⟩ : Fin 2048) = tok t r := Fin.ext (by show (256 * t.val + r.val) % 2048 = 256 * (t.val % 8) + r.val; omega)
  have e3 : (⟨(512 + e.val) / 64 % 2, by omega⟩ : Fin 2) = ⟨e / 64 % 2, by omega⟩ := Fin.ext (by show (512 + e.val) / 64 % 2 = e.val / 64 % 2; omega)
  have e4 : (⟨(512 + e.val) / 128, by omega⟩ : Fin 8) = ⟨4 + e / 128, by omega⟩ := Fin.ext (by show (512 + e.val) / 128 = 4 + e.val / 128; omega)
  have e5 : (⟨(512 + e.val) % 64, by omega⟩ : Fin 64) = ⟨e % 64, by omega⟩ := Fin.ext (by show (512 + e.val) % 64 = e.val % 64; omega)
  have h := arr0 m c ⟨256 * t + r, by omega⟩ ⟨512 + e, by omega⟩
  rw [← e1, ← e2, ← e3, ← e4, ← e5]
  refine Eq.trans ?_ h
  blk_ext [iblk, idx t]

theorem blk2 (t : Fin cfg0.N) (r : Fin 256) (e : Fin 1024) :
    (iblk m c 2 t : Vec Ideal S256x1024 .f32) (ix2 r e) = a1 m c (ix3 (bat t) (tok t r) e) := by
  have hr := r.isLt
  have ht := lt t
  have e1 : (⟨(256 * t.val + r.val) / 2048, by omega⟩ : Fin 8) = bat t := Fin.ext (by show (256 * t.val + r.val) / 2048 = t.val / 8; omega)
  have e2 : (⟨(256 * t.val + r.val) % 2048, by omega⟩ : Fin 2048) = tok t r := Fin.ext (by show (256 * t.val + r.val) % 2048 = 256 * (t.val % 8) + r.val; omega)
  rw [← e1, ← e2, ← arr2 m c ⟨256 * t + r, by omega⟩ e]
  blk_ext [iblk, idx t]

theorem blk3 (t : Fin cfg0.N) (e : Fin 1024) :
    (iblk m c 3 t : Vec Ideal S1x1x1024 .f32) (ix3 0 0 e) = a2 m c (ix2 (bat t) ⟨2048 + e, by omega⟩) := by
  rw [← arr3]
  blk_ext [iblk, idx t]

theorem blk4 (t : Fin cfg0.N) (e : Fin 1024) :
    (iblk m c 4 t : Vec Ideal S1x1x1024 .f32) (ix3 0 0 e) = a2 m c (ix2 (bat t) ⟨3072 + e, by omega⟩) := by
  rw [← arr3]
  blk_ext [iblk, idx t]

theorem blk5 (t : Fin cfg0.N) (e : Fin 1024) :
    (iblk m c 5 t : Vec Ideal S1x1x1024 .f32) (ix3 0 0 e) = a2 m c (ix2 (bat t) ⟨4096 + e, by omega⟩) := by
  rw [← arr3]
  blk_ext [iblk, idx t]

theorem blk6 (t : Fin cfg0.N) (e : Fin 1024) :
    (iblk m c 6 t : Vec Ideal S1x1x1024 .f32) (ix3 0 0 e) = a2 m c (ix2 (bat t) ⟨5120 + e, by omega⟩) := by
  rw [← arr3]
  blk_ext [iblk, idx t]

theorem blk7 (t : Fin cfg0.N) (k : Fin 512) (e : Fin 1024) :
    (iblk m c 7 t : Vec Ideal S512x1024 .bf16) (ix2 k e) = a3 m c (ix2 ⟨k / 64 % 2 * 512 + k / 128 * 64 + k % 64, by omega⟩ e) := by
  rw [← arr7]
  blk_ext [iblk, idx t]

theorem blk8 (t : Fin cfg0.N) (k : Fin 512) (e : Fin 1024) :
    (iblk m c 8 t : Vec Ideal S512x1024 .bf16) (ix2 k e) = a3 m c (ix2 ⟨k / 64 % 2 * 512 + (4 + k / 128) * 64 + k % 64, by omega⟩ e) := by
  rw [← arr8]
  blk_ext [iblk, idx t]

theorem blk9 (t : Fin cfg0.N) (e : Fin 1024) :
    (iblk m c 9 t : Vec Ideal S1x1024 .f32) (ix2 0 e) = a4 m c (ix1 e) := by
  rw [← arr9]
  blk_ext [iblk, idx t]

theorem blk10 (t : Fin cfg0.N) (k : Fin 1024) (e : Fin 4096) :
    (iblk m c 10 t : Vec Ideal S1024x4096 .bf16) (ix2 k e) = a5 m c (ix2 k e) := by
  rw [← arr10]
  blk_ext [iblk, idx t]

theorem blk11 (t : Fin cfg0.N) (k : Fin 4096) (e : Fin 1024) :
    (iblk m c 11 t : Vec Ideal S4096x1024 .bf16) (ix2 k e) = a6 m c (ix2 k e) := by
  rw [← arr11]
  blk_ext [iblk, idx t]

theorem blk12 (t : Fin cfg0.N) (e : Fin 1024) :
    (iblk m c 12 t : Vec Ideal S1x1024 .f32) (ix2 0 e) = a7 m c (ix1 e) := by
  rw [← arr12]
  blk_ext [iblk, idx t]

/-- The result at the token a row of a point's tile stands for: what the body stores there. -/
theorem out_at (t : Fin cfg0.N) (r : Fin 256) (e : Fin 1024) (h : 256 * t.val + r.val < 16384) :
    ((dats m 0 c).arrAt 13 cfg0.N : Vec Ideal S16384x1024 .f32) (ix2 ⟨256 * t + r, h⟩ e)
      = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e) := by
  have hb := congrFun ((Value.blocks13 m c t (idx t).2.2.2.2.2.2.2.2.2.2.2.2.2.2.2).trans (Value.flushed13 m c t)) (ix2 r e)
  refine Eq.trans ?_ hb
  generalize (dats m 0 c).arrAt 13 cfg0.N = A
  blk_ext [idx t]

/-- A token's stream after the attention and the output projection, in the kernel's order of heads. -/
def stream (x0 : Vec Ideal S8x2048x2x8x64 .f32) (x1 : Vec Ideal S8x2048x1024 .f32) (x2 : Vec Ideal S8x6144 .f32) (x3 : Vec Ideal S1024x1024 .f32) (b : Fin 8) (s : Fin 2048) (k : Fin 1024) : EReal :=
  x1 (ix3 b s k) + x2 (ix2 b ⟨2048 + k, by omega⟩) * ((∑ j : Fin 512, x0 (ix5 b s ⟨j / 64 % 2, by omega⟩ ⟨j / 128, by omega⟩ ⟨j % 64, by omega⟩) * x3 (ix2 ⟨j / 64 % 2 * 512 + j / 128 * 64 + j % 64, by omega⟩ k))
    + ∑ j : Fin 512, x0 (ix5 b s ⟨j / 64 % 2, by omega⟩ ⟨4 + j / 128, by omega⟩ ⟨j % 64, by omega⟩) * x3 (ix2 ⟨j / 64 % 2 * 512 + (4 + j / 128) * 64 + j % 64, by omega⟩ k))

/-- The kernel's result at an index. -/
theorem kernel_at (n : Fin 16384) (e : Fin 1024) :
    ((dats m 0 c).arrAt 13 cfg0.N : Vec Ideal S16384x1024 .f32) (ix2 n e)
      = Feed.norm (Feed.rest (stream (a0 m c) (a1 m c) (a2 m c) (a3 m c) ⟨n / 2048, by omega⟩ ⟨n % 2048, by omega⟩) (fun k => a4 m c (ix1 k))
          (fun k => a2 m c (ix2 ⟨n / 2048, by omega⟩ ⟨4096 + k, by omega⟩)) (fun k => a2 m c (ix2 ⟨n / 2048, by omega⟩ ⟨3072 + k, by omega⟩))
          (fun k f => a5 m c (ix2 k f)) (fun f k => a6 m c (ix2 f k)) (fun k => a2 m c (ix2 ⟨n / 2048, by omega⟩ ⟨5120 + k, by omega⟩))) (fun k => a7 m c (ix1 k)) e := by
  have hn := n.isLt
  have hN : cfg0.N = 64 := N_0
  let t : Fin cfg0.N := ⟨n / 256, by omega⟩
  let r : Fin 256 := ⟨n % 256, by omega⟩
  have en : (⟨256 * t + r, by show 256 * (n.val / 256) + n.val % 256 < 16384; omega⟩ : Fin 16384) = n := Fin.ext (by show 256 * (n.val / 256) + n.val % 256 = n.val; omega)
  have e1 : bat t = ⟨n / 2048, by omega⟩ := Fin.ext (by show n.val / 256 / 8 = n.val / 2048; omega)
  have e2 : tok t r = ⟨n % 2048, by omega⟩ := Fin.ext (by show 256 * (n.val / 256 % 8) + n.val % 256 = n.val % 2048; omega)
  have h := out_at m c t r e (by show 256 * (n.val / 256) + n.val % 256 < 16384; omega)
  rw [en] at h
  refine h.trans ((Tile.tile_at _ _ _ _ _ _ _ _ _ _ _ _ _ r e).trans ?_)
  simp only [PostIdeal.Tile.tile_at, blk0, blk1, blk2, blk3, blk4, blk5, blk6, blk7, blk8, blk9, blk10, blk11, blk12, e1, e2]
  rfl

end Cert.PostFinalIdeal.Operands
-- ==== Proof.PostFinalRef.lean ====
module
public import proofs.«01_k».proof.Proof.Feed
public import proofs.«01_k».proof.Proof.Gen.PostFinalReferenceIdeal.Run
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.SL.Sem

namespace Cert.PostFinalReferenceIdeal.RefValue

open Cert.PostFinalReferenceIdeal Cert.PostFinalReferenceIdeal.Gen Cert.PostFinalReferenceIdeal.Value

variable (m : (ℓ : Loc nD τ sig) → Buf (Elt Ideal) ℓ) (c : Dev nD)

/-- The stream after the attention and the output projection. -/
def mid (x0 : FVec Ideal S8x2048x2x8x64 .f32) (x1 : FVec Ideal S8x2048x1024 .f32) (x2 : FVec Ideal S8x6144 .f32) (x3 : FVec Ideal S1024x1024 .f32) : FVec Ideal S8x2048x1024 .f32 :=
  (addf x1 (mulf (broadcastInDim S8x2048x1024 ![0, 1, 2] bcast_S8x1x1024_S8x2048x1024_0_1_2 (extractStridedSlice S8x1x1024 ![0, 0, 2048] (broadcastInDim S8x1x6144 ![0, 2] bcast_S8x6144_S8x1x6144_0_2 x2) slices_S8x1x6144_S8x1x1024_0_0_2048)) (Host.dotGeneral dot_S8x2048x1024_S1024x1024_S8x2048x1024_2_0_01_1_n_n none (shapeCast S8x2048x1024 x0 shapeCasts_S8x2048x2x8x64_S8x2048x1024) x3)))

/-- The norm, scaled and shifted by the modulations. -/
def hidden (X : FVec Ideal S8x2048x1024 .f32) (x2 : FVec Ideal S8x6144 .f32) (x4 : FVec Ideal S1024 .f32) : FVec Ideal S8x2048x1024 .f32 :=
  (addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x4))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 x2) slices_S8x1x6144_S8x1x1024_0_0_4096)))) (broadcastInDim S8x2048x1024 ![0, 1, 2] bcast_S8x1x1024_S8x2048x1024_0_1_2 (extractStridedSlice S8x1x1024 ![0, 0, 3072] (broadcastInDim S8x1x6144 ![0, 2] bcast_S8x6144_S8x1x6144_0_2 x2) slices_S8x1x6144_S8x1x1024_0_0_3072)))

/-- The square of the positive part of the first matrix's product. -/
def acts (H : FVec Ideal S8x2048x1024 .f32) (x5 : FVec Ideal S1024x4096 .f32) : FVec Ideal S8x2048x4096 .f32 :=
  (mulf (maximumf (Host.dotGeneral dot_S8x2048x1024_S1024x4096_S8x2048x4096_2_0_01_1_n_n none H x5) (broadcastInDim S8x2048x4096 ![] bcast_S_S8x2048x4096 (constant S_ .f32 0x00000000#32))) (maximumf (Host.dotGeneral dot_S8x2048x1024_S1024x4096_S8x2048x4096_2_0_01_1_n_n none H x5) (broadcastInDim S8x2048x4096 ![] bcast_S_S8x2048x4096 (constant S_ .f32 0x00000000#32))))

/-- The stream after the channel mixer. -/
def outs (X : FVec Ideal S8x2048x1024 .f32) (A : FVec Ideal S8x2048x4096 .f32) (x2 : FVec Ideal S8x6144 .f32) (x6 : FVec Ideal S4096x1024 .f32) : FVec Ideal S8x2048x1024 .f32 :=
  (addf X (mulf (broadcastInDim S8x2048x1024 ![0, 1, 2] bcast_S8x1x1024_S8x2048x1024_0_1_2 (extractStridedSlice S8x1x1024 ![0, 0, 5120] (broadcastInDim S8x1x6144 ![0, 2] bcast_S8x6144_S8x1x6144_0_2 x2) slices_S8x1x6144_S8x1x1024_0_0_5120)) (Host.dotGeneral dot_S8x2048x4096_S4096x1024_S8x2048x1024_2_0_01_1_n_n none A x6)))

/-- The result. -/
def last (O : FVec Ideal S8x2048x1024 .f32) (x7 : FVec Ideal S1024 .f32) : FVec Ideal S16384x1024 .f32 :=
  shapeCast S16384x1024 (mulf (mulf O (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf O O) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 x7))) shapeCasts_S8x2048x1024_S16384x1024

/-- The reference's result in these steps. -/
theorem res_eq : (res_main_v51 m c : FVec Ideal S16384x1024 .f32) = last (outs (mid (m ((c.tc : Thread nD τ).loc main_arg0)) (m ((c.tc : Thread nD τ).loc main_arg1)) (m ((c.tc : Thread nD τ).loc main_arg2)) (m ((c.tc : Thread nD τ).loc main_arg3))) (acts (hidden (mid (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg2)) (m ((c.tc : Thread nD τ).loc main_arg4))) (m ((c.tc : Thread nD τ).loc main_arg5))) (m ((c.tc : Thread nD τ).loc main_arg2)) (m ((c.tc : Thread nD τ).loc main_arg6))) (m ((c.tc : Thread nD τ).loc main_arg7)) := by
  unfold res_main_v51 last outs acts hidden mid
  rfl

/-- The stream after the output projection, at an index. -/
theorem mid_at (x0 : FVec Ideal S8x2048x2x8x64 .f32) (x1 : FVec Ideal S8x2048x1024 .f32) (x2 : FVec Ideal S8x6144 .f32) (x3 : FVec Ideal S1024x1024 .f32) (b : Fin 8) (s : Fin 2048) (e : Fin 1024) :
    mid x0 x1 x2 x3 (ix3 b s e) = x1 (ix3 b s e) + x2 (ix2 b ⟨2048 + e, by omega⟩) * ∑ j : Fin 1024, x0 (ix5 b s ⟨j / 512, by omega⟩ ⟨j / 64 % 8, by omega⟩ ⟨j % 64, by omega⟩) * x3 (ix2 j e) := by
  pointwise [mid]

/-- The scaled and shifted norm, at an index. -/
theorem hidden_at (X : FVec Ideal S8x2048x1024 .f32) (x2 : FVec Ideal S8x6144 .f32) (x4 : FVec Ideal S1024 .f32) (b : Fin 8) (s : Fin 2048) (e : Fin 1024) :
    hidden X x2 x4 (ix3 b s e) = Feed.hid (fun k => X (ix3 b s k)) (fun k => x4 (ix1 k)) (fun k => x2 (ix2 b ⟨4096 + k, by omega⟩)) (fun k => x2 (ix2 b ⟨3072 + k, by omega⟩)) e := by
  unfold Feed.hid Feed.norm Feed.inv
  pointwise [hidden]

/-- The activations, at an index. -/
theorem acts_at (H : FVec Ideal S8x2048x1024 .f32) (x5 : FVec Ideal S1024x4096 .f32) (b : Fin 8) (s : Fin 2048) (f : Fin 4096) :
    acts H x5 (ix3 b s f) = Feed.act (fun k => H (ix3 b s k)) (fun k f => x5 (ix2 k f)) f := by
  unfold Feed.act Feed.sq
  pointwise [acts]

/-- The stream after the channel mixer, at an index. -/
theorem outs_at (X : FVec Ideal S8x2048x1024 .f32) (A : FVec Ideal S8x2048x4096 .f32) (x2 : FVec Ideal S8x6144 .f32) (x6 : FVec Ideal S4096x1024 .f32) (b : Fin 8) (s : Fin 2048) (e : Fin 1024) :
    outs X A x2 x6 (ix3 b s e) = X (ix3 b s e) + x2 (ix2 b ⟨5120 + e, by omega⟩) * ∑ f : Fin 4096, A (ix3 b s f) * x6 (ix2 f e) := by
  pointwise [outs]

/-- The result at an index. -/
theorem last_at (O : FVec Ideal S8x2048x1024 .f32) (x7 : FVec Ideal S1024 .f32) (n : Fin 16384) (e : Fin 1024) :
    last O x7 (ix2 n e) = Feed.norm (fun k => O (ix3 ⟨n / 2048, by omega⟩ ⟨n % 2048, by omega⟩ k)) (fun k => x7 (ix1 k)) e := by
  unfold Feed.norm Feed.inv
  pointwise [last]

/-- The rest of the layer, at an index. -/
theorem rest_at (x0 : FVec Ideal S8x2048x2x8x64 .f32) (x1 : FVec Ideal S8x2048x1024 .f32) (x2 : FVec Ideal S8x6144 .f32) (x3 : FVec Ideal S1024x1024 .f32) (x4 : FVec Ideal S1024 .f32) (x5 : FVec Ideal S1024x4096 .f32) (x6 : FVec Ideal S4096x1024 .f32) (b : Fin 8) (s : Fin 2048) (e : Fin 1024) :
    outs (mid x0 x1 x2 x3) (acts (hidden (mid x0 x1 x2 x3) x2 x4) x5) x2 x6 (ix3 b s e)
      = Feed.rest (fun e => x1 (ix3 b s e) + x2 (ix2 b ⟨2048 + e, by omega⟩) * ∑ j : Fin 1024, x0 (ix5 b s ⟨j / 512, by omega⟩ ⟨j / 64 % 8, by omega⟩ ⟨j % 64, by omega⟩) * x3 (ix2 j e)) (fun k => x4 (ix1 k)) (fun k => x2 (ix2 b ⟨4096 + k, by omega⟩)) (fun k => x2 (ix2 b ⟨3072 + k, by omega⟩)) (fun k f => x5 (ix2 k f)) (fun f k => x6 (ix2 f k)) (fun k => x2 (ix2 b ⟨5120 + k, by omega⟩)) e := by
  rw [outs_at]
  simp only [acts_at, hidden_at, mid_at]
  rfl

end Cert.PostFinalReferenceIdeal.RefValue
-- ==== Proof.PostFinalClaims.lean ====
module
public import proofs.«01_k».proof.Defs
public import proofs.«01_k».proof.Proof.PostFinalOperands
public import proofs.«01_k».proof.Proof.PostFinalRef
public import Idealize.ShloMosaic.Adequacy
public import Idealize.ShloMosaic.Init

@[expose] public section

set_option maxRecDepth 16384

noncomputable section

open Idealize.ShloMosaic Idealize.ShloMosaic.TcCoe Idealize.SL.Sem

/-! The rest of layer 1 and the final norm: kernel and reference end with the same array. -/

namespace Cert.PromptPostFinal

open Cert.PostFinalIdeal.Operands Cert.PostFinalReferenceIdeal.RefValue

local instance : Cert.PostFinalIdeal.Facts := Cert.PostFinalIdeal.Gen.facts
local instance : Cert.PostFinalReferenceIdeal.Facts := Cert.PostFinalReferenceIdeal.Gen.facts

/-- The two results are equal, element by element. -/
theorem value (m : (ℓ : Loc Cert.PostFinalIdeal.nD Cert.PostFinalIdeal.τ Cert.PostFinalIdeal.sig) → Buf (Elt Ideal) ℓ) (c : Dev Cert.PostFinalIdeal.nD) :
    ((Cert.PostFinalIdeal.Gen.dats m 0 c).arrAt 13 Cert.PostFinalIdeal.cfg0.N : Vec Ideal Cert.PostFinalIdeal.S16384x1024 .f32)
      = last (outs (mid (a0 m c) (a1 m c) (a2 m c) (a3 m c)) (acts (hidden (mid (a0 m c) (a1 m c) (a2 m c) (a3 m c)) (a2 m c) (a4 m c)) (a5 m c)) (a2 m c) (a6 m c)) (a7 m c) := by
  funext i
  obtain ⟨n, e, rfl⟩ : ∃ (n : Fin 16384) (e : Fin 1024), i = ix2 n e := by
    idx_vars i
    exact ⟨_, _, rfl⟩
  refine (kernel_at m c n e).trans (Eq.trans ?_ (last_at _ _ n e).symm)
  refine congrArg (fun z => Feed.norm z (fun k => a7 m c (ix1 k)) e) (funext fun k => ?_)
  rw [rest_at]
  refine congrArg (fun z => Feed.rest z (fun k => a4 m c (ix1 k)) (fun k => a2 m c (ix2 ⟨n / 2048, by omega⟩ ⟨4096 + k, by omega⟩)) (fun k => a2 m c (ix2 ⟨n / 2048, by omega⟩ ⟨3072 + k, by omega⟩))
    (fun k f => a5 m c (ix2 k f)) (fun f k => a6 m c (ix2 f k)) (fun k => a2 m c (ix2 ⟨n / 2048, by omega⟩ ⟨5120 + k, by omega⟩)) k) (funext fun e => ?_)
  unfold stream
  rw [Feed.sum_heads]
  refine congrArg₂ _ rfl (congrArg₂ _ rfl (congrArg₂ _ ?_ ?_)) <;> refine Finset.sum_congr rfl fun j _ => congrArg₂ _ (congrArg (a0 m c) ?_) rfl
  · have hj := j.isLt
    idx_ext <;> (try simp only [Fin.ext_iff]) <;> omega
  · have hj := j.isLt
    idx_ext <;> (try simp only [Fin.ext_iff]) <;> omega

/-- The reference runs to its end. -/
theorem frame_reference : Cert.quiescent_PostFinalReferenceIdeal := fun m ρ _ =>
  (θ_run Cert.PostFinalReferenceIdeal.defs _ _).mono (fun r h => ⟨fun c => (h c).2, sem_eq_zero_of_no_sems (by decide) r.2⟩)
    (Cert.PostFinalReferenceIdeal.Value.run (F := Ideal) m ρ)

/-- From memories that agree on the arguments, kernel and reference end with the same result. -/
theorem algebraic : Cert.algebraic_PostFinalIdeal_PostFinalReferenceIdeal := by
  intro m ρ m' ρ' _ ha
  refine ⟨fun c => (Cert.PostFinalIdeal.Gen.dats m 0 c).arrAt 13 Cert.PostFinalIdeal.cfg0.N, Cert.PostFinalIdeal.Value.run_blocks (F := Ideal) m ρ, ?_⟩
  refine (θ_run Cert.PostFinalReferenceIdeal.defs _ _).mono (fun r h c => ⟨(h c).1.trans ?_, (h c).2⟩) (Cert.PostFinalReferenceIdeal.Value.run (F := Ideal) m' ρ')
  obtain ⟨e0, e1, e2, e3, e4, e5, e6, e7⟩ := ha c
  refine Eq.trans ?_ (value m c).symm
  refine (res_eq m' c).trans ?_
  rw [e0, e1, e2, e3, e4, e5, e6, e7]

end Cert.PromptPostFinal
-- ==== Proof.Rope.lean ====
module
public import proofs.«01_k».proof.Proof.Feed

@[expose] public section

noncomputable section

open Idealize.ShloMosaic

/-! The input projection of a layer, for one token: the modulated norm times the weights, and the rotary embedding of heads
    of 64. -/

namespace Cert.Rope

/-- The angle of position `s` and pair `j`: `s` times 10000 to the power `-2 j / 64`. -/
def ang (s j : Nat) : EReal :=
  FloatOps.sitofp (F := Ideal) FTy.f32 (BitVec.ofNat 32 s) * Ideal.pow (Ideal.ofBits FTy.f32 1176256512#32)
    (Ideal.div (-(Ideal.ofBits FTy.f32 1073741824#32 * FloatOps.sitofp (F := Ideal) FTy.f32 (BitVec.ofNat 32 j))) (Ideal.ofBits FTy.f32 1115684864#32))

/-- The rotary embedding of a head at position `s`. -/
def rope (z : Fin 64 → EReal) (s : Nat) (d : Fin 64) : EReal :=
  if h : d.val < 32 then z d * Ideal.cos (ang s d) - z ⟨d + 32, by omega⟩ * Ideal.sin (ang s d)
  else z d * Ideal.cos (ang s (d - 32)) + z ⟨d - 32, by omega⟩ * Ideal.sin (ang s (d - 32))

/-- Equal heads at equal positions have equal embeddings. -/
theorem rope_congr {f g : Fin 64 → EReal} {s s' : Nat} {d d' : Fin 64} (hf : ∀ d, f d = g d) (hs : s = s') (hd : d.val = d'.val) : rope f s d = rope g s' d' := by
  obtain rfl := funext hf
  obtain rfl := hs
  obtain rfl := Fin.ext hd
  rfl

/-- The projection of a token. -/
def proj (x g sc sh : Fin 1024 → EReal) (w : Fin 1024 → Fin 1864 → EReal) (e : Fin 1864) : EReal := ∑ k, Feed.hid x g sc sh k * w k e

end Cert.Rope
-- ==== Proof.ProjTile.lean ====
module
public import proofs.«01_k».proof.Proof.Feed
public import proofs.«01_k».proof.Proof.Rope
public import proofs.«01_k».proof.Proof.Gen.ProjIdeal.Frame
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.SL.Sem

/-! What the input projection's body computes, index by index. -/

namespace Cert.ProjIdeal.Tile

open Cert.ProjIdeal Cert.ProjIdeal.Gen

/-- The lane holding a lane's partner in the rotation: half a head of 64 further, or back. -/
def sw (l : Fin 128) : Fin 128 := if l.val % 64 < 32 then ⟨(l.val + 32) % 128, Nat.mod_lt _ (by decide)⟩ else ⟨l.val - 32, by omega⟩

/-- The rotation of two heads of 64 lanes by the tables `C` and `S`, as the body spells it. -/
def rot (Z C S : FVec Ideal S256x128 .f32) : FVec Ideal S256x128 .f32 :=
  addf (mulf Z C) (mulf (select (cmpi .slt (andi (iota .tc S256x128 32 [1] iota_S256x128_d1_w32) (broadcast S256x128 63#32)) (broadcast S256x128 32#32)) (dynamicRotate 1 96#32 none Z rotates_S256x128_d1) (dynamicRotate 1 32#32 none Z rotates_S256x128_d1)) S)

/-- The lanes chosen from the first roll: the first half of each head. -/
theorem mask_at (l : Fin 128) : IntOp.cmpi CmpIPredicate.slt (IntOp.andi (BitVec.ofNat 32 l.val) 63#32) 32#32 = if l.val % 64 < 32 then 1#1 else 0#1 := by
  revert l
  decide +kernel

/-- The rotation at an index. -/
theorem rot_at (Z C S : FVec Ideal S256x128 .f32) (r : Fin 256) (l : Fin 128) :
    rot Z C S (ix2 r l) = Z (ix2 r l) * C (ix2 r l) + Z (ix2 r (sw l)) * S (ix2 r l) := by
  unfold rot sw
  pointwise
  rw [mask_at]
  have hl := l.isLt
  split
  · refine congrArg (fun z => _ + Z (ix2 r z) * _) (Fin.ext ?_)
    show (l.val + 128 - 96) % 128 = (l.val + 32) % 128
    omega
  · refine congrArg (fun z => _ + Z (ix2 r z) * _) (Fin.ext ?_)
    show (l.val + 128 - 32) % 128 = l.val - 32
    omega

/-- A product row: the modulated norm of a token times the projection. -/
def row (x g sc sh : Fin 1024 → EReal) (w : Fin 1024 → Fin 2048 → EReal) (e : Fin 2048) : EReal := ∑ k, Feed.hid x g sc sh k * w k e

/-- The product at an index. -/
theorem pay5_at (v0 : Vec Ideal S256x1024 .f32) (v2 : Vec Ideal S1x1024 .f32) (v16 v22 : Vec Ideal S1x1x1024 .f32) (v27 : Vec Ideal S1024x2048 .bf16) (r : Fin 256) (e : Fin 2048) :
    k0_pay5 v0 v2 v16 v22 v27 (ix2 r e) = row (fun k => v0 (ix2 r k)) (fun k => v2 (ix2 0 k)) (fun k => v16 (ix3 0 0 k)) (fun k => v22 (ix3 0 0 k)) (fun k e => v27 (ix2 k e)) e := by
  unfold row Feed.hid Feed.norm Feed.inv
  pointwise [k0_pay5]

/-- 128 columns of the product, from column `o`. -/
def cols (o : Nat) (h : o + 128 ≤ 2048) (Z : FVec Ideal S256x2048 .f32) : FVec Ideal S256x128 .f32 := fun i => Z (ix2 (i 0) ⟨o + (i 1).val, by have := (i 1).isLt; have : (i 1).val < 128 := this; omega⟩)

/-- The rotation of 128 columns, times an eighth. -/
def turn (o : Nat) (h : o + 128 ≤ 2048) (Z : FVec Ideal S256x2048 .f32) (C S : FVec Ideal S256x128 .f32) : FVec Ideal S256x128 .bf16 :=
  truncf .bf16 (mulf (rot (cols o h Z) C S) (broadcast S256x128 (Scalar.ofBits .f32 0x3E000000#32))) bitsLt_bf16_f32

theorem cut (o : Nat) (h : o + 128 ≤ 2048) (Z : FVec Ideal S256x2048 .f32) (hs : S256x2048.Slices ![0, o] S256x128) : extractStridedSlice S256x128 ![0, o] Z hs = cols o h Z := by
  funext i
  obtain ⟨r, l, rfl⟩ : ∃ (r : Fin 256) (l : Fin 128), i = ix2 r l := by
    idx_vars i
    exact ⟨_, _, rfl⟩
  unfold cols
  pointwise

theorem q0 (Z : FVec Ideal S256x2048 .f32) (C S : FVec Ideal S256x128 .f32) : k0_pay10 C S (extractStridedSlice S256x128 ![0, 0] Z slices_S256x2048_o0_0_S256x128) (iota .tc S256x128 32 [1] iota_S256x128_d1_w32) k0_pay9 = turn 0 (by decide) Z C S := by
  rw [cut 0 (by decide)]; rfl
theorem q1 (Z : FVec Ideal S256x2048 .f32) (C S : FVec Ideal S256x128 .f32) : k0_pay11 Z C S = turn 128 (by decide) Z C S := by
  unfold turn; rw [← cut 128 (by decide) Z slices_S256x2048_o0_128_S256x128]; rfl
theorem q2 (Z : FVec Ideal S256x2048 .f32) (C S : FVec Ideal S256x128 .f32) : k0_pay13 (k0_pay12 Z C S) = turn 256 (by decide) Z C S := by
  unfold turn; rw [← cut 256 (by decide) Z slices_S256x2048_o0_256_S256x128]; rfl
theorem q3 (Z : FVec Ideal S256x2048 .f32) (C S : FVec Ideal S256x128 .f32) : k0_pay14 Z C S = turn 384 (by decide) Z C S := by
  unfold turn; rw [← cut 384 (by decide) Z slices_S256x2048_o0_384_S256x128]; rfl
theorem q4 (Z : FVec Ideal S256x2048 .f32) (C S : FVec Ideal S256x128 .f32) : k0_pay15 Z C S = turn 512 (by decide) Z C S := by
  unfold turn; rw [← cut 512 (by decide) Z slices_S256x2048_o0_512_S256x128]; rfl
theorem q5 (Z : FVec Ideal S256x2048 .f32) (C S : FVec Ideal S256x128 .f32) : k0_pay18 C S (k0_pay16 Z) (iota .tc S256x128 32 [1] iota_S256x128_d1_w32) k0_pay17 = turn 640 (by decide) Z C S := by
  unfold turn; rw [← cut 640 (by decide) Z slices_S256x2048_o0_640_S256x128]; rfl
theorem q6 (Z : FVec Ideal S256x2048 .f32) (C S : FVec Ideal S256x128 .f32) : k0_pay19 Z C S = turn 768 (by decide) Z C S := by
  unfold turn; rw [← cut 768 (by decide) Z slices_S256x2048_o0_768_S256x128]; rfl
theorem q7 (Z : FVec Ideal S256x2048 .f32) (C S : FVec Ideal S256x128 .f32) : k0_pay21 (k0_pay20 Z C S) = turn 896 (by decide) Z C S := by
  unfold turn; rw [← cut 896 (by decide) Z slices_S256x2048_o0_896_S256x128]; rfl
theorem kk (Z : FVec Ideal S256x2048 .f32) (C S : FVec Ideal S256x128 .f32) : k0_pay22 Z C S = rot (cols 1024 (by decide) Z) C S := by
  rw [← cut 1024 (by decide) Z slices_S256x2048_o0_1024_S256x128]; rfl
theorem i0 (Z : FVec Ideal S256x2048 .f32) (C S : FVec Ideal S256x128 .f32) : k0_pay24 Z C S = truncf .bf16 (rot (cols 1280 (by decide) Z) C S) bitsLt_bf16_f32 := by
  rw [← cut 1280 (by decide) Z slices_S256x2048_o0_1280_S256x128]; rfl
theorem i1 (Z : FVec Ideal S256x2048 .f32) (C S : FVec Ideal S256x128 .f32) : k0_pay27 C S (k0_pay25 Z) k0_pay26 32#32 = truncf .bf16 (rot (cols 1408 (by decide) Z) C S) bitsLt_bf16_f32 := by
  rw [← cut 1408 (by decide) Z slices_S256x2048_o0_1408_S256x128]; rfl
theorem i2 (Z : FVec Ideal S256x2048 .f32) (C S : FVec Ideal S256x128 .f32) : k0_pay28 Z C S = truncf .bf16 (rot (cols 1536 (by decide) Z) C S) bitsLt_bf16_f32 := by
  rw [← cut 1536 (by decide) Z slices_S256x2048_o0_1536_S256x128]; rfl
theorem i3 (Z : FVec Ideal S256x2048 .f32) (C S : FVec Ideal S256x128 .f32) : k0_pay29 Z C S = truncf .bf16 (rot (cols 1664 (by decide) Z) C S) bitsLt_bf16_f32 := by
  rw [← cut 1664 (by decide) Z slices_S256x2048_o0_1664_S256x128]; rfl
theorem ik (Z : FVec Ideal S256x2048 .f32) (C S : FVec Ideal S256x128 .f32) : k0_pay1 C S (k0_pay30 Z) (iota .tc S256x128 32 [1] iota_S256x128_d1_w32) 63#32 = rot (cols 1792 (by decide) Z) C S := by
  rw [← cut 1792 (by decide) Z slices_S256x2048_o0_1792_S256x128]; rfl

end Cert.ProjIdeal.Tile
-- ==== Proof.ProjOut.lean ====
module
public import proofs.«01_k».proof.Proof.ProjTile

@[expose] public section

set_option maxRecDepth 16384
set_option maxHeartbeats 1000000

noncomputable section

open Idealize.ShloMosaic Idealize.ShloMosaic.TcCoe Idealize.SL.Sem

namespace Cert.ProjIdeal.Tile

open Cert.ProjIdeal Cert.ProjIdeal.Gen

theorem hz : (![0, 0] : Fin 2 → Nat) = fun _ => 0 := funext fun a => by fin_cases a <;> rfl
theorem hz3 : (![0, 0, 0] : Fin 3 → Nat) = fun _ => 0 := funext fun a => by fin_cases a <;> rfl

variable (x0 : Vec Ideal S256x1024 .f32) (x1 x2 : Vec Ideal S1x1x1024 .f32) (x3 : Vec Ideal S1x1024 .f32) (x4 : Vec Ideal S1024x2048 .bf16) (x5 x6 : Vec Ideal S256x128 .f32)

/-- A row of the tile's product. -/
abbrev prow (r : Fin 256) (e : Fin 2048) : EReal := row (fun k => x0 (ix2 r k)) (fun k => x3 (ix2 0 k)) (fun k => x2 (ix3 0 0 k)) (fun k => x1 (ix3 0 0 k)) (fun k e => x4 (ix2 k e)) e

theorem prod_at (r : Fin 256) (e : Fin 2048) : k0_pay31 x0 x1 x2 x3 x4 x5 x6 (ix2 r e) = prow x0 x1 x2 x3 x4 r e := by
  unfold k0_pay31
  simp only [View.ld_unit_zero (S := S256x1024) hz, View.ld_unit_zero (S := S1024x2048) hz, View.ld_unit_zero (S := S1x1024) hz, View.ld_unit_zero (S := S1x1x1024) hz3]
  exact pay5_at x0 x3 x2 x1 x4 r e

theorem cos_eq (r : Fin 256) (l : Fin 128) : k0_pay32 x0 x1 x2 x3 x4 x5 x6 (ix2 r l) = x5 (ix2 r l) := by
  unfold k0_pay32 k0_pay6
  rw [View.ld_unit_zero (S := S256x128) hz]
  pointwise

theorem sin_eq (r : Fin 256) (l : Fin 128) : k0_pay33 x0 x1 x2 x3 x4 x5 x6 (ix2 r l) = x6 (ix2 r l) := by
  unfold k0_pay33 k0_pay7
  rw [View.ld_unit_zero (S := S256x128) hz]
  pointwise

/-- The rotation of the product's 128 columns from column `o`, at an index. -/
def turned (o : Nat) (h : o + 128 ≤ 2048) (r : Fin 256) (l : Fin 128) : EReal :=
  prow x0 x1 x2 x3 x4 r ⟨o + l, by omega⟩ * x5 (ix2 r l) + prow x0 x1 x2 x3 x4 r ⟨o + sw l, by omega⟩ * x6 (ix2 r l)

theorem turned_at (o : Nat) (h : o + 128 ≤ 2048) (r : Fin 256) (l : Fin 128) :
    rot (cols o h (k0_pay31 x0 x1 x2 x3 x4 x5 x6)) (k0_pay32 x0 x1 x2 x3 x4 x5 x6) (k0_pay33 x0 x1 x2 x3 x4 x5 x6) (ix2 r l) = turned x0 x1 x2 x3 x4 x5 x6 o h r l := by
  rw [rot_at, cos_eq, sin_eq]
  unfold turned
  rw [← prod_at x0 x1 x2 x3 x4 x5 x6, ← prod_at x0 x1 x2 x3 x4 x5 x6]
  rfl

theorem turn_at (o : Nat) (h : o + 128 ≤ 2048) (r : Fin 256) (l : Fin 128) :
    turn o h (k0_pay31 x0 x1 x2 x3 x4 x5 x6) (k0_pay32 x0 x1 x2 x3 x4 x5 x6) (k0_pay33 x0 x1 x2 x3 x4 x5 x6) (ix2 r l) = turned x0 x1 x2 x3 x4 x5 x6 o h r l * Ideal.ofBits .f32 0x3E000000#32 := by
  unfold turn
  rw [← turned_at]
  generalize rot _ _ _ = R
  pointwise

/-- The keys. -/
theorem k_at (r : Fin 256) (l : Fin 128) : out0_8 x0 x1 x2 x3 x4 x5 x6 (ix2 r l) = turned x0 x1 x2 x3 x4 x5 x6 1024 (by decide) r l := by
  unfold out0_8
  rw [View.canon_unit_zero (S := S256x128) hz, kk, turned_at]

/-- The values. -/
theorem v_at (r : Fin 256) (l : Fin 128) : out0_9 x0 x1 x2 x3 x4 x5 x6 (ix2 r l) = prow x0 x1 x2 x3 x4 r ⟨1152 + l, by omega⟩ := by
  unfold out0_9
  rw [View.canon_unit_zero (S := S256x128) hz, ← prod_at x0 x1 x2 x3 x4 x5 x6]
  generalize k0_pay31 x0 x1 x2 x3 x4 x5 x6 = Z
  pointwise [k0_pay23]

/-- The indexer's key. -/
theorem ik_at (r : Fin 256) (l : Fin 64) : out0_11 x0 x1 x2 x3 x4 x5 x6 (ix2 r l) = turned x0 x1 x2 x3 x4 x5 x6 1792 (by decide) r ⟨l, by omega⟩ := by
  unfold out0_11
  rw [View.canon_unit_zero (S := S256x64) hz, ← turned_at]
  unfold k0_pay2 k0_pay34 k0_pay35
  rw [ik]
  generalize rot _ _ _ = R
  pointwise

/-- The indexer's weights. -/
theorem iw_at (r : Fin 256) (l : Fin 128) : out0_13 x0 x1 x2 x3 x4 x5 x6 (ix2 r l) = prow x0 x1 x2 x3 x4 r ⟨1920 + l, by omega⟩ * Ideal.ofBits .f32 0x3D3504F3#32 := by
  unfold out0_13
  rw [View.canon_unit_zero (S := S256x128) hz, ← prod_at x0 x1 x2 x3 x4 x5 x6]
  generalize k0_pay31 x0 x1 x2 x3 x4 x5 x6 = Z
  pointwise [k0_pay4]

/-- The queries: eight runs of 128 columns, each rotated. -/
theorem q_at (r : Fin 256) (e : Fin 1024) : out0_7 x0 x1 x2 x3 x4 x5 x6 (ix2 r e) = turned x0 x1 x2 x3 x4 x5 x6 (e / 128 * 128) (by omega) r ⟨e % 128, by omega⟩ * Ideal.ofBits .f32 0x3E000000#32 := by
  unfold out0_7
  let G : S256x1024.Idx → Elt Ideal .bf16 := fun y => turned x0 x1 x2 x3 x4 x5 x6 ((y 1).val / 128 * 128) (by have : (y 1).val < 1024 := (y 1).isLt; omega) (y 0) ⟨(y 1).val % 128, Nat.mod_lt _ (by decide)⟩ * Ideal.ofBits .f32 0x3E000000#32
  have step : ∀ (o : Nat) (h : o + 128 ≤ 1024) (hd : o % 128 = 0) (r : Fin 256) (l : Fin 128) (y : S256x1024.Idx), (y 0).val = r.val → (y 1).val = o + l.val →
      turn o (by omega) (k0_pay31 x0 x1 x2 x3 x4 x5 x6) (k0_pay32 x0 x1 x2 x3 x4 x5 x6) (k0_pay33 x0 x1 x2 x3 x4 x5 x6) (ix2 r l) = G y := by
    intro o h hd r l y h0 h1
    rw [turn_at]
    have e0 : r = y 0 := Fin.ext h0.symm
    have e1 : (y 1).val / 128 * 128 = o := by omega
    have e2 : l = ⟨(y 1).val % 128, Nat.mod_lt _ (by decide)⟩ := Fin.ext (by show l.val = (y 1).val % 128; omega)
    show _ = turned x0 x1 x2 x3 x4 x5 x6 _ _ _ _ * _
    subst e0
    rw [← e2]
    simp only [e1]
  refine View.canon_apply_of_pieces G _ ?_ (ix2 r e) (cover0_7 _ _ _ _ _ _ _ _ (ix2 r e))
  intro pc hpc
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (q7 _ _ _) (ix2 r l)).trans (step 896 (by decide) (by decide) r l _ ?_ ?_)
    · show 0 + 1 * r.val = r.val; omega
    · show 896 + 1 * l.val = 896 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (q6 _ _ _) (ix2 r l)).trans (step 768 (by decide) (by decide) r l _ ?_ ?_)
    · show 0 + 1 * r.val = r.val; omega
    · show 768 + 1 * l.val = 768 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (q5 _ _ _) (ix2 r l)).trans (step 640 (by decide) (by decide) r l _ ?_ ?_)
    · show 0 + 1 * r.val = r.val; omega
    · show 640 + 1 * l.val = 640 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (q4 _ _ _) (ix2 r l)).trans (step 512 (by decide) (by decide) r l _ ?_ ?_)
    · show 0 + 1 * r.val = r.val; omega
    · show 512 + 1 * l.val = 512 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (q3 _ _ _) (ix2 r l)).trans (step 384 (by decide) (by decide) r l _ ?_ ?_)
    · show 0 + 1 * r.val = r.val; omega
    · show 384 + 1 * l.val = 384 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (q2 _ _ _) (ix2 r l)).trans (step 256 (by decide) (by decide) r l _ ?_ ?_)
    · show 0 + 1 * r.val = r.val; omega
    · show 256 + 1 * l.val = 256 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (q1 _ _ _) (ix2 r l)).trans (step 128 (by decide) (by decide) r l _ ?_ ?_)
    · show 0 + 1 * r.val = r.val; omega
    · show 128 + 1 * l.val = 128 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (q0 _ _ _) (ix2 r l)).trans (step 0 (by decide) (by decide) r l _ ?_ ?_)
    · show 0 + 1 * r.val = r.val; omega
    · show 0 + 1 * l.val = 0 + l.val; omega
  nomatch hpc

/-- The indexer's queries: four runs of 128 columns, each rotated. -/
theorem iq_at (r : Fin 256) (e : Fin 512) : out0_10 x0 x1 x2 x3 x4 x5 x6 (ix2 r e) = turned x0 x1 x2 x3 x4 x5 x6 (1280 + e / 128 * 128) (by omega) r ⟨e % 128, by omega⟩ := by
  unfold out0_10
  let G : S256x512.Idx → Elt Ideal .bf16 := fun y => turned x0 x1 x2 x3 x4 x5 x6 (1280 + (y 1).val / 128 * 128) (by have : (y 1).val < 512 := (y 1).isLt; omega) (y 0) ⟨(y 1).val % 128, Nat.mod_lt _ (by decide)⟩
  have step : ∀ (o : Nat) (h : o + 128 ≤ 512) (hd : o % 128 = 0) (r : Fin 256) (l : Fin 128) (y : S256x512.Idx), (y 0).val = r.val → (y 1).val = o + l.val →
      truncf .bf16 (rot (cols (1280 + o) (by omega) (k0_pay31 x0 x1 x2 x3 x4 x5 x6)) (k0_pay32 x0 x1 x2 x3 x4 x5 x6) (k0_pay33 x0 x1 x2 x3 x4 x5 x6)) bitsLt_bf16_f32 (ix2 r l) = G y := by
    intro o h hd r l y h0 h1
    refine (turned_at x0 x1 x2 x3 x4 x5 x6 (1280 + o) (by omega) r l).trans ?_
    have e0 : r = y 0 := Fin.ext h0.symm
    have e1 : (y 1).val / 128 * 128 = o := by omega
    have e2 : l = ⟨(y 1).val % 128, Nat.mod_lt _ (by decide)⟩ := Fin.ext (by show l.val = (y 1).val % 128; omega)
    show _ = turned x0 x1 x2 x3 x4 x5 x6 _ _ _ _
    subst e0
    rw [← e2]
    simp only [e1]
  refine View.canon_apply_of_pieces G _ ?_ (ix2 r e) (cover0_10 _ _ _ _ (ix2 r e))
  intro pc hpc
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (i3 _ _ _) (ix2 r l)).trans (step 384 (by decide) (by decide) r l _ ?_ ?_)
    · show 0 + 1 * r.val = r.val; omega
    · show 384 + 1 * l.val = 384 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (i2 _ _ _) (ix2 r l)).trans (step 256 (by decide) (by decide) r l _ ?_ ?_)
    · show 0 + 1 * r.val = r.val; omega
    · show 256 + 1 * l.val = 256 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (i1 _ _ _) (ix2 r l)).trans (step 128 (by decide) (by decide) r l _ ?_ ?_)
    · show 0 + 1 * r.val = r.val; omega
    · show 128 + 1 * l.val = 128 + l.val; omega
  rcases List.mem_cons.mp hpc with rfl | hpc
  · intro x
    obtain ⟨r, l, rfl⟩ : ∃ (r : Fin 256) (l : Fin 128), x = ix2 r l := by
      have h2 : ∀ x : S256x128.Idx, ∃ (r : Fin 256) (l : Fin 128), x = ix2 r l := by
        intro x
        idx_vars x
        exact ⟨_, _, rfl⟩
      exact h2 x
    refine (congrFun (i0 _ _ _) (ix2 r l)).trans (step 0 (by decide) (by decide) r l _ ?_ ?_)
    · show 0 + 1 * r.val = r.val; omega
    · show 0 + 1 * l.val = 0 + l.val; omega
  nomatch hpc

end Cert.ProjIdeal.Tile
-- ==== Proof.ProjOperands.lean ====
module
public import proofs.«01_k».proof.Proof.ProjOut
public import proofs.«01_k».proof.Proof.Gen.ProjIdeal.Value
public import Idealize.ShloMosaic.Lib.Pointwise
public import Idealize.ShloMosaic.Lib.Claim
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 2000000

noncomputable section

open Idealize.ShloMosaic Idealize.ShloMosaic.TcCoe Idealize.SL.Sem

namespace Cert.ProjIdeal.Operands

open Cert.ProjIdeal Cert.ProjIdeal.Gen

/-- Which block of its array each window holds at point `t`. -/
theorem idx : ∀ t : Fin cfg0.N, win0_0.index t = ![t.val, 0] ∧ win0_1.index t = ![t.val / 8, 0, 0] ∧ win0_2.index t = ![t.val / 8, 0, 1]
    ∧ win0_3.index t = ![0, 0] ∧ win0_4.index t = ![0, 0] ∧ win0_5.index t = ![t.val % 8, 0] ∧ win0_6.index t = ![t.val % 8, 0]
    ∧ win0_7.index t = ![t.val, 0] ∧ win0_8.index t = ![t.val, 0] ∧ win0_9.index t = ![t.val, 0] ∧ win0_10.index t = ![t.val, 0] ∧ win0_11.index t = ![t.val, 0]
    ∧ win0_13.index t = ![t.val, 0] ∧ t.val / 8 < 8 :=
  (by decide +kernel : ∀ t : Fin grid0.N, _)

/-- Every result is written back at every point. -/
theorem flushes : ∀ t : Fin cfg0.N, win0_7.flush t = true ∧ win0_8.flush t = true ∧ win0_9.flush t = true ∧ win0_10.flush t = true ∧ win0_11.flush t = true ∧ win0_13.flush t = true :=
  (by decide +kernel : ∀ t : Fin grid0.N, _)

theorem lt (t : Fin cfg0.N) : t.val / 8 < 8 := (idx t).2.2.2.2.2.2.2.2.2.2.2.2.2

variable (m : (ℓ : Loc nD τ sig) → Buf (Elt Ideal) ℓ) (c : Dev nD)

/-- The stream. -/
abbrev a0 : Vec Ideal S8x2048x1024 .f32 := m ((c : Thread nD τ).loc main_arg0)
/-- The six modulations. -/
abbrev a1 : Vec Ideal S8x6144 .f32 := m ((c : Thread nD τ).loc main_arg1)
/-- The norm's gain. -/
abbrev a2 : Vec Ideal S1024 .f32 := m ((c : Thread nD τ).loc main_arg2)
/-- The projection. -/
abbrev a3 : Vec Ideal S1024x1864 .f32 := m ((c : Thread nD τ).loc main_arg3)

theorem arr0 (n : Fin 16384) (e : Fin 1024) : (V m c main_v0 : Vec Ideal S16384x1024 .f32) (ix2 n e) = a0 m c (ix3 ⟨n / 2048, by omega⟩ ⟨n % 2048, by omega⟩ e) := by
  have hn := n.isLt
  have he := e.isLt
  unfold V
  after_reads_simp
  pointwise

theorem arr1 (b : Fin 8) (e : Fin 6144) : (V m c main_v1 : Vec Ideal S8x1x6144 .f32) (ix3 b 0 e) = a1 m c (ix2 b e) := by
  have hn := b.isLt
  have he := e.isLt
  unfold V
  after_reads_simp
  pointwise

theorem arr3 (e : Fin 1024) : (V m c main_v47 : Vec Ideal S1x1024 .f32) (ix2 0 e) = a2 m c (ix1 e) := by
  have he := e.isLt
  unfold V
  after_reads_simp
  pointwise

/-- The cosines' table. -/
theorem arr5 (s : Fin 2048) (l : Fin 128) : (V m c main_v41 : Vec Ideal S2048x128 .f32) (ix2 s l) = Ideal.cos (Rope.ang s (l % 64 % 32)) := by
  have hs := s.isLt
  have hl := l.isLt
  unfold V
  after_reads_simp
  pointwise
  split
  · after_reads_simp
    pointwise
    rw [show l.val % 64 % 32 = l.val % 64 by omega]
    rfl
  · after_reads_simp
    pointwise
    rw [show l.val % 64 % 32 = l.val % 64 - 32 by omega]
    rfl

/-- The sines' table: the first half of each head is negated. -/
theorem arr6 (s : Fin 2048) (l : Fin 128) : (V m c main_v46 : Vec Ideal S2048x128 .f32) (ix2 s l) = if l.val % 64 < 32 then -Ideal.sin (Rope.ang s (l % 64 % 32)) else Ideal.sin (Rope.ang s (l % 64 % 32)) := by
  have hs := s.isLt
  have hl := l.isLt
  unfold V
  after_reads_simp
  pointwise
  split
  · after_reads_simp
    pointwise
    rw [show l.val % 64 % 32 = l.val % 64 by omega]
    rfl
  · after_reads_simp
    pointwise
    rw [show l.val % 64 % 32 = l.val % 64 - 32 by omega]
    rfl

/-- A column block of the gathered weights is the weights' block at its index, clamped into the table. -/
theorem gather_col {α : Type} (x : S1024x16x64.Idx → α) (ix : IVec S16x1 32) (k : Fin 1024) (h : Fin 16) (l : Fin 64) :
    Host.gather gather_S1024x16x64_S16x1_S1024x16x64_02_1_n_n_1_1_1024164 x ix (ix3 k h l) = x (ix3 k ⟨min (ix (ix2 h 0)).toInt.toNat 15, by omega⟩ l) := by
  unfold Host.gather
  refine congrArg x (funext fun a => Fin.ext ?_)
  show GatherDims.start _ (ix3 k h l) ix a + GatherDims.batchCoord _ (ix3 k h l) a + GatherDims.offCoord _ (ix3 k h l) a = _
  rw [GatherDims.batchCoord_eq_zero _ _ _ List.not_mem_nil]
  have h3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (show ¬ (0 : Fin 3) ∈ gather_S1024x16x64_S16x1_S1024x16x64_02_1_n_n_1_1_1024164.startIndexMap from fun q => absurd (List.mem_singleton.mp q) (by decide)), Nat.zero_add]
    rfl
  · rw [GatherDims.offCoord_eq_zero _ _ _ (fun q => ((GatherDims.mem_sKept _ _).mp q).1 (List.mem_singleton.mpr rfl))]
    simp only [Nat.add_zero]
    unfold GatherDims.start
    rw [dif_pos (show (1 : Fin 3) ∈ gather_S1024x16x64_S16x1_S1024x16x64_02_1_n_n_1_1_1024164.startIndexMap from List.mem_singleton.mpr rfl)]
    refine congrArg (fun z => min (ix z).toInt.toNat 15) (funext fun b => Fin.ext ?_)
    match b with
    | ⟨0, _⟩ => rfl
    | ⟨1, _⟩ => rfl
  · unfold GatherDims.start
    rw [dif_neg (show ¬ (2 : Fin 3) ∈ gather_S1024x16x64_S16x1_S1024x16x64_02_1_n_n_1_1_1024164.startIndexMap from fun q => absurd (List.mem_singleton.mp q) (by decide)), Nat.zero_add]
    rfl

/-- The table of heads: the kernel's head `h` is the model's `8 (h % 2) + h / 2`. -/
theorem head_at (h : Fin 16) :
    min (BitVec.toInt (Scalar.select (IntOp.cmpi CmpIPredicate.slt (lit0 (S16.rowMajor (ix1 h))) 0#32) (IntOp.addi (lit0 (S16.rowMajor (ix1 h))) 16#32) (lit0 (S16.rowMajor (ix1 h))))).toNat 15
      = h.val % 2 * 8 + h.val / 2 := by
  have e : (S16.rowMajor (ix1 h) : Fin 16) = h := by
    fin_cases h <;> rfl
  rw [e]
  clear e
  revert h
  decide

/-- The weights of the queries, in the kernel's order of heads. -/
theorem arr4_q (k : Fin 1024) (e : Fin 2048) (he : e.val < 1024) : (V m c main_v19 : Vec Ideal S1024x2048 .bf16) (ix2 k e) = a3 m c (ix2 k ⟨(e / 64 % 2 * 8 + e / 128) * 64 + e % 64, by omega⟩) := by
  unfold V
  after_reads_simp
  pointwise
  rw [dif_pos he]
  after_reads_simp
  pointwise
  rw [gather_col]
  pointwise
  have h := head_at ⟨e / 64, by omega⟩
  refine congrArg (fun z => a3 m c (ix2 k z)) (Fin.ext ?_)
  refine (congrArg (fun z => z * 64 + e.val % 64) h).trans ?_
  show (e.val / 64 % 2 * 8 + e.val / 64 / 2) * 64 + e.val % 64 = (e.val / 64 % 2 * 8 + e.val / 128) * 64 + e.val % 64
  omega

/-- The weights of the keys, the values and the indexer's queries. -/
theorem arr4_kv (k : Fin 1024) (e : Fin 2048) (h0 : 1024 ≤ e.val) (h1 : e.val < 1792) : (V m c main_v19 : Vec Ideal S1024x2048 .bf16) (ix2 k e) = a3 m c (ix2 k ⟨e, by omega⟩) := by
  unfold V
  after_reads_simp
  pointwise
  rw [dif_neg (show ¬ e.val < 1024 by omega)]
  split
  · after_reads_simp
    pointwise
    refine congrArg (fun z => a3 m c (ix2 k z)) (Fin.ext ?_)
    show 1024 + (e.val - 1024) = e.val
    omega
  · split
    · after_reads_simp
      pointwise
      refine congrArg (fun z => a3 m c (ix2 k z)) (Fin.ext ?_)
      show 1152 + (e.val - 1024 - 128) = e.val
      omega
    · rw [dif_pos (show e.val - 1024 - 128 - 128 < 512 by omega)]
      after_reads_simp
      pointwise
      refine congrArg (fun z => a3 m c (ix2 k z)) (Fin.ext ?_)
      show 1280 + (e.val - 1024 - 128 - 128) = e.val
      omega

/-- The weights of the indexer's key (its second copy makes a head nobody reads). -/
theorem arr4_ik (k : Fin 1024) (e : Fin 2048) (h0 : 1792 ≤ e.val) (h1 : e.val < 1856) : (V m c main_v19 : Vec Ideal S1024x2048 .bf16) (ix2 k e) = a3 m c (ix2 k ⟨e + 8, by omega⟩) := by
  unfold V
  after_reads_simp
  pointwise
  rw [dif_neg (show ¬ e.val < 1024 by omega), dif_neg (show ¬ e.val - 1024 < 128 by omega), dif_neg (show ¬ e.val - 1024 - 128 < 128 by omega), dif_neg (show ¬ e.val - 1024 - 128 - 128 < 512 by omega), dif_pos (show e.val - 1024 - 128 - 128 - 512 < 64 by omega)]
  after_reads_simp
  pointwise
  refine congrArg (fun z => a3 m c (ix2 k z)) (Fin.ext ?_)
  show 1800 + (e.val - 1024 - 128 - 128 - 512) = e.val + 8
  omega

/-- The weights of the indexer's eight weights. -/
theorem arr4_iw (k : Fin 1024) (e : Fin 2048) (h0 : 1920 ≤ e.val) (h1 : e.val < 1928) : (V m c main_v19 : Vec Ideal S1024x2048 .bf16) (ix2 k e) = a3 m c (ix2 k ⟨e - 128, by omega⟩) := by
  unfold V
  after_reads_simp
  pointwise
  rw [dif_neg (show ¬ e.val < 1024 by omega), dif_neg (show ¬ e.val - 1024 < 128 by omega), dif_neg (show ¬ e.val - 1024 - 128 < 128 by omega), dif_neg (show ¬ e.val - 1024 - 128 - 128 < 512 by omega), dif_neg (show ¬ e.val - 1024 - 128 - 128 - 512 < 64 by omega), dif_neg (show ¬ e.val - 1024 - 128 - 128 - 512 - 64 < 64 by omega), dif_pos (show e.val - 1024 - 128 - 128 - 512 - 64 - 64 < 8 by omega)]
  after_reads_simp
  pointwise
  refine congrArg (fun z => a3 m c (ix2 k z)) (Fin.ext ?_)
  show 1792 + (e.val - 1024 - 128 - 128 - 512 - 64 - 64) = e.val - 128
  omega

/-- The padding's weights. -/
theorem arr4_pad (k : Fin 1024) (e : Fin 2048) (h0 : 1928 ≤ e.val) : (V m c main_v19 : Vec Ideal S1024x2048 .bf16) (ix2 k e) = (0 : EReal) := by
  have h1 := e.isLt
  unfold V
  after_reads_simp
  pointwise
  rw [dif_neg (show ¬ e.val < 1024 by omega), dif_neg (show ¬ e.val - 1024 < 128 by omega), dif_neg (show ¬ e.val - 1024 - 128 < 128 by omega), dif_neg (show ¬ e.val - 1024 - 128 - 128 < 512 by omega), dif_neg (show ¬ e.val - 1024 - 128 - 128 - 512 < 64 by omega), dif_neg (show ¬ e.val - 1024 - 128 - 128 - 512 - 64 < 64 by omega), dif_neg (show ¬ e.val - 1024 - 128 - 128 - 512 - 64 - 64 < 8 by omega)]
  after_reads_simp
  pointwise

/-! The blocks of point `t`: tokens `256 t …`, batch `t / 8`. -/

/-- The token a row of a point's tile stands for. -/
abbrev tok (t : Fin cfg0.N) (r : Fin 256) : Fin 2048 := ⟨256 * (t % 8) + r, by omega⟩

/-- The batch of a point. -/
abbrev bat (t : Fin cfg0.N) : Fin 8 := ⟨t / 8, lt t⟩

theorem blk0 (t : Fin cfg0.N) (r : Fin 256) (e : Fin 1024) :
    (iblk m c 0 t : Vec Ideal S256x1024 .f32) (ix2 r e) = a0 m c (ix3 (bat t) (tok t r) e) := by
  have hr := r.isLt
  have ht := lt t
  have e1 : (⟨(256 * t.val + r.val) / 2048, by omega⟩ : Fin 8) = bat t := Fin.ext (by show (256 * t.val + r.val) / 2048 = t.val / 8; omega)
  have e2 : (⟨(256 * t.val + r.val) % 2048, by omega⟩ : Fin 2048) = tok t r := Fin.ext (by show (256 * t.val + r.val) % 2048 = 256 * (t.val % 8) + r.val; omega)
  rw [← e1, ← e2, ← arr0 m c ⟨256 * t + r, by omega⟩ e]
  blk_ext [iblk, idx t]

theorem blk1 (t : Fin cfg0.N) (e : Fin 1024) :
    (iblk m c 1 t : Vec Ideal S1x1x1024 .f32) (ix3 0 0 e) = a1 m c (ix2 (bat t) ⟨e, by omega⟩) := by
  rw [← arr1]
  blk_ext [iblk, idx t]

theorem blk2 (t : Fin cfg0.N) (e : Fin 1024) :
    (iblk m c 2 t : Vec Ideal S1x1x1024 .f32) (ix3 0 0 e) = a1 m c (ix2 (bat t) ⟨1024 + e, by omega⟩) := by
  rw [← arr1]
  blk_ext [iblk, idx t]

theorem blk3 (t : Fin cfg0.N) (e : Fin 1024) :
    (iblk m c 3 t : Vec Ideal S1x1024 .f32) (ix2 0 e) = a2 m c (ix1 e) := by
  rw [← arr3]
  blk_ext [iblk, idx t]

theorem blk4 (t : Fin cfg0.N) (k : Fin 1024) (e : Fin 2048) :
    (iblk m c 4 t : Vec Ideal S1024x2048 .bf16) (ix2 k e) = (V m c main_v19 : Vec Ideal S1024x2048 .bf16) (ix2 k e) := by
  blk_ext [iblk, idx t]

theorem blk5 (t : Fin cfg0.N) (r : Fin 256) (l : Fin 128) :
    (iblk m c 5 t : Vec Ideal S256x128 .f32) (ix2 r l) = Ideal.cos (Rope.ang (tok t r) (l % 64 % 32)) := by
  rw [← arr5 m c]
  blk_ext [iblk, idx t]

theorem blk6 (t : Fin cfg0.N) (r : Fin 256) (l : Fin 128) :
    (iblk m c 6 t : Vec Ideal S256x128 .f32) (ix2 r l) = if l.val % 64 < 32 then -Ideal.sin (Rope.ang (tok t r) (l % 64 % 32)) else Ideal.sin (Rope.ang (tok t r) (l % 64 % 32)) := by
  rw [← arr6 m c]
  blk_ext [iblk, idx t]

end Cert.ProjIdeal.Operands
-- ==== Proof.ProjValue.lean ====
module
public import proofs.«01_k».proof.Proof.ProjOperands

@[expose] public section

set_option maxRecDepth 16384
set_option maxHeartbeats 2000000

noncomputable section

open Idealize.ShloMosaic Idealize.ShloMosaic.TcCoe Idealize.SL.Sem

/-! The input projection's results, index by index. -/

namespace Cert.ProjIdeal.Operands

open Cert.ProjIdeal Cert.ProjIdeal.Gen

/-- A token's projection, from the whole arrays. -/
def z (x0 : Vec Ideal S8x2048x1024 .f32) (x1 : Vec Ideal S8x6144 .f32) (x2 : Vec Ideal S1024 .f32) (x3 : Vec Ideal S1024x1864 .f32) (b : Fin 8) (s : Fin 2048) (e : Fin 1864) : EReal :=
  Rope.proj (fun k => x0 (ix3 b s k)) (fun k => x2 (ix1 k)) (fun k => x1 (ix2 b ⟨1024 + k, by omega⟩)) (fun k => x1 (ix2 b ⟨k, by omega⟩)) (fun k e => x3 (ix2 k e)) e

variable (m : (ℓ : Loc nD τ sig) → Buf (Elt Ideal) ℓ) (c : Dev nD)

/-- A row of a point's product. -/
abbrev pr (t : Fin cfg0.N) (r : Fin 256) (e : Fin 2048) : EReal := Tile.prow (iblk m c 0 t) (iblk m c 1 t) (iblk m c 2 t) (iblk m c 3 t) (iblk m c 4 t) r e

/-- The projection of the token a row stands for. -/
abbrev zz (b : Fin 8) (s : Fin 2048) (e : Fin 1864) : EReal := z (a0 m c) (a1 m c) (a2 m c) (a3 m c) b s e

/-- A column of the product whose weights are a column of the projection. -/
theorem pr_col (t : Fin cfg0.N) (r : Fin 256) (e : Fin 2048) (f : Fin 1864) (h : ∀ k : Fin 1024, (V m c main_v19 : Vec Ideal S1024x2048 .bf16) (ix2 k e) = a3 m c (ix2 k f)) :
    pr m c t r e = zz m c (bat t) (tok t r) f := by
  unfold pr Tile.prow Tile.row zz z Rope.proj
  refine Finset.sum_congr rfl fun k _ => congrArg₂ _ ?_ ((blk4 m c t k e).trans (h k))
  simp only [blk0, blk1, blk2, blk3]

/-- A column of the product whose weights are zero. -/
theorem pr_zero (t : Fin cfg0.N) (r : Fin 256) (e : Fin 2048) (h : ∀ k : Fin 1024, (V m c main_v19 : Vec Ideal S1024x2048 .bf16) (ix2 k e) = (0 : EReal)) :
    pr m c t r e = 0 := by
  unfold pr Tile.prow Tile.row
  refine Finset.sum_eq_zero fun k _ => ?_
  refine (congrArg (fun w => _ * w) ((blk4 m c t k e).trans (h k))).trans ?_
  exact mul_zero _

/-- The rotation by lane rolls is the rotary embedding of each head. -/
theorem turned_rope (t : Fin cfg0.N) (o : Nat) (h : o + 128 ≤ 2048) (r : Fin 256) (l : Fin 128) :
    Tile.turned (iblk m c 0 t) (iblk m c 1 t) (iblk m c 2 t) (iblk m c 3 t) (iblk m c 4 t) (iblk m c 5 t) (iblk m c 6 t) o h r l
      = Rope.rope (fun d => pr m c t r ⟨o + l / 64 * 64 + d, by omega⟩) (tok t r) ⟨l % 64, by omega⟩ := by
  have hl := l.isLt
  unfold Tile.turned Rope.rope
  rw [blk5, blk6]
  have e1 : (⟨o + l.val, by omega⟩ : Fin 2048) = ⟨o + l.val / 64 * 64 + l.val % 64, by omega⟩ := Fin.ext (by show o + l.val = o + l.val / 64 * 64 + l.val % 64; omega)
  by_cases hd : l.val % 64 < 32
  · have e2 : (⟨o + (Tile.sw l).val, by omega⟩ : Fin 2048) = ⟨o + l.val / 64 * 64 + (l.val % 64 + 32), by omega⟩ := Fin.ext (by
      show o + (Tile.sw l).val = o + l.val / 64 * 64 + (l.val % 64 + 32)
      unfold Tile.sw
      rw [if_pos hd]
      show o + (l.val + 32) % 128 = _
      omega)
    rw [if_pos hd, dif_pos hd, e1, e2, mul_neg, ← sub_eq_add_neg]
    simp only [show l.val % 64 % 32 = l.val % 64 by omega]
  · have e2 : (⟨o + (Tile.sw l).val, by omega⟩ : Fin 2048) = ⟨o + l.val / 64 * 64 + (l.val % 64 - 32), by omega⟩ := Fin.ext (by
      show o + (Tile.sw l).val = o + l.val / 64 * 64 + (l.val % 64 - 32)
      unfold Tile.sw
      rw [if_neg hd]
      show o + (l.val - 32) = _
      omega)
    rw [if_neg hd, dif_neg hd, e1, e2]
    simp only [show l.val % 64 % 32 = l.val % 64 - 32 by omega]

/-- The point and the row a token belongs to. -/
theorem place (n : Fin 16384) : ∃ (t : Fin cfg0.N) (r : Fin 256) (h : 256 * t.val + r.val < 16384), n = ⟨256 * t + r, h⟩ ∧ bat t = ⟨n / 2048, by omega⟩ ∧ tok t r = ⟨n % 2048, by omega⟩ := by
  have hn := n.isLt
  have hN : cfg0.N = 64 := N_0
  refine ⟨⟨n / 256, by omega⟩, ⟨n % 256, by omega⟩, by show 256 * (n.val / 256) + n.val % 256 < 16384; omega, Fin.ext (by show n.val = 256 * (n.val / 256) + n.val % 256; omega), Fin.ext (by show n.val / 256 / 8 = n.val / 2048; omega), Fin.ext (by show 256 * (n.val / 256 % 8) + n.val % 256 = n.val % 2048; omega)⟩

/-- The queries. -/
theorem out7 (n : Fin 16384) (e : Fin 1024) : ((dats m 0 c).arrAt 7 cfg0.N : Vec Ideal S16384x1024 .bf16) (ix2 n e)
    = Rope.rope (fun d => zz m c ⟨n / 2048, by omega⟩ ⟨n % 2048, by omega⟩ ⟨(e / 64 % 2 * 8 + e / 128) * 64 + d, by omega⟩) (n % 2048) ⟨e % 64, by omega⟩ * Ideal.ofBits .f32 0x3E000000#32 := by
  have he := e.isLt
  obtain ⟨t, r, h, en, eb, es⟩ := place n
  have hb := congrFun ((Value.blocks7 m c t (flushes t).1).trans (Value.flushed7 m c t)) (ix2 r e)
  have hx : ((dats m 0 c).arrAt 7 cfg0.N : Vec Ideal S16384x1024 .bf16) (ix2 n e) = out0_7 (iblk m c 0 t) (iblk m c 1 t) (iblk m c 2 t) (iblk m c 3 t) (iblk m c 4 t) (iblk m c 5 t) (iblk m c 6 t) (ix2 r e) := by
    refine Eq.trans ?_ hb
    rw [en]
    generalize (dats m 0 c).arrAt 7 cfg0.N = A
    blk_ext [idx t]
  refine hx.trans ((Tile.q_at _ _ _ _ _ _ _ r e).trans (congrArg (fun y => y * _) ((turned_rope m c t _ _ r _).trans ?_)))
  rw [← eb, ← es]
  refine Rope.rope_congr (fun d => ?_) (congrArg Fin.val es) (by show e.val % 128 % 64 = e.val % 64; omega)
  refine pr_col m c t r _ _ fun k => (arr4_q m c k _ (by show e.val / 128 * 128 + e.val % 128 / 64 * 64 + d.val < 1024; omega)).trans (congrArg (fun y => a3 m c (ix2 k y)) (Fin.ext ?_))
  have hd := d.isLt
  show ((e.val / 128 * 128 + e.val % 128 / 64 * 64 + d.val) / 64 % 2 * 8 + (e.val / 128 * 128 + e.val % 128 / 64 * 64 + d.val) / 128) * 64 + (e.val / 128 * 128 + e.val % 128 / 64 * 64 + d.val) % 64 = (e.val / 64 % 2 * 8 + e.val / 128) * 64 + d.val
  have h1 : e.val / 128 * 128 + e.val % 128 / 64 * 64 + d.val = e.val / 64 * 64 + d.val := by omega
  rw [h1, show (e.val / 64 * 64 + d.val) / 64 = e.val / 64 by omega, show (e.val / 64 * 64 + d.val) / 128 = e.val / 128 by omega, show (e.val / 64 * 64 + d.val) % 64 = d.val by omega]

/-- The keys. -/
theorem out8 (n : Fin 16384) (e : Fin 128) : ((dats m 0 c).arrAt 8 cfg0.N : Vec Ideal S16384x128 .f32) (ix2 n e)
    = Rope.rope (fun d => zz m c ⟨n / 2048, by omega⟩ ⟨n % 2048, by omega⟩ ⟨1024 + e / 64 * 64 + d, by omega⟩) (n % 2048) ⟨e % 64, by omega⟩ := by
  have he := e.isLt
  obtain ⟨t, r, h, en, eb, es⟩ := place n
  have hb := congrFun ((Value.blocks8 m c t (flushes t).2.1).trans (Value.flushed8 m c t)) (ix2 r e)
  have hx : ((dats m 0 c).arrAt 8 cfg0.N : Vec Ideal S16384x128 .f32) (ix2 n e) = out0_8 (iblk m c 0 t) (iblk m c 1 t) (iblk m c 2 t) (iblk m c 3 t) (iblk m c 4 t) (iblk m c 5 t) (iblk m c 6 t) (ix2 r e) := by
    refine Eq.trans ?_ hb
    rw [en]
    generalize (dats m 0 c).arrAt 8 cfg0.N = A
    blk_ext [idx t]
  refine hx.trans ((Tile.k_at _ _ _ _ _ _ _ r e).trans ((turned_rope m c t _ _ r _).trans ?_))
  rw [← eb, ← es]
  refine Rope.rope_congr (fun d => ?_) (congrArg Fin.val es) rfl
  have hd := d.isLt
  exact pr_col m c t r _ _ fun k => arr4_kv m c k _ (by show 1024 ≤ 1024 + e.val / 64 * 64 + d.val; omega) (by show 1024 + e.val / 64 * 64 + d.val < 1792; omega)

/-- The values. -/
theorem out9 (n : Fin 16384) (e : Fin 128) : ((dats m 0 c).arrAt 9 cfg0.N : Vec Ideal S16384x128 .f32) (ix2 n e)
    = zz m c ⟨n / 2048, by omega⟩ ⟨n % 2048, by omega⟩ ⟨1152 + e, by omega⟩ := by
  have he := e.isLt
  obtain ⟨t, r, h, en, eb, es⟩ := place n
  have hb := congrFun ((Value.blocks9 m c t (flushes t).2.2.1).trans (Value.flushed9 m c t)) (ix2 r e)
  have hx : ((dats m 0 c).arrAt 9 cfg0.N : Vec Ideal S16384x128 .f32) (ix2 n e) = out0_9 (iblk m c 0 t) (iblk m c 1 t) (iblk m c 2 t) (iblk m c 3 t) (iblk m c 4 t) (iblk m c 5 t) (iblk m c 6 t) (ix2 r e) := by
    refine Eq.trans ?_ hb
    rw [en]
    generalize (dats m 0 c).arrAt 9 cfg0.N = A
    blk_ext [idx t]
  refine hx.trans ((Tile.v_at _ _ _ _ _ _ _ r e).trans ?_)
  rw [← eb, ← es]
  exact pr_col m c t r _ _ fun k => arr4_kv m c k _ (by show 1024 ≤ 1152 + e.val; omega) (by show 1152 + e.val < 1792; omega)

/-- The indexer's queries. -/
theorem out10 (n : Fin 16384) (e : Fin 512) : ((dats m 0 c).arrAt 10 cfg0.N : Vec Ideal S16384x512 .bf16) (ix2 n e)
    = Rope.rope (fun d => zz m c ⟨n / 2048, by omega⟩ ⟨n % 2048, by omega⟩ ⟨1280 + e / 64 * 64 + d, by omega⟩) (n % 2048) ⟨e % 64, by omega⟩ := by
  have he := e.isLt
  obtain ⟨t, r, h, en, eb, es⟩ := place n
  have hb := congrFun ((Value.blocks10 m c t (flushes t).2.2.2.1).trans (Value.flushed10 m c t)) (ix2 r e)
  have hx : ((dats m 0 c).arrAt 10 cfg0.N : Vec Ideal S16384x512 .bf16) (ix2 n e) = out0_10 (iblk m c 0 t) (iblk m c 1 t) (iblk m c 2 t) (iblk m c 3 t) (iblk m c 4 t) (iblk m c 5 t) (iblk m c 6 t) (ix2 r e) := by
    refine Eq.trans ?_ hb
    rw [en]
    generalize (dats m 0 c).arrAt 10 cfg0.N = A
    blk_ext [idx t]
  refine hx.trans ((Tile.iq_at _ _ _ _ _ _ _ r e).trans ((turned_rope m c t _ _ r _).trans ?_))
  rw [← eb, ← es]
  refine Rope.rope_congr (fun d => ?_) (congrArg Fin.val es) (by show e.val % 128 % 64 = e.val % 64; omega)
  have hd := d.isLt
  exact pr_col m c t r _ _ fun k => (arr4_kv m c k _ (by show 1024 ≤ 1280 + e.val / 128 * 128 + e.val % 128 / 64 * 64 + d.val; omega) (by show 1280 + e.val / 128 * 128 + e.val % 128 / 64 * 64 + d.val < 1792; omega)).trans
    (congrArg (fun y => a3 m c (ix2 k y)) (Fin.ext (by show 1280 + e.val / 128 * 128 + e.val % 128 / 64 * 64 + d.val = 1280 + e.val / 64 * 64 + d.val; omega)))

/-- The indexer's key. -/
theorem out11 (n : Fin 16384) (e : Fin 64) : ((dats m 0 c).arrAt 11 cfg0.N : Vec Ideal S16384x64 .f32) (ix2 n e)
    = Rope.rope (fun d => zz m c ⟨n / 2048, by omega⟩ ⟨n % 2048, by omega⟩ ⟨1800 + d, by omega⟩) (n % 2048) e := by
  have he := e.isLt
  obtain ⟨t, r, h, en, eb, es⟩ := place n
  have hb := congrFun ((Value.blocks11 m c t (flushes t).2.2.2.2.1).trans (Value.flushed11 m c t)) (ix2 r e)
  have hx : ((dats m 0 c).arrAt 11 cfg0.N : Vec Ideal S16384x64 .f32) (ix2 n e) = out0_11 (iblk m c 0 t) (iblk m c 1 t) (iblk m c 2 t) (iblk m c 3 t) (iblk m c 4 t) (iblk m c 5 t) (iblk m c 6 t) (ix2 r e) := by
    refine Eq.trans ?_ hb
    rw [en]
    generalize (dats m 0 c).arrAt 11 cfg0.N = A
    blk_ext [idx t]
  refine hx.trans ((Tile.ik_at _ _ _ _ _ _ _ r e).trans ((turned_rope m c t _ _ r _).trans ?_))
  rw [← eb, ← es]
  refine Rope.rope_congr (fun d => ?_) (congrArg Fin.val es) (by show e.val % 64 = e.val; omega)
  have hd := d.isLt
  exact pr_col m c t r _ _ fun k => (arr4_ik m c k _ (by show 1792 ≤ 1792 + e.val / 64 * 64 + d.val; omega) (by show 1792 + e.val / 64 * 64 + d.val < 1856; omega)).trans
    (congrArg (fun y => a3 m c (ix2 k y)) (Fin.ext (by show 1792 + e.val / 64 * 64 + d.val + 8 = 1800 + d.val; omega)))

/-- The indexer's weights: eight lanes, and zeros. -/
theorem out13 (n : Fin 16384) (e : Fin 128) : ((dats m 0 c).arrAt 13 cfg0.N : Vec Ideal S16384x128 .f32) (ix2 n e)
    = if h : e.val < 8 then zz m c ⟨n / 2048, by omega⟩ ⟨n % 2048, by omega⟩ ⟨1792 + e, by omega⟩ * Ideal.ofBits .f32 0x3D3504F3#32 else 0 := by
  have he := e.isLt
  obtain ⟨t, r, h, en, eb, es⟩ := place n
  have hb := congrFun ((Value.blocks13 m c t (flushes t).2.2.2.2.2).trans (Value.flushed13 m c t)) (ix2 r e)
  have hx : ((dats m 0 c).arrAt 13 cfg0.N : Vec Ideal S16384x128 .f32) (ix2 n e) = out0_13 (iblk m c 0 t) (iblk m c 1 t) (iblk m c 2 t) (iblk m c 3 t) (iblk m c 4 t) (iblk m c 5 t) (iblk m c 6 t) (ix2 r e) := by
    refine Eq.trans ?_ hb
    rw [en]
    generalize (dats m 0 c).arrAt 13 cfg0.N = A
    blk_ext [idx t]
  refine hx.trans ((Tile.iw_at _ _ _ _ _ _ _ r e).trans ?_)
  rw [← eb, ← es]
  by_cases h8 : e.val < 8
  · rw [dif_pos h8]
    exact congrArg (fun y => y * _) (pr_col m c t r _ _ fun k => (arr4_iw m c k _ (by show 1920 ≤ 1920 + e.val; omega) (by show 1920 + e.val < 1928; omega)).trans
      (congrArg (fun y => a3 m c (ix2 k y)) (Fin.ext (by show 1920 + e.val - 128 = 1792 + e.val; omega))))
  · rw [dif_neg h8]
    exact (congrArg (fun y => y * _) (pr_zero m c t r _ fun k => arr4_pad m c k _ (by show 1928 ≤ 1920 + e.val; omega))).trans (zero_mul _)

end Cert.ProjIdeal.Operands
-- ==== Proof.ProjRef.lean ====
module
public import proofs.«01_k».proof.Proof.Feed
public import proofs.«01_k».proof.Proof.Rope
public import proofs.«01_k».proof.Proof.Gen.ProjReferenceIdeal.Run
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.SL.Sem

/-! The reference's results, index by index. -/

namespace Cert.ProjReferenceIdeal.RefValue

open Cert.ProjReferenceIdeal Cert.ProjReferenceIdeal.Gen Cert.ProjReferenceIdeal.Value

variable (V0 : Valuation τ sig (Elt Ideal))

/-- The stream. -/
abbrev a0 : Vec Ideal S8x2048x1024 .f32 := V0 (Proc.devRef .tc main_arg0)
/-- The six modulations. -/
abbrev a1 : Vec Ideal S8x6144 .f32 := V0 (Proc.devRef .tc main_arg1)
/-- The norm's gain. -/
abbrev a2 : Vec Ideal S1024 .f32 := V0 (Proc.devRef .tc main_arg2)
/-- The projection. -/
abbrev a3 : Vec Ideal S1024x1864 .f32 := V0 (Proc.devRef .tc main_arg3)

/-- A token's projection. -/
theorem z_at (b : Fin 8) (s : Fin 2048) (e : Fin 1864) :
    (res_main_v23 V0 : Vec Ideal S8x2048x1864 .f32) (ix3 b s e) = Rope.proj (fun k => a0 V0 (ix3 b s k)) (fun k => a2 V0 (ix1 k)) (fun k => a1 V0 (ix2 b ⟨1024 + k, by omega⟩)) (fun k => a1 V0 (ix2 b ⟨k, by omega⟩)) (fun k e => a3 V0 (ix2 k e)) e := by
  unfold Rope.proj Feed.hid Feed.norm Feed.inv a0 a1 a2 a3
  unfold res_main_v23
  generalize V0 (Proc.devRef .tc main_arg0) = x0
  generalize V0 (Proc.devRef .tc main_arg1) = x1
  generalize V0 (Proc.devRef .tc main_arg2) = x2
  generalize V0 (Proc.devRef .tc main_arg3) = x3
  pointwise

/-- The angles of the queries. -/
theorem ang5_at (s : Fin 2048) (j : Fin 32) : (res_main_v42 V0 : Vec Ideal S1x2048x1x1x32 .f32) (ix5 0 s 0 0 j) = Rope.ang s j := by
  unfold res_main_v42 res_main_v24
  pointwise
  rfl

theorem ang4_at (s : Fin 2048) (j : Fin 32) : (res_main_v77 V0 : Vec Ideal S1x2048x1x32 .f32) (ix4 0 s 0 j) = Rope.ang s j := by
  unfold res_main_v77 res_main_v24
  pointwise
  rfl

theorem ang4'_at (s : Fin 2048) (j : Fin 32) : (res_main_v111 V0 : Vec Ideal S1x2048x1x32 .f32) (ix4 0 s 0 j) = Rope.ang s j := ang4_at V0 s j

theorem ang3_at (s : Fin 2048) (j : Fin 32) : (res_main_v146 V0 : Vec Ideal S1x2048x32 .f32) (ix3 0 s j) = Rope.ang s j := by
  unfold res_main_v146 res_main_v24
  pointwise
  rfl

/-- A rotated head from its halves. -/
def turn (z1 z2 cs sn : Fin 32 → EReal) (d : Fin 64) : EReal :=
  if h : d.val < 32 then z1 ⟨d, h⟩ * cs ⟨d, h⟩ - z2 ⟨d, h⟩ * sn ⟨d, h⟩ else z2 ⟨d - 32, by omega⟩ * cs ⟨d - 32, by omega⟩ + z1 ⟨d - 32, by omega⟩ * sn ⟨d - 32, by omega⟩

/-- The queries, from their halves: rotated, times an eighth, in the order of heads the kernel stores. -/
def rq (X1 X2 : FVec Ideal S8x2048x2x8x32 .f32) (C D : FVec Ideal S1x2048x1x1x32 .f32) : FVec Ideal S16384x1024 .bf16 := truncf .bf16 (shapeCast _ (transpose S8x2048x8x2x64 [0, 1, 3, 2, 4] (mulf (concatenate S8x2048x2x8x64 4 [⟨S8x2048x2x8x32, (subf (mulf X1 (broadcastInDim S8x2048x2x8x32 ![0, 1, 2, 3, 4] bcast_S1x2048x1x1x32_S8x2048x2x8x32_0_1_2_3_4 C)) (mulf X2 (broadcastInDim S8x2048x2x8x32 ![0, 1, 2, 3, 4] bcast_S1x2048x1x1x32_S8x2048x2x8x32_0_1_2_3_4 D)))⟩, ⟨S8x2048x2x8x32, (addf (mulf X2 (broadcastInDim S8x2048x2x8x32 ![0, 1, 2, 3, 4] bcast_S1x2048x1x1x32_S8x2048x2x8x32_0_1_2_3_4 C)) (mulf X1 (broadcastInDim S8x2048x2x8x32 ![0, 1, 2, 3, 4] bcast_S1x2048x1x1x32_S8x2048x2x8x32_0_1_2_3_4 D)))⟩] concatenates_S8x2048x2x8x32_S8x2048x2x8x32_S8x2048x2x8x64_d4) (broadcastInDim S8x2048x2x8x64 ![] bcast_S_S8x2048x2x8x64 (constant S_ .f32 0x3E000000#32))) transposes_S8x2048x2x8x64_S8x2048x8x2x64_0_1_3_2_4) shapeCasts_S8x2048x8x2x64_S16384x1024) bitsLt_bf16_f32

theorem rq_at (X1 X2 : FVec Ideal S8x2048x2x8x32 .f32) (C D : FVec Ideal S1x2048x1x1x32 .f32) (n : Fin 16384) (e : Fin 1024) :
    rq X1 X2 C D (ix2 n e) = turn (fun j => X1 (ix5 ⟨n / 2048, by omega⟩ ⟨n % 2048, by omega⟩ ⟨e / 64 % 2, by omega⟩ ⟨e / 128, by omega⟩ j)) (fun j => X2 (ix5 ⟨n / 2048, by omega⟩ ⟨n % 2048, by omega⟩ ⟨e / 64 % 2, by omega⟩ ⟨e / 128, by omega⟩ j))
      (fun j => C (ix5 0 ⟨n % 2048, by omega⟩ 0 0 j)) (fun j => D (ix5 0 ⟨n % 2048, by omega⟩ 0 0 j)) ⟨e % 64, by omega⟩ * Ideal.ofBits .f32 0x3E000000#32 := by
  have hn := n.isLt
  have he := e.isLt
  unfold rq turn
  pointwise

/-- The keys, from their halves. -/
def rk (X1 X2 : FVec Ideal S8x2048x2x32 .f32) (C D : FVec Ideal S1x2048x1x32 .f32) : FVec Ideal S16384x128 .f32 := shapeCast _ (concatenate S8x2048x2x64 3 [⟨S8x2048x2x32, (subf (mulf X1 (broadcastInDim S8x2048x2x32 ![0, 1, 2, 3] bcast_S1x2048x1x32_S8x2048x2x32_0_1_2_3 C)) (mulf X2 (broadcastInDim S8x2048x2x32 ![0, 1, 2, 3] bcast_S1x2048x1x32_S8x2048x2x32_0_1_2_3 D)))⟩, ⟨S8x2048x2x32, (addf (mulf X2 (broadcastInDim S8x2048x2x32 ![0, 1, 2, 3] bcast_S1x2048x1x32_S8x2048x2x32_0_1_2_3 C)) (mulf X1 (broadcastInDim S8x2048x2x32 ![0, 1, 2, 3] bcast_S1x2048x1x32_S8x2048x2x32_0_1_2_3 D)))⟩] concatenates_S8x2048x2x32_S8x2048x2x32_S8x2048x2x64_d3) shapeCasts_S8x2048x2x64_S16384x128

theorem rk_at (X1 X2 : FVec Ideal S8x2048x2x32 .f32) (C D : FVec Ideal S1x2048x1x32 .f32) (n : Fin 16384) (e : Fin 128) :
    rk X1 X2 C D (ix2 n e) = turn (fun j => X1 (ix4 ⟨n / 2048, by omega⟩ ⟨n % 2048, by omega⟩ ⟨e / 64, by omega⟩ j)) (fun j => X2 (ix4 ⟨n / 2048, by omega⟩ ⟨n % 2048, by omega⟩ ⟨e / 64, by omega⟩ j))
      (fun j => C (ix4 0 ⟨n % 2048, by omega⟩ 0 j)) (fun j => D (ix4 0 ⟨n % 2048, by omega⟩ 0 j)) ⟨e % 64, by omega⟩ := by
  have hn := n.isLt
  have he := e.isLt
  unfold rk turn
  pointwise

/-- The indexer's queries, from their halves. -/
def riq (X1 X2 : FVec Ideal S8x2048x8x32 .f32) (C D : FVec Ideal S1x2048x1x32 .f32) : FVec Ideal S16384x512 .bf16 := truncf .bf16 (shapeCast _ (concatenate S8x2048x8x64 3 [⟨S8x2048x8x32, (subf (mulf X1 (broadcastInDim S8x2048x8x32 ![0, 1, 2, 3] bcast_S1x2048x1x32_S8x2048x8x32_0_1_2_3 C)) (mulf X2 (broadcastInDim S8x2048x8x32 ![0, 1, 2, 3] bcast_S1x2048x1x32_S8x2048x8x32_0_1_2_3 D)))⟩, ⟨S8x2048x8x32, (addf (mulf X2 (broadcastInDim S8x2048x8x32 ![0, 1, 2, 3] bcast_S1x2048x1x32_S8x2048x8x32_0_1_2_3 C)) (mulf X1 (broadcastInDim S8x2048x8x32 ![0, 1, 2, 3] bcast_S1x2048x1x32_S8x2048x8x32_0_1_2_3 D)))⟩] concatenates_S8x2048x8x32_S8x2048x8x32_S8x2048x8x64_d3) shapeCasts_S8x2048x8x64_S16384x512) bitsLt_bf16_f32

theorem riq_at (X1 X2 : FVec Ideal S8x2048x8x32 .f32) (C D : FVec Ideal S1x2048x1x32 .f32) (n : Fin 16384) (e : Fin 512) :
    riq X1 X2 C D (ix2 n e) = turn (fun j => X1 (ix4 ⟨n / 2048, by omega⟩ ⟨n % 2048, by omega⟩ ⟨e / 64, by omega⟩ j)) (fun j => X2 (ix4 ⟨n / 2048, by omega⟩ ⟨n % 2048, by omega⟩ ⟨e / 64, by omega⟩ j))
      (fun j => C (ix4 0 ⟨n % 2048, by omega⟩ 0 j)) (fun j => D (ix4 0 ⟨n % 2048, by omega⟩ 0 j)) ⟨e % 64, by omega⟩ := by
  have hn := n.isLt
  have he := e.isLt
  unfold riq turn
  pointwise

/-- The indexer's key, from its halves. -/
def rik (X1 X2 : FVec Ideal S8x2048x32 .f32) (C D : FVec Ideal S1x2048x32 .f32) : FVec Ideal S16384x64 .f32 := shapeCast _ (concatenate S8x2048x64 2 [⟨S8x2048x32, (subf (mulf X1 (broadcastInDim S8x2048x32 ![0, 1, 2] bcast_S1x2048x32_S8x2048x32_0_1_2 C)) (mulf X2 (broadcastInDim S8x2048x32 ![0, 1, 2] bcast_S1x2048x32_S8x2048x32_0_1_2 D)))⟩, ⟨S8x2048x32, (addf (mulf X2 (broadcastInDim S8x2048x32 ![0, 1, 2] bcast_S1x2048x32_S8x2048x32_0_1_2 C)) (mulf X1 (broadcastInDim S8x2048x32 ![0, 1, 2] bcast_S1x2048x32_S8x2048x32_0_1_2 D)))⟩] concatenates_S8x2048x32_S8x2048x32_S8x2048x64_d2) shapeCasts_S8x2048x64_S16384x64

theorem rik_at (X1 X2 : FVec Ideal S8x2048x32 .f32) (C D : FVec Ideal S1x2048x32 .f32) (n : Fin 16384) (e : Fin 64) :
    rik X1 X2 C D (ix2 n e) = turn (fun j => X1 (ix3 ⟨n / 2048, by omega⟩ ⟨n % 2048, by omega⟩ j)) (fun j => X2 (ix3 ⟨n / 2048, by omega⟩ ⟨n % 2048, by omega⟩ j))
      (fun j => C (ix3 0 ⟨n % 2048, by omega⟩ j)) (fun j => D (ix3 0 ⟨n % 2048, by omega⟩ j)) e := by
  have hn := n.isLt
  have he := e.isLt
  unfold rik turn
  pointwise

/-- The indexer's weights, scaled and padded to 128 lanes. -/
def riw (Z : FVec Ideal S8x2048x1864 .f32) : FVec Ideal S16384x128 .f32 := pad S16384x128 ![0, 0] ![0, 120] ![0, 0] (shapeCast _ (mulf (extractStridedSlice S8x2048x8 ![0, 0, 1792] Z slices_S8x2048x1864_S8x2048x8_0_0_1792) (broadcastInDim S8x2048x8 ![] bcast_S_S8x2048x8 (constant S_ .f32 0x3D3504F3#32))) shapeCasts_S8x2048x8_S16384x8) (sitofp .f32 (constantI S_ 32 0#32)) pads_S16384x8_S16384x128_000_01200 h_S_

theorem riw_at (Z : FVec Ideal S8x2048x1864 .f32) (n : Fin 16384) (e : Fin 128) :
    riw Z (ix2 n e) = if h : e.val < 8 then Z (ix3 ⟨n / 2048, by omega⟩ ⟨n % 2048, by omega⟩ ⟨1792 + e, by omega⟩) * Ideal.ofBits .f32 0x3D3504F3#32 else 0 := by
  have hn := n.isLt
  have he := e.isLt
  unfold riw
  pointwise
  have h0 : (FloatOps.sitofp (F := Ideal) FTy.f32 0#32 : EReal) = 0 := by
    show (((0#32 : BitVec 32).toInt : ℝ) : EReal) = 0
    simp
  rw [h0]

/-- The values. -/
def rv : FVec Ideal S16384x128 .f32 := shapeCast _ (extractStridedSlice S8x2048x128 ![0, 0, 1152] (res_main_v23 V0) slices_S8x2048x1864_S8x2048x128_0_0_1152) shapeCasts_S8x2048x128_S16384x128

theorem rv_at (n : Fin 16384) (e : Fin 128) : rv V0 (ix2 n e) = (res_main_v23 V0 : Vec Ideal S8x2048x1864 .f32) (ix3 ⟨n / 2048, by omega⟩ ⟨n % 2048, by omega⟩ ⟨1152 + e, by omega⟩) := by
  have hn := n.isLt
  unfold rv
  generalize res_main_v23 V0 = Z
  pointwise

/-- A rotated head is the rotary embedding of its two halves. -/
theorem turn_rope (f : Fin 64 → EReal) (s : Nat) (z1 z2 cs sn : Fin 32 → EReal) (d : Fin 64) (h1 : ∀ j, z1 j = f ⟨j, by omega⟩) (h2 : ∀ j, z2 j = f ⟨j + 32, by omega⟩)
    (hc : ∀ j, cs j = Ideal.cos (Rope.ang s j)) (hs : ∀ j, sn j = Ideal.sin (Rope.ang s j)) : turn z1 z2 cs sn d = Rope.rope f s d := by
  unfold turn Rope.rope
  simp only [h1, h2, hc, hs]
  by_cases h : d.val < 32
  · rw [dif_pos h, dif_pos h]
  · rw [dif_neg h, dif_neg h]
    simp only [show d.val - 32 + 32 = d.val by omega]

/-- The projection's value at a token and a column. -/
abbrev zr (n : Fin 16384) (e : Fin 1864) : EReal := (res_main_v23 V0 : Vec Ideal S8x2048x1864 .f32) (ix3 ⟨n / 2048, by omega⟩ ⟨n % 2048, by omega⟩ e)

/-- The queries. -/
theorem q_at (n : Fin 16384) (e : Fin 1024) : rq (res_main_v45 V0) (res_main_v46 V0) (res_main_v43 V0) (res_main_v44 V0) (ix2 n e)
    = Rope.rope (fun d => zr V0 n ⟨(e / 64 % 2 * 8 + e / 128) * 64 + d, by omega⟩) (n % 2048) ⟨e % 64, by omega⟩ * Ideal.ofBits .f32 0x3E000000#32 := by
  have hn := n.isLt
  have he := e.isLt
  rw [rq_at]
  refine congrArg (fun y => y * _) (turn_rope _ _ _ _ _ _ _ (fun j => ?_) (fun j => ?_) (fun j => ?_) fun j => ?_)
  · have hj := j.isLt
    unfold zr res_main_v45 res_main_v26
    generalize res_main_v23 V0 = Z
    pointwise
    refine congrArg Z ?_
    idx_ext
  · have hj := j.isLt
    unfold zr res_main_v46 res_main_v26
    generalize res_main_v23 V0 = Z
    pointwise
    refine congrArg Z ?_
    idx_ext
  · rw [← ang5_at V0 ⟨n % 2048, by omega⟩ j]
    unfold res_main_v43
    generalize res_main_v42 V0 = A
    pointwise
  · rw [← ang5_at V0 ⟨n % 2048, by omega⟩ j]
    unfold res_main_v44
    generalize res_main_v42 V0 = A
    pointwise

/-- The keys. -/
theorem k_at (n : Fin 16384) (e : Fin 128) : rk (res_main_v80 V0) (res_main_v81 V0) (res_main_v78 V0) (res_main_v79 V0) (ix2 n e)
    = Rope.rope (fun d => zr V0 n ⟨1024 + e / 64 * 64 + d, by omega⟩) (n % 2048) ⟨e % 64, by omega⟩ := by
  have hn := n.isLt
  have he := e.isLt
  rw [rk_at]
  refine turn_rope _ _ _ _ _ _ _ (fun j => ?_) (fun j => ?_) (fun j => ?_) fun j => ?_
  · have hj := j.isLt
    unfold zr res_main_v80 res_main_v61
    generalize res_main_v23 V0 = Z
    pointwise
    refine congrArg Z ?_
    idx_ext
  · have hj := j.isLt
    unfold zr res_main_v81 res_main_v61
    generalize res_main_v23 V0 = Z
    pointwise
    refine congrArg Z ?_
    idx_ext
  · rw [← ang4_at V0 ⟨n % 2048, by omega⟩ j]
    unfold res_main_v78
    generalize res_main_v77 V0 = A
    pointwise
  · rw [← ang4_at V0 ⟨n % 2048, by omega⟩ j]
    unfold res_main_v79
    generalize res_main_v77 V0 = A
    pointwise

/-- The indexer's queries. -/
theorem iq_at (n : Fin 16384) (e : Fin 512) : riq (res_main_v114 V0) (res_main_v115 V0) (res_main_v112 V0) (res_main_v113 V0) (ix2 n e)
    = Rope.rope (fun d => zr V0 n ⟨1280 + e / 64 * 64 + d, by omega⟩) (n % 2048) ⟨e % 64, by omega⟩ := by
  have hn := n.isLt
  have he := e.isLt
  rw [riq_at]
  refine turn_rope _ _ _ _ _ _ _ (fun j => ?_) (fun j => ?_) (fun j => ?_) fun j => ?_
  · have hj := j.isLt
    unfold zr res_main_v114 res_main_v95
    generalize res_main_v23 V0 = Z
    pointwise
    refine congrArg Z ?_
    idx_ext
  · have hj := j.isLt
    unfold zr res_main_v115 res_main_v95
    generalize res_main_v23 V0 = Z
    pointwise
    refine congrArg Z ?_
    idx_ext
  · rw [← ang4'_at V0 ⟨n % 2048, by omega⟩ j]
    unfold res_main_v112
    generalize res_main_v111 V0 = A
    pointwise
  · rw [← ang4'_at V0 ⟨n % 2048, by omega⟩ j]
    unfold res_main_v113
    generalize res_main_v111 V0 = A
    pointwise

/-- The indexer's key. -/
theorem ik_at (n : Fin 16384) (e : Fin 64) : rik (res_main_v149 V0) (res_main_v150 V0) (res_main_v147 V0) (res_main_v148 V0) (ix2 n e)
    = Rope.rope (fun d => zr V0 n ⟨1800 + d, by omega⟩) (n % 2048) e := by
  have hn := n.isLt
  have he := e.isLt
  rw [rik_at]
  refine turn_rope _ _ _ _ _ _ _ (fun j => ?_) (fun j => ?_) (fun j => ?_) fun j => ?_
  · have hj := j.isLt
    unfold zr res_main_v149 res_main_v130
    generalize res_main_v23 V0 = Z
    pointwise
  · have hj := j.isLt
    unfold zr res_main_v150 res_main_v130
    generalize res_main_v23 V0 = Z
    pointwise
    refine congrArg Z ?_
    idx_ext
  · rw [← ang3_at V0 ⟨n % 2048, by omega⟩ j]
    unfold res_main_v147
    generalize res_main_v146 V0 = A
    pointwise
  · rw [← ang3_at V0 ⟨n % 2048, by omega⟩ j]
    unfold res_main_v148
    generalize res_main_v146 V0 = A
    pointwise

end Cert.ProjReferenceIdeal.RefValue
-- ==== Proof.ProjClaims.lean ====
module
public import proofs.«01_k».proof.Defs
public import proofs.«01_k».proof.Proof.ProjValue
public import proofs.«01_k».proof.Proof.ProjRef
public import Idealize.ShloMosaic.Adequacy
public import Idealize.ShloMosaic.Init

@[expose] public section

set_option maxRecDepth 16384

noncomputable section

open Idealize.ShloMosaic Idealize.ShloMosaic.TcCoe Idealize.SL.Sem

/-! The input projection of layer 1: kernel and reference end with the same arrays. -/

namespace Cert.PromptProj

open Cert.ProjIdeal.Operands Cert.ProjReferenceIdeal.Value Cert.ProjReferenceIdeal.RefValue

local instance : Cert.ProjIdeal.Facts := Cert.ProjIdeal.Gen.facts
local instance : Cert.ProjReferenceIdeal.Facts := Cert.ProjReferenceIdeal.Gen.facts

/-- Every index of an array of rank 2 is its two coordinates. -/
theorem pair {p q : Nat} (i : (⟨2, ![p, q]⟩ : Shape).Idx) : ∃ (n : Fin p) (e : Fin q), i = ix2 n e :=
  ⟨i 0, i 1, (ix2_eta i).symm⟩

variable (m : (ℓ : Loc Cert.ProjIdeal.nD Cert.ProjIdeal.τ Cert.ProjIdeal.sig) → Buf (Elt Ideal) ℓ) (c : Dev Cert.ProjIdeal.nD)
  (V0 : Valuation Cert.ProjReferenceIdeal.τ Cert.ProjReferenceIdeal.sig (Elt Ideal))

/-- The reference starts from the kernel's arguments. -/
def Same : Prop :=
  Cert.ProjReferenceIdeal.RefValue.a0 V0 = Cert.ProjIdeal.Operands.a0 m c ∧ Cert.ProjReferenceIdeal.RefValue.a1 V0 = Cert.ProjIdeal.Operands.a1 m c
    ∧ Cert.ProjReferenceIdeal.RefValue.a2 V0 = Cert.ProjIdeal.Operands.a2 m c ∧ Cert.ProjReferenceIdeal.RefValue.a3 V0 = Cert.ProjIdeal.Operands.a3 m c

variable {m c V0}

/-- The two projections of a token are equal. -/
theorem z_eq (h : Same m c V0) (n : Fin 16384) (e : Fin 1864) : zz m c ⟨n / 2048, by omega⟩ ⟨n % 2048, by omega⟩ e = zr V0 n e := by
  obtain ⟨h0, h1, h2, h3⟩ := h
  unfold zz z zr
  rw [z_at, h0, h1, h2, h3]

/-- The queries are equal. -/
theorem q_eq (h : Same m c V0) : ((Cert.ProjIdeal.Gen.dats m 0 c).arrAt 7 Cert.ProjIdeal.cfg0.N : Vec Ideal Cert.ProjIdeal.S16384x1024 .bf16)
    = rq (res_main_v45 V0) (res_main_v46 V0) (res_main_v43 V0) (res_main_v44 V0) := by
  funext i
  obtain ⟨n, e, rfl⟩ := pair i
  refine (out7 m c n e).trans (Eq.trans ?_ (q_at V0 n e).symm)
  simp only [z_eq h]

/-- The keys are equal. -/
theorem k_eq (h : Same m c V0) : ((Cert.ProjIdeal.Gen.dats m 0 c).arrAt 8 Cert.ProjIdeal.cfg0.N : Vec Ideal Cert.ProjIdeal.S16384x128 .f32)
    = rk (res_main_v80 V0) (res_main_v81 V0) (res_main_v78 V0) (res_main_v79 V0) := by
  funext i
  obtain ⟨n, e, rfl⟩ := pair i
  refine (out8 m c n e).trans (Eq.trans ?_ (k_at V0 n e).symm)
  simp only [z_eq h]

/-- The values are equal. -/
theorem v_eq (h : Same m c V0) : ((Cert.ProjIdeal.Gen.dats m 0 c).arrAt 9 Cert.ProjIdeal.cfg0.N : Vec Ideal Cert.ProjIdeal.S16384x128 .f32) = rv V0 := by
  funext i
  obtain ⟨n, e, rfl⟩ := pair i
  refine (out9 m c n e).trans (Eq.trans ?_ (rv_at V0 n e).symm)
  exact z_eq h n _

/-- The indexer's queries are equal. -/
theorem iq_eq (h : Same m c V0) : ((Cert.ProjIdeal.Gen.dats m 0 c).arrAt 10 Cert.ProjIdeal.cfg0.N : Vec Ideal Cert.ProjIdeal.S16384x512 .bf16)
    = riq (res_main_v114 V0) (res_main_v115 V0) (res_main_v112 V0) (res_main_v113 V0) := by
  funext i
  obtain ⟨n, e, rfl⟩ := pair i
  refine (out10 m c n e).trans (Eq.trans ?_ (iq_at V0 n e).symm)
  simp only [z_eq h]

/-- The indexer's keys are equal. -/
theorem ik_eq (h : Same m c V0) : ((Cert.ProjIdeal.Gen.dats m 0 c).arrAt 11 Cert.ProjIdeal.cfg0.N : Vec Ideal Cert.ProjIdeal.S16384x64 .f32)
    = rik (res_main_v149 V0) (res_main_v150 V0) (res_main_v147 V0) (res_main_v148 V0) := by
  funext i
  obtain ⟨n, e, rfl⟩ := pair i
  refine (out11 m c n e).trans (Eq.trans ?_ (ik_at V0 n e).symm)
  simp only [z_eq h]

/-- The indexer's weights are equal. -/
theorem iw_eq (h : Same m c V0) : ((Cert.ProjIdeal.Gen.dats m 0 c).arrAt 13 Cert.ProjIdeal.cfg0.N : Vec Ideal Cert.ProjIdeal.S16384x128 .f32) = riw (res_main_v23 V0) := by
  funext i
  obtain ⟨n, e, rfl⟩ := pair i
  refine (out13 m c n e).trans (Eq.trans ?_ (riw_at _ n e).symm)
  simp only [z_eq h]

/-- The reference runs to its end. -/
theorem frame_reference : Cert.quiescent_ProjReferenceIdeal := fun m ρ _ =>
  (θ_run Cert.ProjReferenceIdeal.defs _ _).mono (fun r h => ⟨fun c => (h c).2.2.2.2.2.2, sem_eq_zero_of_no_sems (by decide) r.2⟩)
    (Cert.ProjReferenceIdeal.Value.run (F := Ideal) m ρ)

/-- From memories that agree on the arguments, kernel and reference end with the same results. -/
theorem algebraic : Cert.algebraic_ProjIdeal_ProjReferenceIdeal := by
  intro m ρ m' ρ' _ ha
  refine ⟨fun c => (Cert.ProjIdeal.Gen.dats m 0 c).arrAt 7 Cert.ProjIdeal.cfg0.N, fun c => (Cert.ProjIdeal.Gen.dats m 0 c).arrAt 8 Cert.ProjIdeal.cfg0.N,
    fun c => (Cert.ProjIdeal.Gen.dats m 0 c).arrAt 9 Cert.ProjIdeal.cfg0.N, fun c => (Cert.ProjIdeal.Gen.dats m 0 c).arrAt 10 Cert.ProjIdeal.cfg0.N,
    fun c => (Cert.ProjIdeal.Gen.dats m 0 c).arrAt 11 Cert.ProjIdeal.cfg0.N, fun c => (Cert.ProjIdeal.Gen.dats m 0 c).arrAt 13 Cert.ProjIdeal.cfg0.N, ?_, ?_⟩
  · refine (θ_run Cert.ProjIdeal.defs _ _).mono (fun r h c => ?_) (Cert.ProjIdeal.Value.run_blocks (F := Ideal) m ρ)
    obtain ⟨h0, h1, h2, h3, h4, _, h6, hr⟩ := h c
    exact ⟨h0, h1, h2, h3, h4, h6, hr⟩
  · refine (θ_run Cert.ProjReferenceIdeal.defs _ _).mono (fun r h c => ?_) (Cert.ProjReferenceIdeal.Value.run (F := Ideal) m' ρ')
    have hs : Same m c (Idealize.ShloMosaic.StableHlo.launchContents m' c) := ha c
    obtain ⟨h0, h1, h2, h3, h4, h5, hr⟩ := h c
    exact ⟨h0.trans (q_eq hs).symm, h1.trans (k_eq hs).symm, h2.trans (v_eq hs).symm, h3.trans (iq_eq hs).symm, h4.trans (ik_eq hs).symm, h5.trans (iw_eq hs).symm, hr⟩

end Cert.PromptProj
-- ==== Proof.RopeFirst.lean ====
module
public import proofs.«01_k».proof.Proof.Rope

@[expose] public section

noncomputable section

open Idealize.ShloMosaic

/-! The input projection of layer 0, for one token: heads of 32 lanes are rotated too, and the latents are normed. -/

namespace Cert.RopeFirst

/-- The angle of position `s` and pair `j` for heads of 32: `s` times 10000 to the power `-2 j / 32`. -/
def ang (s j : Nat) : EReal :=
  FloatOps.sitofp (F := Ideal) FTy.f32 (BitVec.ofNat 32 s) * Ideal.pow (Ideal.ofBits FTy.f32 1176256512#32)
    (Ideal.div (-(Ideal.ofBits FTy.f32 1073741824#32 * FloatOps.sitofp (F := Ideal) FTy.f32 (BitVec.ofNat 32 j))) (Ideal.ofBits FTy.f32 1107296256#32))

/-- The rotary embedding of a head of 32 at position `s`. -/
def rope (z : Fin 32 → EReal) (s : Nat) (d : Fin 32) : EReal :=
  if h : d.val < 16 then z d * Ideal.cos (ang s d) - z ⟨d + 16, by omega⟩ * Ideal.sin (ang s d)
  else z d * Ideal.cos (ang s (d - 16)) + z ⟨d - 16, by omega⟩ * Ideal.sin (ang s (d - 16))

/-- Equal heads at equal positions have equal embeddings. -/
theorem rope_congr {f g : Fin 32 → EReal} {s s' : Nat} {d d' : Fin 32} (hf : ∀ d, f d = g d) (hs : s = s') (hd : d.val = d'.val) : rope f s d = rope g s' d' := by
  obtain rfl := funext hf
  obtain rfl := hs
  obtain rfl := Fin.ext hd
  rfl

/-- The norm of 256 entries with its gain (the literals 256 and 1e-6). -/
def norm (x g : Fin 256 → EReal) (e : Fin 256) : EReal :=
  x e * Ideal.rsqrt (Ideal.div (∑ k, x k * x k) (Ideal.ofBits FTy.f32 0x43800000#32) + Ideal.ofBits FTy.f32 0x358637BD#32) * g e

/-- The projection of a token. -/
def proj (x g sc sh : Fin 1024 → EReal) (w : Fin 1024 → Fin 1568 → EReal) (e : Fin 1568) : EReal := ∑ k, Feed.hid x g sc sh k * w k e

/-- The up-projection of a token's normed query latent. -/
def up (x g : Fin 256 → EReal) (w : Fin 256 → Fin 768 → EReal) (e : Fin 768) : EReal := ∑ k, norm x g k * w k e

/-- The lane holding a lane's partner in the rotation of heads of 64: half a head further, or back. -/
def sw64 (l : Fin 128) : Fin 128 := if l.val % 64 < 32 then ⟨(l.val + 32) % 128, Nat.mod_lt _ (by decide)⟩ else ⟨l.val - 32, by omega⟩

/-- The same for heads of 32. -/
def sw32 (l : Fin 128) : Fin 128 := if l.val % 32 < 16 then ⟨(l.val + 16) % 128, Nat.mod_lt _ (by decide)⟩ else ⟨l.val - 16, by omega⟩

/-- A lane times the one table plus its partner times the other. -/
def mix (sw : Fin 128 → Fin 128) (f cs sn : Fin 128 → EReal) (l : Fin 128) : EReal := f l * cs l + f (sw l) * sn l

/-- With cosines and signed sines in the tables this is the rotary embedding of each head of 64. -/
theorem mix64 (f cs sn : Fin 128 → EReal) (s : Nat) (hc : ∀ l : Fin 128, cs l = Ideal.cos (Rope.ang s (l % 64 % 32)))
    (hs : ∀ l : Fin 128, sn l = if l.val % 64 < 32 then -Ideal.sin (Rope.ang s (l % 64 % 32)) else Ideal.sin (Rope.ang s (l % 64 % 32))) (l : Fin 128) :
    mix sw64 f cs sn l = Rope.rope (fun d => f ⟨l / 64 * 64 + d, by omega⟩) s ⟨l % 64, by omega⟩ := by
  have hl := l.isLt
  unfold mix Rope.rope
  rw [hc, hs]
  have e1 : l = ⟨l.val / 64 * 64 + l.val % 64, by omega⟩ := Fin.ext (by show l.val = l.val / 64 * 64 + l.val % 64; omega)
  by_cases hd : l.val % 64 < 32
  · have e2 : sw64 l = ⟨l.val / 64 * 64 + (l.val % 64 + 32), by omega⟩ := Fin.ext (by
      unfold sw64
      rw [if_pos hd]
      show (l.val + 32) % 128 = l.val / 64 * 64 + (l.val % 64 + 32)
      omega)
    rw [if_pos hd, dif_pos hd, e2, mul_neg, ← sub_eq_add_neg]
    simp only [show l.val % 64 % 32 = l.val % 64 by omega]
    rw [← e1]
  · have e2 : sw64 l = ⟨l.val / 64 * 64 + (l.val % 64 - 32), by omega⟩ := Fin.ext (by
      unfold sw64
      rw [if_neg hd]
      show l.val - 32 = l.val / 64 * 64 + (l.val % 64 - 32)
      omega)
    rw [if_neg hd, dif_neg hd, e2]
    simp only [show l.val % 64 % 32 = l.val % 64 - 32 by omega]
    rw [← e1]

/-- The same for heads of 32. -/
theorem mix32 (f cs sn : Fin 128 → EReal) (s : Nat) (hc : ∀ l : Fin 128, cs l = Ideal.cos (ang s (l % 32 % 16)))
    (hs : ∀ l : Fin 128, sn l = if l.val % 32 < 16 then -Ideal.sin (ang s (l % 32 % 16)) else Ideal.sin (ang s (l % 32 % 16))) (l : Fin 128) :
    mix sw32 f cs sn l = rope (fun d => f ⟨l / 32 * 32 + d, by omega⟩) s ⟨l % 32, by omega⟩ := by
  have hl := l.isLt
  unfold mix rope
  rw [hc, hs]
  have e1 : l = ⟨l.val / 32 * 32 + l.val % 32, by omega⟩ := Fin.ext (by show l.val = l.val / 32 * 32 + l.val % 32; omega)
  by_cases hd : l.val % 32 < 16
  · have e2 : sw32 l = ⟨l.val / 32 * 32 + (l.val % 32 + 16), by omega⟩ := Fin.ext (by
      unfold sw32
      rw [if_pos hd]
      show (l.val + 16) % 128 = l.val / 32 * 32 + (l.val % 32 + 16)
      omega)
    rw [if_pos hd, dif_pos hd, e2, mul_neg, ← sub_eq_add_neg]
    simp only [show l.val % 32 % 16 = l.val % 32 by omega]
    rw [← e1]
  · have e2 : sw32 l = ⟨l.val / 32 * 32 + (l.val % 32 - 16), by omega⟩ := Fin.ext (by
      unfold sw32
      rw [if_neg hd]
      show l.val - 16 = l.val / 32 * 32 + (l.val % 32 - 16)
      omega)
    rw [if_neg hd, dif_neg hd, e2]
    simp only [show l.val % 32 % 16 = l.val % 32 - 16 by omega]
    rw [← e1]

/-- A rotated head of 64 from its halves. -/
def turn64 (z1 z2 cs sn : Fin 32 → EReal) (d : Fin 64) : EReal :=
  if h : d.val < 32 then z1 ⟨d, h⟩ * cs ⟨d, h⟩ - z2 ⟨d, h⟩ * sn ⟨d, h⟩ else z2 ⟨d - 32, by omega⟩ * cs ⟨d - 32, by omega⟩ + z1 ⟨d - 32, by omega⟩ * sn ⟨d - 32, by omega⟩

/-- A rotated head of 32 from its halves. -/
def turn32 (z1 z2 cs sn : Fin 16 → EReal) (d : Fin 32) : EReal :=
  if h : d.val < 16 then z1 ⟨d, h⟩ * cs ⟨d, h⟩ - z2 ⟨d, h⟩ * sn ⟨d, h⟩ else z2 ⟨d - 16, by omega⟩ * cs ⟨d - 16, by omega⟩ + z1 ⟨d - 16, by omega⟩ * sn ⟨d - 16, by omega⟩

/-- A head rotated from its two halves is the rotary embedding. -/
theorem turn64_rope (f : Fin 64 → EReal) (s : Nat) (z1 z2 cs sn : Fin 32 → EReal) (d : Fin 64) (h1 : ∀ j, z1 j = f ⟨j, by omega⟩) (h2 : ∀ j, z2 j = f ⟨j + 32, by omega⟩)
    (hc : ∀ j, cs j = Ideal.cos (Rope.ang s j)) (hs : ∀ j, sn j = Ideal.sin (Rope.ang s j)) : turn64 z1 z2 cs sn d = Rope.rope f s d := by
  unfold turn64 Rope.rope
  simp only [h1, h2, hc, hs]
  by_cases h : d.val < 32
  · rw [dif_pos h, dif_pos h]
  · rw [dif_neg h, dif_neg h]
    simp only [show d.val - 32 + 32 = d.val by omega]

/-- The same for heads of 32. -/
theorem turn32_rope (f : Fin 32 → EReal) (s : Nat) (z1 z2 cs sn : Fin 16 → EReal) (d : Fin 32) (h1 : ∀ j, z1 j = f ⟨j, by omega⟩) (h2 : ∀ j, z2 j = f ⟨j + 16, by omega⟩)
    (hc : ∀ j, cs j = Ideal.cos (ang s j)) (hs : ∀ j, sn j = Ideal.sin (ang s j)) : turn32 z1 z2 cs sn d = rope f s d := by
  unfold turn32 rope
  simp only [h1, h2, hc, hs]
  by_cases h : d.val < 16
  · rw [dif_pos h, dif_pos h]
  · rw [dif_neg h, dif_neg h]
    simp only [show d.val - 16 + 16 = d.val by omega]

end Cert.RopeFirst
-- ==== Proof.ProjFirstTile.lean ====
module
public import proofs.«01_k».proof.Proof.RopeFirst
public import proofs.«01_k».proof.Proof.Gen.ProjFirstIdeal.Frame
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.SL.Sem

/-! What the body of layer 0's input projection computes, index by index. -/

namespace Cert.ProjFirstIdeal.Tile

open Cert.ProjFirstIdeal Cert.ProjFirstIdeal.Gen Cert.RopeFirst

theorem hz : (![0, 0] : Fin 2 → Nat) = fun _ => 0 := funext fun a => by fin_cases a <;> rfl
theorem hz3 : (![0, 0, 0] : Fin 3 → Nat) = fun _ => 0 := funext fun a => by fin_cases a <;> rfl

/-- Every index of an array of rank 2 is its two coordinates. -/
theorem pair {p q : Nat} (i : (⟨2, ![p, q]⟩ : Shape).Idx) : ∃ (n : Fin p) (e : Fin q), i = ix2 n e :=
  ⟨i 0, i 1, (ix2_eta i).symm⟩

/-- The rotation of 128 lanes, heads of 64, by the tables `C` and `S`, as the body spells it. -/
def rot64 (Z C S : FVec Ideal S256x128 .f32) : FVec Ideal S256x128 .f32 :=
  addf (mulf Z C) (mulf (select (cmpi .slt (andi (iota .tc S256x128 32 [1] iota_S256x128_d1_w32) (broadcast S256x128 63#32)) (broadcast S256x128 32#32)) (dynamicRotate 1 96#32 none Z rotates_S256x128_d1) (dynamicRotate 1 32#32 none Z rotates_S256x128_d1)) S)

/-- The lanes chosen from the first roll: the first half of each head. -/
theorem mask64_at (l : Fin 128) : IntOp.cmpi CmpIPredicate.slt (IntOp.andi (BitVec.ofNat 32 l.val) 63#32) 32#32 = if l.val % 64 < 32 then 1#1 else 0#1 := by
  revert l
  decide +kernel

/-- The rotation at an index. -/
theorem rot64_at (Z C S : FVec Ideal S256x128 .f32) (r : Fin 256) (l : Fin 128) :
    rot64 Z C S (ix2 r l) = mix sw64 (fun l => Z (ix2 r l)) (fun l => C (ix2 r l)) (fun l => S (ix2 r l)) l := by
  unfold rot64 mix sw64
  pointwise
  rw [mask64_at]
  have hl := l.isLt
  split
  · refine congrArg (fun z => _ + Z (ix2 r z) * _) (Fin.ext ?_)
    show (l.val + 128 - 96) % 128 = (l.val + 32) % 128
    omega
  · refine congrArg (fun z => _ + Z (ix2 r z) * _) (Fin.ext ?_)
    show (l.val + 128 - 32) % 128 = l.val - 32
    omega

/-- The rotation of 128 lanes, heads of 32, by the tables `C` and `S`, as the body spells it. -/
def rot32 (Z C S : FVec Ideal S256x128 .f32) : FVec Ideal S256x128 .f32 :=
  addf (mulf Z C) (mulf (select (cmpi .slt (andi (iota .tc S256x128 32 [1] iota_S256x128_d1_w32) (broadcast S256x128 31#32)) (broadcast S256x128 16#32)) (dynamicRotate 1 112#32 none Z rotates_S256x128_d1) (dynamicRotate 1 16#32 none Z rotates_S256x128_d1)) S)

/-- The lanes chosen from the first roll: the first half of each head. -/
theorem mask32_at (l : Fin 128) : IntOp.cmpi CmpIPredicate.slt (IntOp.andi (BitVec.ofNat 32 l.val) 31#32) 16#32 = if l.val % 32 < 16 then 1#1 else 0#1 := by
  revert l
  decide +kernel

/-- The rotation at an index. -/
theorem rot32_at (Z C S : FVec Ideal S256x128 .f32) (r : Fin 256) (l : Fin 128) :
    rot32 Z C S (ix2 r l) = mix sw32 (fun l => Z (ix2 r l)) (fun l => C (ix2 r l)) (fun l => S (ix2 r l)) l := by
  unfold rot32 mix sw32
  pointwise
  rw [mask32_at]
  have hl := l.isLt
  split
  · refine congrArg (fun z => _ + Z (ix2 r z) * _) (Fin.ext ?_)
    show (l.val + 128 - 112) % 128 = (l.val + 16) % 128
    omega
  · refine congrArg (fun z => _ + Z (ix2 r z) * _) (Fin.ext ?_)
    show (l.val + 128 - 16) % 128 = l.val - 16
    omega

/-- 128 columns, from column `o`. -/
def cols (o : Nat) (h : o + 128 ≤ 1664) (Z : FVec Ideal S256x1664 .f32) : FVec Ideal S256x128 .f32 := fun i => Z (ix2 (i 0) ⟨o + (i 1).val, by have : (i 1).val < 128 := (i 1).isLt; omega⟩)

theorem cols_cut (o : Nat) (h : o + 128 ≤ 1664) (Z : FVec Ideal S256x1664 .f32) (hs : S256x1664.Slices ![0, o] S256x128) : extractStridedSlice S256x128 ![0, o] Z hs = cols o h Z := by
  funext i
  obtain ⟨r, l, rfl⟩ : ∃ (r : Fin 256) (l : Fin 128), i = ix2 r l := pair i
  unfold cols
  pointwise

/-- 128 columns, from column `o`. -/
def qcols (o : Nat) (h : o + 128 ≤ 768) (Z : FVec Ideal S256x768 .f32) : FVec Ideal S256x128 .f32 := fun i => Z (ix2 (i 0) ⟨o + (i 1).val, by have : (i 1).val < 128 := (i 1).isLt; omega⟩)

theorem qcols_cut (o : Nat) (h : o + 128 ≤ 768) (Z : FVec Ideal S256x768 .f32) (hs : S256x768.Slices ![0, o] S256x128) : extractStridedSlice S256x128 ![0, o] Z hs = qcols o h Z := by
  funext i
  obtain ⟨r, l, rfl⟩ : ∃ (r : Fin 256) (l : Fin 128), i = ix2 r l := pair i
  unfold qcols
  pointwise

/-- A product row: the modulated norm of a token times the projection. -/
def row (x g sc sh : Fin 1024 → EReal) (w : Fin 1024 → Fin 1664 → EReal) (e : Fin 1664) : EReal := ∑ k, Feed.hid x g sc sh k * w k e

/-- The product at an index. -/
theorem pay4_at (v0 : Vec Ideal S256x1024 .f32) (v2 : Vec Ideal S1x1024 .f32) (v16 v22 : Vec Ideal S1x1x1024 .f32) (v27 : Vec Ideal S1024x1664 .bf16) (r : Fin 256) (e : Fin 1664) :
    k0_pay4 v0 v2 v16 v22 v27 (ix2 r e) = row (fun k => v0 (ix2 r k)) (fun k => v2 (ix2 0 k)) (fun k => v16 (ix3 0 0 k)) (fun k => v22 (ix3 0 0 k)) (fun k e => v27 (ix2 k e)) e := by
  unfold row Feed.hid Feed.norm Feed.inv
  pointwise [k0_pay4]

/-- The up-projection of the normed query latent at an index. -/
theorem pay9_at (Z : FVec Ideal S256x1664 .f32) (g : Vec Ideal S1x256 .f32) (w : Vec Ideal S256x768 .bf16) (r : Fin 256) (e : Fin 768) :
    k0_pay9 Z g w (ix2 r e) = up (fun k => Z (ix2 r ⟨k, by omega⟩)) (fun k => g (ix2 0 k)) (fun k e => w (ix2 k e)) e := by
  unfold up RopeFirst.norm
  pointwise [k0_pay9]

/-- The normed latent at an index. -/
theorem pay13_at (Z : FVec Ideal S256x1664 .f32) (g : Vec Ideal S1x256 .f32) (r : Fin 256) (e : Fin 256) :
    k0_pay13 Z g (ix2 r e) = norm (fun k => Z (ix2 r ⟨256 + k, by omega⟩)) (fun k => g (ix2 0 k)) e := by
  unfold RopeFirst.norm
  pointwise [k0_pay13]

/-- The rotation of 128 columns, scaled. -/
def scaled (R : FVec Ideal S256x128 .f32) (b : BitVec 32) : FVec Ideal S256x128 .bf16 := truncf .bf16 (mulf R (broadcast S256x128 (Scalar.ofBits .f32 b))) bitsLt_bf16_f32

theorem scaled_at (R : FVec Ideal S256x128 .f32) (b : BitVec 32) (r : Fin 256) (l : Fin 128) : scaled R b (ix2 r l) = R (ix2 r l) * Ideal.ofBits .f32 b := by
  unfold scaled
  pointwise

theorem r0 (Z : FVec Ideal S256x1664 .f32) (C S : FVec Ideal S256x128 .f32) (g : Vec Ideal S1x256 .f32) (w : Vec Ideal S256x768 .bf16) : k0_pay11 Z C S g w = scaled (rot32 (qcols 512 (by decide) (k0_pay9 Z g w)) C S) 0x3DD105EC#32 := by
  rw [← qcols_cut 512 (by decide) _ slices_S256x768_o0_512_S256x128]; rfl
theorem r1 (Q : FVec Ideal S256x768 .f32) (C S : FVec Ideal S256x128 .f32) : k0_pay12 C S Q = scaled (rot32 (qcols 640 (by decide) Q) C S) 0x3DD105EC#32 := by
  rw [← qcols_cut 640 (by decide) _ slices_S256x768_o0_640_S256x128]; rfl
theorem kr (Z : FVec Ideal S256x1664 .f32) (C S : FVec Ideal S256x128 .f32) : k0_pay16 C S (k0_pay14 Z) k0_pay15 = rot32 (cols 1536 (by decide) Z) C S := by
  rw [← cols_cut 1536 (by decide) _ slices_S256x1664_o0_1536_S256x128]; rfl
theorem d0 (Z : FVec Ideal S256x1664 .f32) (C S : FVec Ideal S256x128 .f32) : k0_pay19 Z C S = scaled (rot64 (cols 512 (by decide) Z) C S) 0x3E000000#32 := by
  rw [← cols_cut 512 (by decide) _ slices_S256x1664_o0_512_S256x128]; rfl
theorem d1 (Z : FVec Ideal S256x1664 .f32) (C S : FVec Ideal S256x128 .f32) : k0_pay22 (k0_pay20 Z C S) (k0_pay21 (F := Ideal)) = scaled (rot64 (cols 640 (by decide) Z) C S) 0x3E000000#32 := by
  rw [← cols_cut 640 (by decide) _ slices_S256x1664_o0_640_S256x128]; rfl
theorem d2 (Z : FVec Ideal S256x1664 .f32) (C S : FVec Ideal S256x128 .f32) : k0_pay23 Z C S = scaled (rot64 (cols 768 (by decide) Z) C S) 0x3E000000#32 := by
  rw [← cols_cut 768 (by decide) _ slices_S256x1664_o0_768_S256x128]; rfl
theorem d3 (Z : FVec Ideal S256x1664 .f32) (C S : FVec Ideal S256x128 .f32) : k0_pay24 Z C S = scaled (rot64 (cols 896 (by decide) Z) C S) 0x3E000000#32 := by
  rw [← cols_cut 896 (by decide) _ slices_S256x1664_o0_896_S256x128]; rfl
theorem e0 (Z : FVec Ideal S256x1664 .f32) (C S : FVec Ideal S256x128 .f32) : k0_pay1 C S (k0_pay25 Z) k0_pay26 32#32 = rot64 (cols 1024 (by decide) Z) C S := by
  rw [← cols_cut 1024 (by decide) _ slices_S256x1664_o0_1024_S256x128]; rfl
theorem e1 (Z : FVec Ideal S256x1664 .f32) (C S : FVec Ideal S256x128 .f32) : k0_pay2 Z C S = rot64 (cols 1152 (by decide) Z) C S := by
  rw [← cols_cut 1152 (by decide) _ slices_S256x1664_o0_1152_S256x128]; rfl

/-- The differential queries: four runs of 128 columns, each rotated and scaled. -/
theorem dq_canon (Z : FVec Ideal S256x1664 .f32) (C S : FVec Ideal S256x128 .f32) (r : Fin 256) (e : Fin 512) : (View.canon [⟨r0_15, k0_pay24 Z C S⟩, ⟨r0_14, k0_pay23 Z C S⟩, ⟨r0_13, k0_pay22 (k0_pay20 Z C S) (k0_pay21 (F := Ideal))⟩, ⟨r0_12, k0_pay19 Z C S⟩] : Vec Ideal S256x512 .bf16) (ix2 r e) = mix sw64 (fun l => Z (ix2 r ⟨512 + e.val / 128 * 128 + l, by omega⟩)) (fun l => C (ix2 r l)) (fun l => S (ix2 r l)) ⟨e.val % 128, Nat.mod_lt _ (by decide)⟩ * Ideal.ofBits .f32 0x3E000000#32 := by
  let G : S256x512.Idx → Elt Ideal .bf16 := fun y => mix sw64 (fun l => Z (ix2 (y 0) ⟨512 + (y 1).val / 128 * 128 + l, by have : (y 1).val < 512 := (y 1).isLt; omega⟩)) (fun l => C (ix2 (y 0) l)) (fun l => S (ix2 (y 0) l)) ⟨(y 1).val % 128, Nat.mod_lt _ (by decide)⟩ * Ideal.ofBits .f32 0x3E000000#32
  have step : ∀ (o : Nat) (h : o + 128 ≤ 512) (hd : o % 128 = 0) (r : Fin 256) (l : Fin 128) (y : S256x512.Idx), (y 0).val = r.val → (y 1).val = o + l.val →
      scaled (rot64 (cols (512 + o) (by omega) (Z)) C S) 0x3E000000#32 (ix2 r l) = G y := by
    intro o h hd r l y h0 h1
    rw [scaled_at, rot64_at]
    have e0 : r = y 0 := Fin.ext h0.symm
    have e1 : (y 1).val / 128 * 128 = o := by omega
    have e2 : l = ⟨(y 1).val % 128, Nat.mod_lt _ (by decide)⟩ := Fin.ext (by show l.val = (y 1).val % 128; omega)
    show _ = mix _ _ _ _ _ * _
    subst e0
    rw [← e2]
    simp only [e1]
    rfl
  refine View.canon_apply_of_pieces G _ ?_ (ix2 r e) (cover0_17 _ _ _ _ (ix2 r e))
  intro pc hpc
  rcases List.mem_cons.mp hpc with rfl | hpc
  · intro x
    obtain ⟨r, l, rfl⟩ : ∃ (r : Fin 256) (l : Fin 128), x = ix2 r l := pair (p := 256) (q := 128) x
    refine (congrFun (d3 Z C S) (ix2 r l)).trans (step 384 (by decide) (by decide) r l _ ?_ ?_)
    · show 0 + 1 * r.val = r.val; omega
    · show 384 + 1 * l.val = 384 + l.val; omega
  rcases List.mem_cons.mp hpc with rfl | hpc
  · intro x
    obtain ⟨r, l, rfl⟩ : ∃ (r : Fin 256) (l : Fin 128), x = ix2 r l := pair (p := 256) (q := 128) x
    refine (congrFun (d2 Z C S) (ix2 r l)).trans (step 256 (by decide) (by decide) r l _ ?_ ?_)
    · show 0 + 1 * r.val = r.val; omega
    · show 256 + 1 * l.val = 256 + l.val; omega
  rcases List.mem_cons.mp hpc with rfl | hpc
  · intro x
    obtain ⟨r, l, rfl⟩ : ∃ (r : Fin 256) (l : Fin 128), x = ix2 r l := pair (p := 256) (q := 128) x
    refine (congrFun (d1 Z C S) (ix2 r l)).trans (step 128 (by decide) (by decide) r l _ ?_ ?_)
    · show 0 + 1 * r.val = r.val; omega
    · show 128 + 1 * l.val = 128 + l.val; omega
  rcases List.mem_cons.mp hpc with rfl | hpc
  · intro x
    obtain ⟨r, l, rfl⟩ : ∃ (r : Fin 256) (l : Fin 128), x = ix2 r l := pair (p := 256) (q := 128) x
    refine (congrFun (d0 Z C S) (ix2 r l)).trans (step 0 (by decide) (by decide) r l _ ?_ ?_)
    · show 0 + 1 * r.val = r.val; omega
    · show 0 + 1 * l.val = 0 + l.val; omega
  nomatch hpc

/-- The differential keys: two runs of 128 columns, each rotated. -/
theorem dk_canon (Z : FVec Ideal S256x1664 .f32) (C S : FVec Ideal S256x128 .f32) (r : Fin 256) (e : Fin 256) : (View.canon [⟨r0_9, k0_pay2 Z C S⟩, ⟨r0_8, k0_pay1 C S (k0_pay25 Z) k0_pay26 32#32⟩] : Vec Ideal S256x256 .f32) (ix2 r e) = mix sw64 (fun l => Z (ix2 r ⟨1024 + e.val / 128 * 128 + l, by omega⟩)) (fun l => C (ix2 r l)) (fun l => S (ix2 r l)) ⟨e.val % 128, Nat.mod_lt _ (by decide)⟩ := by
  let G : S256x256.Idx → Elt Ideal .f32 := fun y => mix sw64 (fun l => Z (ix2 (y 0) ⟨1024 + (y 1).val / 128 * 128 + l, by have : (y 1).val < 256 := (y 1).isLt; omega⟩)) (fun l => C (ix2 (y 0) l)) (fun l => S (ix2 (y 0) l)) ⟨(y 1).val % 128, Nat.mod_lt _ (by decide)⟩
  have step : ∀ (o : Nat) (h : o + 128 ≤ 256) (hd : o % 128 = 0) (r : Fin 256) (l : Fin 128) (y : S256x256.Idx), (y 0).val = r.val → (y 1).val = o + l.val →
      rot64 (cols (1024 + o) (by omega) (Z)) C S (ix2 r l) = G y := by
    intro o h hd r l y h0 h1
    rw [rot64_at]
    have e0 : r = y 0 := Fin.ext h0.symm
    have e1 : (y 1).val / 128 * 128 = o := by omega
    have e2 : l = ⟨(y 1).val % 128, Nat.mod_lt _ (by decide)⟩ := Fin.ext (by show l.val = (y 1).val % 128; omega)
    show _ = mix _ _ _ _ _
    subst e0
    rw [← e2]
    simp only [e1]
    rfl
  refine View.canon_apply_of_pieces G _ ?_ (ix2 r e) (cover0_18 _ _ (ix2 r e))
  intro pc hpc
  rcases List.mem_cons.mp hpc with rfl | hpc
  · intro x
    obtain ⟨r, l, rfl⟩ : ∃ (r : Fin 256) (l : Fin 128), x = ix2 r l := pair (p := 256) (q := 128) x
    refine (congrFun (e1 Z C S) (ix2 r l)).trans (step 128 (by decide) (by decide) r l _ ?_ ?_)
    · show 0 + 1 * r.val = r.val; omega
    · show 128 + 1 * l.val = 128 + l.val; omega
  rcases List.mem_cons.mp hpc with rfl | hpc
  · intro x
    obtain ⟨r, l, rfl⟩ : ∃ (r : Fin 256) (l : Fin 128), x = ix2 r l := pair (p := 256) (q := 128) x
    refine (congrFun (e0 Z C S) (ix2 r l)).trans (step 0 (by decide) (by decide) r l _ ?_ ?_)
    · show 0 + 1 * r.val = r.val; omega
    · show 0 + 1 * l.val = 0 + l.val; omega
  nomatch hpc

/-- The rotated part of the latent attention's queries: two runs of 128 columns. -/
theorem qr_canon (Z : FVec Ideal S256x1664 .f32) (C S : FVec Ideal S256x128 .f32) (g : Vec Ideal S1x256 .f32) (w : Vec Ideal S256x768 .bf16) (r : Fin 256) (e : Fin 256) : (View.canon [⟨r0_9, k0_pay12 C S (k0_pay9 Z g w)⟩, ⟨r0_8, k0_pay11 Z C S g w⟩] : Vec Ideal S256x256 .bf16) (ix2 r e) = mix sw32 (fun l => k0_pay9 Z g w (ix2 r ⟨512 + e.val / 128 * 128 + l, by omega⟩)) (fun l => C (ix2 r l)) (fun l => S (ix2 r l)) ⟨e.val % 128, Nat.mod_lt _ (by decide)⟩ * Ideal.ofBits .f32 0x3DD105EC#32 := by
  let G : S256x256.Idx → Elt Ideal .bf16 := fun y => mix sw32 (fun l => k0_pay9 Z g w (ix2 (y 0) ⟨512 + (y 1).val / 128 * 128 + l, by have : (y 1).val < 256 := (y 1).isLt; omega⟩)) (fun l => C (ix2 (y 0) l)) (fun l => S (ix2 (y 0) l)) ⟨(y 1).val % 128, Nat.mod_lt _ (by decide)⟩ * Ideal.ofBits .f32 0x3DD105EC#32
  have step : ∀ (o : Nat) (h : o + 128 ≤ 256) (hd : o % 128 = 0) (r : Fin 256) (l : Fin 128) (y : S256x256.Idx), (y 0).val = r.val → (y 1).val = o + l.val →
      scaled (rot32 (qcols (512 + o) (by omega) (k0_pay9 Z g w)) C S) 0x3DD105EC#32 (ix2 r l) = G y := by
    intro o h hd r l y h0 h1
    rw [scaled_at, rot32_at]
    have e0 : r = y 0 := Fin.ext h0.symm
    have e1 : (y 1).val / 128 * 128 = o := by omega
    have e2 : l = ⟨(y 1).val % 128, Nat.mod_lt _ (by decide)⟩ := Fin.ext (by show l.val = (y 1).val % 128; omega)
    show _ = mix _ _ _ _ _ * _
    subst e0
    rw [← e2]
    simp only [e1]
    rfl
  refine View.canon_apply_of_pieces G _ ?_ (ix2 r e) (cover0_13 _ _ (ix2 r e))
  intro pc hpc
  rcases List.mem_cons.mp hpc with rfl | hpc
  · intro x
    obtain ⟨r, l, rfl⟩ : ∃ (r : Fin 256) (l : Fin 128), x = ix2 r l := pair (p := 256) (q := 128) x
    refine (congrFun (r1 (k0_pay9 Z g w) C S) (ix2 r l)).trans (step 128 (by decide) (by decide) r l _ ?_ ?_)
    · show 0 + 1 * r.val = r.val; omega
    · show 128 + 1 * l.val = 128 + l.val; omega
  rcases List.mem_cons.mp hpc with rfl | hpc
  · intro x
    obtain ⟨r, l, rfl⟩ : ∃ (r : Fin 256) (l : Fin 128), x = ix2 r l := pair (p := 256) (q := 128) x
    refine (congrFun (r0 Z C S g w) (ix2 r l)).trans (step 0 (by decide) (by decide) r l _ ?_ ?_)
    · show 0 + 1 * r.val = r.val; omega
    · show 0 + 1 * l.val = 0 + l.val; omega
  nomatch hpc

variable (x0 : Vec Ideal S256x1024 .f32) (x1 x2 : Vec Ideal S1x1x1024 .f32) (x3 : Vec Ideal S1x1024 .f32) (x4 : Vec Ideal S1024x1664 .bf16) (x5 : Vec Ideal S1x256 .f32) (x6 : Vec Ideal S256x768 .bf16) (x7 : Vec Ideal S1x256 .f32) (x8 x9 x10 x11 : Vec Ideal S256x128 .f32)

/-- A row of the tile's product. -/
abbrev prow (r : Fin 256) (e : Fin 1664) : EReal := row (fun k => x0 (ix2 r k)) (fun k => x3 (ix2 0 k)) (fun k => x2 (ix3 0 0 k)) (fun k => x1 (ix3 0 0 k)) (fun k e => x4 (ix2 k e)) e

/-- A row of the up-projected query latent. -/
abbrev qrow (r : Fin 256) (e : Fin 768) : EReal := up (fun k => prow x0 x1 x2 x3 x4 r ⟨k, by omega⟩) (fun k => x5 (ix2 0 k)) (fun k e => x6 (ix2 k e)) e

theorem prod_at (r : Fin 256) (e : Fin 1664) : k0_pay27 x0 x1 x2 x3 x4 x5 x6 x7 x8 x9 x10 x11 (ix2 r e) = prow x0 x1 x2 x3 x4 r e := by
  unfold k0_pay27
  simp only [View.ld_unit_zero (S := S256x1024) hz, View.ld_unit_zero (S := S1024x1664) hz, View.ld_unit_zero (S := S1x1024) hz, View.ld_unit_zero (S := S1x1x1024) hz3]
  exact pay4_at x0 x3 x2 x1 x4 r e

theorem qprod_at (r : Fin 256) (e : Fin 768) : k0_pay9 (k0_pay27 x0 x1 x2 x3 x4 x5 x6 x7 x8 x9 x10 x11) x5 x6 (ix2 r e) = qrow x0 x1 x2 x3 x4 x5 x6 r e := by
  rw [pay9_at]
  simp only [prod_at]

theorem cos32_eq (r : Fin 256) (l : Fin 128) : k0_pay28 x0 x1 x2 x3 x4 x5 x6 x7 x8 x9 x10 x11 (ix2 r l) = x8 (ix2 r l) := by
  unfold k0_pay28 k0_pay5
  rw [View.ld_unit_zero (S := S256x128) hz]
  pointwise

theorem sin32_eq (r : Fin 256) (l : Fin 128) : k0_pay29 x0 x1 x2 x3 x4 x5 x6 x7 x8 x9 x10 x11 (ix2 r l) = x9 (ix2 r l) := by
  unfold k0_pay29 k0_pay6
  rw [View.ld_unit_zero (S := S256x128) hz]
  pointwise

theorem cos64_eq (r : Fin 256) (l : Fin 128) : k0_pay30 x0 x1 x2 x3 x4 x5 x6 x7 x8 x9 x10 x11 (ix2 r l) = x10 (ix2 r l) := by
  unfold k0_pay30 k0_pay7
  rw [View.ld_unit_zero (S := S256x128) hz]
  pointwise

theorem sin64_eq (r : Fin 256) (l : Fin 128) : k0_pay31 x0 x1 x2 x3 x4 x5 x6 x7 x8 x9 x10 x11 (ix2 r l) = x11 (ix2 r l) := by
  unfold k0_pay31 k0_pay8
  rw [View.ld_unit_zero (S := S256x128) hz]
  pointwise

/-- The unrotated part of the queries. -/
theorem qn_at (r : Fin 256) (e : Fin 512) : out0_12 x0 x1 x2 x3 x4 x5 x6 x7 x8 x9 x10 x11 (ix2 r e) = qrow x0 x1 x2 x3 x4 x5 x6 r ⟨e, by omega⟩ * Ideal.ofBits .f32 0x3DD105EC#32 := by
  unfold out0_12
  rw [View.canon_unit_zero (S := S256x512) hz, View.ld_unit_zero (S := S1x256) hz, View.ld_unit_zero (S := S256x768) hz, ← qprod_at x0 x1 x2 x3 x4 x5 x6 x7 x8 x9 x10 x11]
  unfold k0_pay10
  generalize k0_pay9 (F := Ideal) _ _ _ = Q
  pointwise

/-- The rotated part of the queries. -/
theorem qr_at (r : Fin 256) (e : Fin 256) : out0_13 x0 x1 x2 x3 x4 x5 x6 x7 x8 x9 x10 x11 (ix2 r e)
    = mix sw32 (fun l => qrow x0 x1 x2 x3 x4 x5 x6 r ⟨512 + e.val / 128 * 128 + l, by omega⟩) (fun l => x8 (ix2 r l)) (fun l => x9 (ix2 r l)) ⟨e.val % 128, Nat.mod_lt _ (by decide)⟩ * Ideal.ofBits .f32 0x3DD105EC#32 := by
  unfold out0_13
  rw [View.ld_unit_zero (S := S1x256) hz, View.ld_unit_zero (S := S256x768) hz, qr_canon]
  simp only [qprod_at, cos32_eq, sin32_eq]

/-- The latent. -/
theorem lat_at (r : Fin 256) (e : Fin 256) : out0_14 x0 x1 x2 x3 x4 x5 x6 x7 x8 x9 x10 x11 (ix2 r e) = norm (fun k => prow x0 x1 x2 x3 x4 r ⟨256 + k, by omega⟩) (fun k => x7 (ix2 0 k)) e := by
  unfold out0_14
  rw [View.canon_unit_zero (S := S256x256) hz, View.ld_unit_zero (S := S1x256) hz, pay13_at]
  simp only [prod_at]

/-- The latent attention's rotated key. -/
theorem kr_at (r : Fin 256) (e : Fin 32) : out0_15 x0 x1 x2 x3 x4 x5 x6 x7 x8 x9 x10 x11 (ix2 r e)
    = mix sw32 (fun l => prow x0 x1 x2 x3 x4 r ⟨1536 + l, by omega⟩) (fun l => x8 (ix2 r l)) (fun l => x9 (ix2 r l)) ⟨e, by omega⟩ := by
  unfold out0_15
  rw [View.canon_unit_zero (S := S256x32) hz]
  unfold k0_pay17 k0_pay32 k0_pay33
  rw [kr]
  have h := rot32_at (cols 1536 (by decide) (k0_pay27 (F := Ideal) x0 x1 x2 x3 x4 x5 x6 x7 x8 x9 x10 x11)) (k0_pay28 x0 x1 x2 x3 x4 x5 x6 x7 x8 x9 x10 x11) (k0_pay29 x0 x1 x2 x3 x4 x5 x6 x7 x8 x9 x10 x11) r ⟨e, by omega⟩
  simp only [cos32_eq, sin32_eq] at h
  have hc : ∀ l : Fin 128, cols 1536 (by decide) (k0_pay27 x0 x1 x2 x3 x4 x5 x6 x7 x8 x9 x10 x11) (ix2 r l) = prow x0 x1 x2 x3 x4 r ⟨1536 + l, by omega⟩ := fun l => prod_at x0 x1 x2 x3 x4 x5 x6 x7 x8 x9 x10 x11 r _
  simp only [hc] at h
  rw [← h]
  generalize rot32 _ _ _ = R
  pointwise

/-- The differential queries. -/
theorem dq_at (r : Fin 256) (e : Fin 512) : out0_17 x0 x1 x2 x3 x4 x5 x6 x7 x8 x9 x10 x11 (ix2 r e)
    = mix sw64 (fun l => prow x0 x1 x2 x3 x4 r ⟨512 + e.val / 128 * 128 + l, by omega⟩) (fun l => x10 (ix2 r l)) (fun l => x11 (ix2 r l)) ⟨e.val % 128, Nat.mod_lt _ (by decide)⟩ * Ideal.ofBits .f32 0x3E000000#32 := by
  unfold out0_17
  rw [dq_canon]
  simp only [prod_at, cos64_eq, sin64_eq]

/-- The differential keys. -/
theorem dk_at (r : Fin 256) (e : Fin 256) : out0_18 x0 x1 x2 x3 x4 x5 x6 x7 x8 x9 x10 x11 (ix2 r e)
    = mix sw64 (fun l => prow x0 x1 x2 x3 x4 r ⟨1024 + e.val / 128 * 128 + l, by omega⟩) (fun l => x10 (ix2 r l)) (fun l => x11 (ix2 r l)) ⟨e.val % 128, Nat.mod_lt _ (by decide)⟩ := by
  unfold out0_18
  rw [dk_canon]
  simp only [prod_at, cos64_eq, sin64_eq]

/-- The differential values. -/
theorem dv_at (r : Fin 256) (e : Fin 256) : out0_19 x0 x1 x2 x3 x4 x5 x6 x7 x8 x9 x10 x11 (ix2 r e) = prow x0 x1 x2 x3 x4 r ⟨1280 + e, by omega⟩ := by
  unfold out0_19
  rw [View.canon_unit_zero (S := S256x256) hz, ← prod_at x0 x1 x2 x3 x4 x5 x6 x7 x8 x9 x10 x11]
  generalize k0_pay27 x0 x1 x2 x3 x4 x5 x6 x7 x8 x9 x10 x11 = Z
  pointwise [k0_pay3]

end Cert.ProjFirstIdeal.Tile
-- ==== Proof.ProjFirstOperands.lean ====
module
public import proofs.«01_k».proof.Proof.ProjFirstTile
public import proofs.«01_k».proof.Proof.Gen.ProjFirstIdeal.Value
public import Idealize.ShloMosaic.Lib.Pointwise
public import Idealize.ShloMosaic.Lib.Claim
public import Idealize.ShloMosaic.Lib.StableHlo.ReadAt
public import Idealize.ShloMosaic.Lib.StableHlo.RunRead
public import Idealize.ShloMosaic.Lib.Pipeline.ValueKit

@[expose] public section

set_option maxRecDepth 16384
set_option maxHeartbeats 2000000

noncomputable section

open Idealize.ShloMosaic Idealize.ShloMosaic.TcCoe Idealize.SL.Sem

namespace Cert.ProjFirstIdeal.Operands

open Cert.ProjFirstIdeal Cert.ProjFirstIdeal.Gen

/-- Which block of its array each input holds at point `t`. -/
theorem idx : ∀ t : Fin cfg0.N, win0_0.index t = ![t.val, 0] ∧ win0_1.index t = ![t.val / 8, 0, 0] ∧ win0_2.index t = ![t.val / 8, 0, 1]
    ∧ win0_3.index t = ![0, 0] ∧ win0_4.index t = ![0, 0] ∧ win0_5.index t = ![0, 0] ∧ win0_6.index t = ![0, 0] ∧ win0_7.index t = ![0, 0]
    ∧ win0_8.index t = ![t.val % 8, 0] ∧ win0_9.index t = ![t.val % 8, 0] ∧ win0_10.index t = ![t.val % 8, 0] ∧ win0_11.index t = ![t.val % 8, 0] ∧ t.val / 8 < 8 :=
  (by decide +kernel : ∀ t : Fin grid0.N, _)

/-- Which block of its array each result fills at point `t`. -/
theorem oidx : ∀ t : Fin cfg0.N, win0_12.index t = ![t.val, 0] ∧ win0_13.index t = ![t.val, 0] ∧ win0_14.index t = ![t.val, 0] ∧ win0_15.index t = ![t.val, 0] ∧ win0_17.index t = ![t.val, 0] ∧ win0_18.index t = ![t.val, 0] ∧ win0_19.index t = ![t.val, 0] :=
  (by decide +kernel : ∀ t : Fin grid0.N, _)

/-- Every result is written back at every point. -/
theorem flushes : ∀ t : Fin cfg0.N, win0_12.flush t = true ∧ win0_13.flush t = true ∧ win0_14.flush t = true ∧ win0_15.flush t = true ∧ win0_17.flush t = true ∧ win0_18.flush t = true ∧ win0_19.flush t = true :=
  (by decide +kernel : ∀ t : Fin grid0.N, _)

theorem lt (t : Fin cfg0.N) : t.val / 8 < 8 := (idx t).2.2.2.2.2.2.2.2.2.2.2.2

variable (m : (ℓ : Loc nD τ sig) → Buf (Elt Ideal) ℓ) (c : Dev nD)

/-- The stream. -/
abbrev a0 : Vec Ideal S8x2048x1024 .f32 := m ((c : Thread nD τ).loc main_arg0)
/-- The six modulations. -/
abbrev a1 : Vec Ideal S8x6144 .f32 := m ((c : Thread nD τ).loc main_arg1)
/-- The norm's gain. -/
abbrev a2 : Vec Ideal S1024 .f32 := m ((c : Thread nD τ).loc main_arg2)
/-- The projection. -/
abbrev a3 : Vec Ideal S1024x1568 .f32 := m ((c : Thread nD τ).loc main_arg3)
/-- The gain of the query latent's norm. -/
abbrev a4 : Vec Ideal S256 .f32 := m ((c : Thread nD τ).loc main_arg4)
/-- The up-projection of the queries. -/
abbrev a5 : Vec Ideal S256x768 .f32 := m ((c : Thread nD τ).loc main_arg5)
/-- The gain of the latent's norm. -/
abbrev a6 : Vec Ideal S256 .f32 := m ((c : Thread nD τ).loc main_arg6)

theorem arr0 (n : Fin 16384) (e : Fin 1024) : (V m c main_v1 : Vec Ideal S16384x1024 .f32) (ix2 n e) = a0 m c (ix3 ⟨n / 2048, by omega⟩ ⟨n % 2048, by omega⟩ e) := by
  have hn := n.isLt
  have he := e.isLt
  unfold V
  after_reads_simp
  pointwise

theorem arr1 (b : Fin 8) (e : Fin 6144) : (V m c main_v2 : Vec Ideal S8x1x6144 .f32) (ix3 b 0 e) = a1 m c (ix2 b e) := by
  have hn := b.isLt
  have he := e.isLt
  unfold V
  after_reads_simp
  pointwise

theorem arr3 (e : Fin 1024) : (V m c main_v68 : Vec Ideal S1x1024 .f32) (ix2 0 e) = a2 m c (ix1 e) := by
  have he := e.isLt
  unfold V
  after_reads_simp
  pointwise

theorem arr5 (e : Fin 256) : (V m c main_v69 : Vec Ideal S1x256 .f32) (ix2 0 e) = a4 m c (ix1 e) := by
  have he := e.isLt
  unfold V
  after_reads_simp
  pointwise

theorem arr7 (e : Fin 256) : (V m c main_v70 : Vec Ideal S1x256 .f32) (ix2 0 e) = a6 m c (ix1 e) := by
  have he := e.isLt
  unfold V
  after_reads_simp
  pointwise

/-- The cosines' table, heads of 32. -/
theorem arr8 (s : Fin 2048) (l : Fin 128) : (V m c main_v36 : Vec Ideal S2048x128 .f32) (ix2 s l) = Ideal.cos (RopeFirst.ang s (l % 32 % 16)) := by
  have hs := s.isLt
  have hl := l.isLt
  unfold V
  after_reads_simp
  pointwise
  split
  · after_reads_simp
    pointwise
    rw [show l.val % 32 % 16 = l.val % 32 by omega]
    rfl
  · after_reads_simp
    pointwise
    rw [show l.val % 32 % 16 = l.val % 32 - 16 by omega]
    rfl

/-- The sines' table, heads of 32: the first half of each head is negated. -/
theorem arr9 (s : Fin 2048) (l : Fin 128) : (V m c main_v41 : Vec Ideal S2048x128 .f32) (ix2 s l) = if l.val % 32 < 16 then -Ideal.sin (RopeFirst.ang s (l % 32 % 16)) else Ideal.sin (RopeFirst.ang s (l % 32 % 16)) := by
  have hs := s.isLt
  have hl := l.isLt
  unfold V
  after_reads_simp
  pointwise
  split
  · after_reads_simp
    pointwise
    rw [show l.val % 32 % 16 = l.val % 32 by omega]
    rfl
  · after_reads_simp
    pointwise
    rw [show l.val % 32 % 16 = l.val % 32 - 16 by omega]
    rfl

/-- The cosines' table. -/
theorem arr10 (s : Fin 2048) (l : Fin 128) : (V m c main_v62 : Vec Ideal S2048x128 .f32) (ix2 s l) = Ideal.cos (Rope.ang s (l % 64 % 32)) := by
  have hs := s.isLt
  have hl := l.isLt
  unfold V
  after_reads_simp
  pointwise
  split
  · after_reads_simp
    pointwise
    rw [show l.val % 64 % 32 = l.val % 64 by omega]
    rfl
  · after_reads_simp
    pointwise
    rw [show l.val % 64 % 32 = l.val % 64 - 32 by omega]
    rfl

/-- The sines' table: the first half of each head is negated. -/
theorem arr11 (s : Fin 2048) (l : Fin 128) : (V m c main_v67 : Vec Ideal S2048x128 .f32) (ix2 s l) = if l.val % 64 < 32 then -Ideal.sin (Rope.ang s (l % 64 % 32)) else Ideal.sin (Rope.ang s (l % 64 % 32)) := by
  have hs := s.isLt
  have hl := l.isLt
  unfold V
  after_reads_simp
  pointwise
  split
  · after_reads_simp
    pointwise
    rw [show l.val % 64 % 32 = l.val % 64 by omega]
    rfl
  · after_reads_simp
    pointwise
    rw [show l.val % 64 % 32 = l.val % 64 - 32 by omega]
    rfl

/-- The weights that stay in place: the query latent and the latent. -/
theorem arr4_lo (k : Fin 1024) (e : Fin 1664) (he : e.val < 512) : (V m c main_v8 : Vec Ideal S1024x1664 .bf16) (ix2 k e) = a3 m c (ix2 k ⟨e, by omega⟩) := by
  unfold V
  after_reads_simp
  pointwise
  split
  · after_reads_simp
    pointwise
  · rw [dif_pos (show e.val - 256 < 256 by omega)]
    after_reads_simp
    pointwise
    refine congrArg (fun z => a3 m c (ix2 k z)) (Fin.ext ?_)
    show 256 + (e.val - 256) = e.val
    omega

/-- The weights of the differential queries, keys and values. -/
theorem arr4_mid (k : Fin 1024) (e : Fin 1664) (h0 : 512 ≤ e.val) (h1 : e.val < 1536) : (V m c main_v8 : Vec Ideal S1024x1664 .bf16) (ix2 k e) = a3 m c (ix2 k ⟨e + 32, by omega⟩) := by
  unfold V
  after_reads_simp
  pointwise
  rw [dif_neg (show ¬ e.val < 256 by omega), dif_neg (show ¬ e.val - 256 < 256 by omega), dif_pos (show e.val - 256 - 256 < 1024 by omega)]
  after_reads_simp
  pointwise
  refine congrArg (fun z => a3 m c (ix2 k z)) (Fin.ext ?_)
  show 544 + (e.val - 256 - 256) = e.val + 32
  omega

/-- The weights of the rotated key (its further copies make heads nobody reads here). -/
theorem arr4_kr (k : Fin 1024) (e : Fin 1664) (h0 : 1536 ≤ e.val) (h1 : e.val < 1568) : (V m c main_v8 : Vec Ideal S1024x1664 .bf16) (ix2 k e) = a3 m c (ix2 k ⟨e - 1024, by omega⟩) := by
  unfold V
  after_reads_simp
  pointwise
  rw [dif_neg (show ¬ e.val < 256 by omega), dif_neg (show ¬ e.val - 256 < 256 by omega), dif_neg (show ¬ e.val - 256 - 256 < 1024 by omega), dif_pos (show e.val - 256 - 256 - 1024 < 32 by omega)]
  after_reads_simp
  pointwise
  refine congrArg (fun z => a3 m c (ix2 k z)) (Fin.ext ?_)
  show 512 + (e.val - 256 - 256 - 1024) = e.val - 1024
  omega

/-- The up-projection's columns of the unrotated parts. -/
theorem arr6_n (k : Fin 256) (e : Fin 768) (he : e.val < 512) : (V m c main_v15 : Vec Ideal S256x768 .bf16) (ix2 k e) = a5 m c (ix2 k ⟨e / 64 * 96 + e % 64, by omega⟩) := by
  unfold V
  after_reads_simp
  pointwise
  rw [dif_pos he]
  after_reads_simp
  pointwise

/-- The up-projection's columns of the rotated parts. -/
theorem arr6_r (k : Fin 256) (e : Fin 768) (he : 512 ≤ e.val) : (V m c main_v15 : Vec Ideal S256x768 .bf16) (ix2 k e) = a5 m c (ix2 k ⟨(e - 512) / 32 * 96 + 64 + e % 32, by omega⟩) := by
  have h1 := e.isLt
  unfold V
  after_reads_simp
  pointwise
  rw [dif_neg (show ¬ e.val < 512 by omega)]
  after_reads_simp
  pointwise
  refine congrArg (fun z => a5 m c (ix2 k z)) (Fin.ext ?_)
  show (e.val - 512) / 32 * 96 + (64 + (e.val - 512) % 32) = (e.val - 512) / 32 * 96 + 64 + e.val % 32
  omega

/-! The blocks of point `t`: tokens `256 t …`, batch `t / 8`. -/

/-- The token a row of a point's tile stands for. -/
abbrev tok (t : Fin cfg0.N) (r : Fin 256) : Fin 2048 := ⟨256 * (t % 8) + r, by omega⟩

/-- The batch of a point. -/
abbrev bat (t : Fin cfg0.N) : Fin 8 := ⟨t / 8, lt t⟩

theorem blk0 (t : Fin cfg0.N) (r : Fin 256) (e : Fin 1024) :
    (iblk m c 0 t : Vec Ideal S256x1024 .f32) (ix2 r e) = a0 m c (ix3 (bat t) (tok t r) e) := by
  have hr := r.isLt
  have ht := lt t
  have e1 : (⟨(256 * t.val + r.val) / 2048, by omega⟩ : Fin 8) = bat t := Fin.ext (by show (256 * t.val + r.val) / 2048 = t.val / 8; omega)
  have e2 : (⟨(256 * t.val + r.val) % 2048, by omega⟩ : Fin 2048) = tok t r := Fin.ext (by show (256 * t.val + r.val) % 2048 = 256 * (t.val % 8) + r.val; omega)
  rw [← e1, ← e2, ← arr0 m c ⟨256 * t + r, by omega⟩ e]
  blk_ext [iblk, idx t]

theorem blk1 (t : Fin cfg0.N) (e : Fin 1024) :
    (iblk m c 1 t : Vec Ideal S1x1x1024 .f32) (ix3 0 0 e) = a1 m c (ix2 (bat t) ⟨e, by omega⟩) := by
  rw [← arr1]
  blk_ext [iblk, idx t]

theorem blk2 (t : Fin cfg0.N) (e : Fin 1024) :
    (iblk m c 2 t : Vec Ideal S1x1x1024 .f32) (ix3 0 0 e) = a1 m c (ix2 (bat t) ⟨1024 + e, by omega⟩) := by
  rw [← arr1]
  blk_ext [iblk, idx t]

theorem blk3 (t : Fin cfg0.N) (e : Fin 1024) :
    (iblk m c 3 t : Vec Ideal S1x1024 .f32) (ix2 0 e) = a2 m c (ix1 e) := by
  rw [← arr3]
  blk_ext [iblk, idx t]

theorem blk4 (t : Fin cfg0.N) (k : Fin 1024) (e : Fin 1664) :
    (iblk m c 4 t : Vec Ideal S1024x1664 .bf16) (ix2 k e) = (V m c main_v8 : Vec Ideal S1024x1664 .bf16) (ix2 k e) := by
  blk_ext [iblk, idx t]

theorem blk5 (t : Fin cfg0.N) (e : Fin 256) :
    (iblk m c 5 t : Vec Ideal S1x256 .f32) (ix2 0 e) = a4 m c (ix1 e) := by
  rw [← arr5 m c]
  blk_ext [iblk, idx t]

theorem blk6 (t : Fin cfg0.N) (k : Fin 256) (e : Fin 768) :
    (iblk m c 6 t : Vec Ideal S256x768 .bf16) (ix2 k e) = (V m c main_v15 : Vec Ideal S256x768 .bf16) (ix2 k e) := by
  blk_ext [iblk, idx t]

theorem blk7 (t : Fin cfg0.N) (e : Fin 256) :
    (iblk m c 7 t : Vec Ideal S1x256 .f32) (ix2 0 e) = a6 m c (ix1 e) := by
  rw [← arr7 m c]
  blk_ext [iblk, idx t]

theorem blk8 (t : Fin cfg0.N) (r : Fin 256) (l : Fin 128) :
    (iblk m c 8 t : Vec Ideal S256x128 .f32) (ix2 r l) = Ideal.cos (RopeFirst.ang (tok t r) (l % 32 % 16)) := by
  rw [← arr8 m c]
  blk_ext [iblk, idx t]

theorem blk9 (t : Fin cfg0.N) (r : Fin 256) (l : Fin 128) :
    (iblk m c 9 t : Vec Ideal S256x128 .f32) (ix2 r l) = if l.val % 32 < 16 then -Ideal.sin (RopeFirst.ang (tok t r) (l % 32 % 16)) else Ideal.sin (RopeFirst.ang (tok t r) (l % 32 % 16)) := by
  rw [← arr9 m c]
  blk_ext [iblk, idx t]

theorem blk10 (t : Fin cfg0.N) (r : Fin 256) (l : Fin 128) :
    (iblk m c 10 t : Vec Ideal S256x128 .f32) (ix2 r l) = Ideal.cos (Rope.ang (tok t r) (l % 64 % 32)) := by
  rw [← arr10 m c]
  blk_ext [iblk, idx t]

theorem blk11 (t : Fin cfg0.N) (r : Fin 256) (l : Fin 128) :
    (iblk m c 11 t : Vec Ideal S256x128 .f32) (ix2 r l) = if l.val % 64 < 32 then -Ideal.sin (Rope.ang (tok t r) (l % 64 % 32)) else Ideal.sin (Rope.ang (tok t r) (l % 64 % 32)) := by
  rw [← arr11 m c]
  blk_ext [iblk, idx t]

end Cert.ProjFirstIdeal.Operands
-- ==== Proof.ProjFirstValue.lean ====
module
public import proofs.«01_k».proof.Proof.ProjFirstOperands

@[expose] public section

set_option maxRecDepth 16384
set_option maxHeartbeats 2000000

noncomputable section

open Idealize.ShloMosaic Idealize.ShloMosaic.TcCoe Idealize.SL.Sem

/-! The results of layer 0's input projection, index by index. -/

namespace Cert.ProjFirstIdeal.Operands

open Cert.ProjFirstIdeal Cert.ProjFirstIdeal.Gen

/-- A token's projection, from the whole arrays. -/
def z (x0 : Vec Ideal S8x2048x1024 .f32) (x1 : Vec Ideal S8x6144 .f32) (x2 : Vec Ideal S1024 .f32) (x3 : Vec Ideal S1024x1568 .f32) (b : Fin 8) (s : Fin 2048) (e : Fin 1568) : EReal :=
  RopeFirst.proj (fun k => x0 (ix3 b s k)) (fun k => x2 (ix1 k)) (fun k => x1 (ix2 b ⟨1024 + k, by omega⟩)) (fun k => x1 (ix2 b ⟨k, by omega⟩)) (fun k e => x3 (ix2 k e)) e

/-- A token's queries, from its projection. -/
def q (zt : Fin 1568 → EReal) (x4 : Vec Ideal S256 .f32) (x5 : Vec Ideal S256x768 .f32) (e : Fin 768) : EReal :=
  RopeFirst.up (fun k => zt ⟨k, by omega⟩) (fun k => x4 (ix1 k)) (fun k e => x5 (ix2 k e)) e

variable (m : (ℓ : Loc nD τ sig) → Buf (Elt Ideal) ℓ) (c : Dev nD)

/-- A row of a point's product. -/
abbrev pr (t : Fin cfg0.N) (r : Fin 256) (e : Fin 1664) : EReal := Tile.prow (iblk m c 0 t) (iblk m c 1 t) (iblk m c 2 t) (iblk m c 3 t) (iblk m c 4 t) r e

/-- A row of a point's queries. -/
abbrev qr (t : Fin cfg0.N) (r : Fin 256) (e : Fin 768) : EReal := Tile.qrow (iblk m c 0 t) (iblk m c 1 t) (iblk m c 2 t) (iblk m c 3 t) (iblk m c 4 t) (iblk m c 5 t) (iblk m c 6 t) r e

/-- The projection of the token a row stands for. -/
abbrev zz (b : Fin 8) (s : Fin 2048) (e : Fin 1568) : EReal := z (a0 m c) (a1 m c) (a2 m c) (a3 m c) b s e

/-- The queries of the token a row stands for. -/
abbrev qq (b : Fin 8) (s : Fin 2048) (e : Fin 768) : EReal := q (zz m c b s) (a4 m c) (a5 m c) e

/-- A column of the product whose weights are a column of the projection. -/
theorem pr_col (t : Fin cfg0.N) (r : Fin 256) (e : Fin 1664) (f : Fin 1568) (h : ∀ k : Fin 1024, (V m c main_v8 : Vec Ideal S1024x1664 .bf16) (ix2 k e) = a3 m c (ix2 k f)) :
    pr m c t r e = zz m c (bat t) (tok t r) f := by
  unfold pr Tile.prow Tile.row zz z RopeFirst.proj
  refine Finset.sum_congr rfl fun k _ => congrArg₂ _ ?_ ((blk4 m c t k e).trans (h k))
  simp only [blk0, blk1, blk2, blk3]

/-- A column of the queries whose weights are a column of the up-projection. -/
theorem qr_col (t : Fin cfg0.N) (r : Fin 256) (e : Fin 768) (f : Fin 768) (h : ∀ k : Fin 256, (V m c main_v15 : Vec Ideal S256x768 .bf16) (ix2 k e) = a5 m c (ix2 k f)) :
    qr m c t r e = qq m c (bat t) (tok t r) f := by
  have hz : ∀ k : Fin 256, pr m c t r ⟨k, by omega⟩ = zz m c (bat t) (tok t r) ⟨k, by omega⟩ := fun k => pr_col m c t r _ _ fun j => arr4_lo m c j _ (by show k.val < 512; omega)
  unfold pr at hz
  unfold qr Tile.qrow qq q RopeFirst.up
  refine Finset.sum_congr rfl fun k _ => congrArg₂ _ ?_ ((blk6 m c t k e).trans (h k))
  simp only [hz, blk5]

/-- The point and the row a token belongs to. -/
theorem place (n : Fin 16384) : ∃ (t : Fin cfg0.N) (r : Fin 256) (h : 256 * t.val + r.val < 16384), n = ⟨256 * t + r, h⟩ ∧ bat t = ⟨n / 2048, by omega⟩ ∧ tok t r = ⟨n % 2048, by omega⟩ := by
  have hn := n.isLt
  have hN : cfg0.N = 64 := N_0
  refine ⟨⟨n / 256, by omega⟩, ⟨n % 256, by omega⟩, by show 256 * (n.val / 256) + n.val % 256 < 16384; omega, Fin.ext (by show n.val = 256 * (n.val / 256) + n.val % 256; omega), Fin.ext (by show n.val / 256 / 8 = n.val / 2048; omega), Fin.ext (by show 256 * (n.val / 256 % 8) + n.val % 256 = n.val % 2048; omega)⟩

/-- The unrotated part of the queries. -/
theorem out12 (n : Fin 16384) (e : Fin 512) : ((dats m 0 c).arrAt 12 cfg0.N : Vec Ideal S16384x512 .bf16) (ix2 n e)
    = qq m c ⟨n / 2048, by omega⟩ ⟨n % 2048, by omega⟩ ⟨e / 64 * 96 + e % 64, by omega⟩ * Ideal.ofBits .f32 0x3DD105EC#32 := by
  have he := e.isLt
  obtain ⟨t, r, h, en, eb, es⟩ := place n
  have hb := congrFun ((Value.blocks12 m c t (flushes t).1).trans (Value.flushed12 m c t)) (ix2 r e)
  have hx : ((dats m 0 c).arrAt 12 cfg0.N : Vec Ideal S16384x512 .bf16) (ix2 n e) = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e) := by
    refine Eq.trans ?_ hb
    rw [en]
    generalize (dats m 0 c).arrAt 12 cfg0.N = A
    blk_ext [oidx t]
  refine hx.trans ?_
  rw [← eb, ← es]
  exact (Tile.qn_at _ _ _ _ _ _ _ _ _ _ _ _ r e).trans (congrArg (fun y => y * _) (qr_col m c t r _ _ fun k => arr6_n m c k _ he))

/-- The rotated part of the queries. -/
theorem out13 (n : Fin 16384) (e : Fin 256) : ((dats m 0 c).arrAt 13 cfg0.N : Vec Ideal S16384x256 .bf16) (ix2 n e)
    = RopeFirst.rope (fun d => qq m c ⟨n / 2048, by omega⟩ ⟨n % 2048, by omega⟩ ⟨e / 32 * 96 + 64 + d, by omega⟩) (n % 2048) ⟨e % 32, by omega⟩ * Ideal.ofBits .f32 0x3DD105EC#32 := by
  have he := e.isLt
  obtain ⟨t, r, h, en, eb, es⟩ := place n
  have hb := congrFun ((Value.blocks13 m c t (flushes t).2.1).trans (Value.flushed13 m c t)) (ix2 r e)
  have hx : ((dats m 0 c).arrAt 13 cfg0.N : Vec Ideal S16384x256 .bf16) (ix2 n e) = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e) := by
    refine Eq.trans ?_ hb
    rw [en]
    generalize (dats m 0 c).arrAt 13 cfg0.N = A
    blk_ext [oidx t]
  refine hx.trans ?_
  rw [← eb, ← es]
  refine (Tile.qr_at _ _ _ _ _ _ _ _ _ _ _ _ r e).trans ?_
  refine congrArg (fun y => y * _) ((RopeFirst.mix32 _ _ _ (tok t r) (fun l => blk8 m c t r l) (fun l => blk9 m c t r l) _).trans ?_)
  refine RopeFirst.rope_congr (fun d => ?_) (congrArg Fin.val es) (by show e.val % 128 % 32 = e.val % 32; omega)
  have hd := d.isLt
  exact qr_col m c t r _ _ fun k => (arr6_r m c k _ (by show 512 ≤ 512 + e.val / 128 * 128 + (e.val % 128 / 32 * 32 + d.val); omega)).trans
    (congrArg (fun y => a5 m c (ix2 k y)) (Fin.ext (by show (512 + e.val / 128 * 128 + (e.val % 128 / 32 * 32 + d.val) - 512) / 32 * 96 + 64 + (512 + e.val / 128 * 128 + (e.val % 128 / 32 * 32 + d.val)) % 32 = e.val / 32 * 96 + 64 + d.val; omega)))

/-- The latent. -/
theorem out14 (n : Fin 16384) (e : Fin 256) : ((dats m 0 c).arrAt 14 cfg0.N : Vec Ideal S16384x256 .f32) (ix2 n e)
    = RopeFirst.norm (fun k => zz m c ⟨n / 2048, by omega⟩ ⟨n % 2048, by omega⟩ ⟨256 + k, by omega⟩) (fun k => a6 m c (ix1 k)) e := by
  have he := e.isLt
  obtain ⟨t, r, h, en, eb, es⟩ := place n
  have hb := congrFun ((Value.blocks14 m c t (flushes t).2.2.1).trans (Value.flushed14 m c t)) (ix2 r e)
  have hx : ((dats m 0 c).arrAt 14 cfg0.N : Vec Ideal S16384x256 .f32) (ix2 n e) = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e) := by
    refine Eq.trans ?_ hb
    rw [en]
    generalize (dats m 0 c).arrAt 14 cfg0.N = A
    blk_ext [oidx t]
  refine hx.trans ?_
  rw [← eb, ← es]
  have hz : ∀ k : Fin 256, pr m c t r ⟨256 + k, by omega⟩ = zz m c (bat t) (tok t r) ⟨256 + k, by omega⟩ := fun k => pr_col m c t r _ _ fun j => arr4_lo m c j _ (by show 256 + k.val < 512; omega)
  unfold pr at hz
  refine (Tile.lat_at _ _ _ _ _ _ _ _ _ _ _ _ r e).trans ?_
  simp only [hz, blk7]

/-- The rotated key. -/
theorem out15 (n : Fin 16384) (e : Fin 32) : ((dats m 0 c).arrAt 15 cfg0.N : Vec Ideal S16384x32 .f32) (ix2 n e)
    = RopeFirst.rope (fun d => zz m c ⟨n / 2048, by omega⟩ ⟨n % 2048, by omega⟩ ⟨512 + d, by omega⟩) (n % 2048) e := by
  have he := e.isLt
  obtain ⟨t, r, h, en, eb, es⟩ := place n
  have hb := congrFun ((Value.blocks15 m c t (flushes t).2.2.2.1).trans (Value.flushed15 m c t)) (ix2 r e)
  have hx : ((dats m 0 c).arrAt 15 cfg0.N : Vec Ideal S16384x32 .f32) (ix2 n e) = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e) := by
    refine Eq.trans ?_ hb
    rw [en]
    generalize (dats m 0 c).arrAt 15 cfg0.N = A
    blk_ext [oidx t]
  refine hx.trans ?_
  rw [← eb, ← es]
  refine (Tile.kr_at _ _ _ _ _ _ _ _ _ _ _ _ r e).trans ?_
  refine (RopeFirst.mix32 _ _ _ (tok t r) (fun l => blk8 m c t r l) (fun l => blk9 m c t r l) _).trans ?_
  refine RopeFirst.rope_congr (fun d => ?_) (congrArg Fin.val es) (by show e.val % 32 = e.val; omega)
  have hd := d.isLt
  exact pr_col m c t r _ _ fun k => (arr4_kr m c k _ (by show 1536 ≤ 1536 + (e.val / 32 * 32 + d.val); omega) (by show 1536 + (e.val / 32 * 32 + d.val) < 1568; omega)).trans
    (congrArg (fun y => a3 m c (ix2 k y)) (Fin.ext (by show 1536 + (e.val / 32 * 32 + d.val) - 1024 = 512 + d.val; omega)))

/-- The differential queries. -/
theorem out17 (n : Fin 16384) (e : Fin 512) : ((dats m 0 c).arrAt 17 cfg0.N : Vec Ideal S16384x512 .bf16) (ix2 n e)
    = Rope.rope (fun d => zz m c ⟨n / 2048, by omega⟩ ⟨n % 2048, by omega⟩ ⟨544 + e / 64 * 64 + d, by omega⟩) (n % 2048) ⟨e % 64, by omega⟩ * Ideal.ofBits .f32 0x3E000000#32 := by
  have he := e.isLt
  obtain ⟨t, r, h, en, eb, es⟩ := place n
  have hb := congrFun ((Value.blocks17 m c t (flushes t).2.2.2.2.1).trans (Value.flushed17 m c t)) (ix2 r e)
  have hx : ((dats m 0 c).arrAt 17 cfg0.N : Vec Ideal S16384x512 .bf16) (ix2 n e) = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e) := by
    refine Eq.trans ?_ hb
    rw [en]
    generalize (dats m 0 c).arrAt 17 cfg0.N = A
    blk_ext [oidx t]
  refine hx.trans ?_
  rw [← eb, ← es]
  refine (Tile.dq_at _ _ _ _ _ _ _ _ _ _ _ _ r e).trans ?_
  refine congrArg (fun y => y * _) ((RopeFirst.mix64 _ _ _ (tok t r) (fun l => blk10 m c t r l) (fun l => blk11 m c t r l) _).trans ?_)
  refine Rope.rope_congr (fun d => ?_) (congrArg Fin.val es) (by show e.val % 128 % 64 = e.val % 64; omega)
  have hd := d.isLt
  exact pr_col m c t r _ _ fun k => (arr4_mid m c k _ (by show 512 ≤ 512 + e.val / 128 * 128 + (e.val % 128 / 64 * 64 + d.val); omega) (by show 512 + e.val / 128 * 128 + (e.val % 128 / 64 * 64 + d.val) < 1536; omega)).trans
    (congrArg (fun y => a3 m c (ix2 k y)) (Fin.ext (by show 512 + e.val / 128 * 128 + (e.val % 128 / 64 * 64 + d.val) + 32 = 544 + e.val / 64 * 64 + d.val; omega)))

/-- The differential keys. -/
theorem out18 (n : Fin 16384) (e : Fin 256) : ((dats m 0 c).arrAt 18 cfg0.N : Vec Ideal S16384x256 .f32) (ix2 n e)
    = Rope.rope (fun d => zz m c ⟨n / 2048, by omega⟩ ⟨n % 2048, by omega⟩ ⟨1056 + e / 64 * 64 + d, by omega⟩) (n % 2048) ⟨e % 64, by omega⟩ := by
  have he := e.isLt
  obtain ⟨t, r, h, en, eb, es⟩ := place n
  have hb := congrFun ((Value.blocks18 m c t (flushes t).2.2.2.2.2.1).trans (Value.flushed18 m c t)) (ix2 r e)
  have hx : ((dats m 0 c).arrAt 18 cfg0.N : Vec Ideal S16384x256 .f32) (ix2 n e) = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e) := by
    refine Eq.trans ?_ hb
    rw [en]
    generalize (dats m 0 c).arrAt 18 cfg0.N = A
    blk_ext [oidx t]
  refine hx.trans ?_
  rw [← eb, ← es]
  refine (Tile.dk_at _ _ _ _ _ _ _ _ _ _ _ _ r e).trans ?_
  refine (RopeFirst.mix64 _ _ _ (tok t r) (fun l => blk10 m c t r l) (fun l => blk11 m c t r l) _).trans ?_
  refine Rope.rope_congr (fun d => ?_) (congrArg Fin.val es) (by show e.val % 128 % 64 = e.val % 64; omega)
  have hd := d.isLt
  exact pr_col m c t r _ _ fun k => (arr4_mid m c k _ (by show 512 ≤ 1024 + e.val / 128 * 128 + (e.val % 128 / 64 * 64 + d.val); omega) (by show 1024 + e.val / 128 * 128 + (e.val % 128 / 64 * 64 + d.val) < 1536; omega)).trans
    (congrArg (fun y => a3 m c (ix2 k y)) (Fin.ext (by show 1024 + e.val / 128 * 128 + (e.val % 128 / 64 * 64 + d.val) + 32 = 1056 + e.val / 64 * 64 + d.val; omega)))

/-- The differential values. -/
theorem out19 (n : Fin 16384) (e : Fin 256) : ((dats m 0 c).arrAt 19 cfg0.N : Vec Ideal S16384x256 .f32) (ix2 n e)
    = zz m c ⟨n / 2048, by omega⟩ ⟨n % 2048, by omega⟩ ⟨1312 + e, by omega⟩ := by
  have he := e.isLt
  obtain ⟨t, r, h, en, eb, es⟩ := place n
  have hb := congrFun ((Value.blocks19 m c t (flushes t).2.2.2.2.2.2).trans (Value.flushed19 m c t)) (ix2 r e)
  have hx : ((dats m 0 c).arrAt 19 cfg0.N : Vec Ideal S16384x256 .f32) (ix2 n e) = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r e) := by
    refine Eq.trans ?_ hb
    rw [en]
    generalize (dats m 0 c).arrAt 19 cfg0.N = A
    blk_ext [oidx t]
  refine hx.trans ?_
  rw [← eb, ← es]
  exact (Tile.dv_at _ _ _ _ _ _ _ _ _ _ _ _ r e).trans (pr_col m c t r _ _ fun k => (arr4_mid m c k _ (by show 512 ≤ 1280 + e.val; omega) (by show 1280 + e.val < 1536; omega)).trans
    (congrArg (fun y => a3 m c (ix2 k y)) (Fin.ext (by show 1280 + e.val + 32 = 1312 + e.val; omega))))

end Cert.ProjFirstIdeal.Operands
-- ==== Proof.ProjFirstRef.lean ====
module
public import proofs.«01_k».proof.Proof.RopeFirst
public import proofs.«01_k».proof.Proof.Gen.ProjFirstReferenceIdeal.Run
public import Idealize.ShloMosaic.Lib.Pointwise
public import Idealize.ShloMosaic.Lib.Pipeline.ValueKit

@[expose] public section

set_option maxRecDepth 16384
set_option maxHeartbeats 1000000

noncomputable section

open Idealize.ShloMosaic Idealize.ShloMosaic.TcCoe Idealize.SL.Sem

/-! The reference's results for layer 0's input projection, index by index. -/

namespace Cert.ProjFirstReferenceIdeal.RefValue

open Cert.ProjFirstReferenceIdeal Cert.ProjFirstReferenceIdeal.Gen Cert.ProjFirstReferenceIdeal.Value

variable (V0 : Valuation τ sig (Elt Ideal))

/-- The stream. -/
abbrev a0 : Vec Ideal S8x2048x1024 .f32 := V0 (Proc.devRef .tc main_arg0)
/-- The six modulations. -/
abbrev a1 : Vec Ideal S8x6144 .f32 := V0 (Proc.devRef .tc main_arg1)
/-- The norm's gain. -/
abbrev a2 : Vec Ideal S1024 .f32 := V0 (Proc.devRef .tc main_arg2)
/-- The projection. -/
abbrev a3 : Vec Ideal S1024x1568 .f32 := V0 (Proc.devRef .tc main_arg3)
/-- The gain of the query latent's norm. -/
abbrev a4 : Vec Ideal S256 .f32 := V0 (Proc.devRef .tc main_arg4)
/-- The up-projection of the queries. -/
abbrev a5 : Vec Ideal S256x768 .f32 := V0 (Proc.devRef .tc main_arg5)
/-- The gain of the latent's norm. -/
abbrev a6 : Vec Ideal S256 .f32 := V0 (Proc.devRef .tc main_arg6)

/-- A token's projection. -/
theorem z_at (b : Fin 8) (s : Fin 2048) (e : Fin 1568) :
    (res_main_v23 V0 : Vec Ideal S8x2048x1568 .f32) (ix3 b s e) = RopeFirst.proj (fun k => a0 V0 (ix3 b s k)) (fun k => a2 V0 (ix1 k)) (fun k => a1 V0 (ix2 b ⟨1024 + k, by omega⟩)) (fun k => a1 V0 (ix2 b ⟨k, by omega⟩)) (fun k e => a3 V0 (ix2 k e)) e := by
  unfold RopeFirst.proj Feed.hid Feed.norm Feed.inv a0 a1 a2 a3
  unfold res_main_v23
  generalize V0 (Proc.devRef .tc main_arg0) = x0
  generalize V0 (Proc.devRef .tc main_arg1) = x1
  generalize V0 (Proc.devRef .tc main_arg2) = x2
  generalize V0 (Proc.devRef .tc main_arg3) = x3
  pointwise

/-- A token's queries. -/
theorem u_at (b : Fin 8) (s : Fin 2048) (h : Fin 8) (j : Fin 96) :
    (res_main_v45 V0 : Vec Ideal S8x2048x8x96 .f32) (ix4 b s h j) = RopeFirst.up (fun k => (res_main_v23 V0 : Vec Ideal S8x2048x1568 .f32) (ix3 b s ⟨k, by omega⟩)) (fun k => a4 V0 (ix1 k)) (fun k e => a5 V0 (ix2 k e)) ⟨h * 96 + j, by omega⟩ := by
  unfold RopeFirst.up RopeFirst.norm a4 a5
  unfold res_main_v45 res_main_v24
  generalize V0 (Proc.devRef .tc main_arg4) = x4
  generalize V0 (Proc.devRef .tc main_arg5) = x5
  generalize res_main_v23 V0 = Z
  pointwise

theorem ang65_at (s : Fin 2048) (j : Fin 16) : (res_main_v65 V0 : Vec Ideal S1x2048x1x16 .f32) (ix4 0 s 0 j) = RopeFirst.ang s j := by
  unfold res_main_v65 res_main_v30
  pointwise
  rfl

theorem ang111_at (s : Fin 2048) (j : Fin 16) : (res_main_v111 V0 : Vec Ideal S1x2048x16 .f32) (ix3 0 s j) = RopeFirst.ang s j := by
  unfold res_main_v111 res_main_v30
  pointwise
  rfl

theorem ang143_at (s : Fin 2048) (j : Fin 32) : (res_main_v143 V0 : Vec Ideal S1x2048x1x32 .f32) (ix4 0 s 0 j) = Rope.ang s j := by
  unfold res_main_v143 res_main_v30
  pointwise
  rfl

theorem ang177_at (s : Fin 2048) (j : Fin 32) : (res_main_v177 V0 : Vec Ideal S1x2048x1x32 .f32) (ix4 0 s 0 j) = Rope.ang s j := by
  unfold res_main_v177 res_main_v30
  pointwise
  rfl

/-- The rotated queries, from their halves. -/
def rqr (X1 X2 : FVec Ideal S8x2048x8x16 .f32) (C D : FVec Ideal S1x2048x1x16 .f32) : FVec Ideal S16384x256 .bf16 := truncf .bf16 (shapeCast _ (mulf (concatenate S8x2048x8x32 3 [⟨S8x2048x8x16, (subf (mulf X1 (broadcastInDim S8x2048x8x16 ![0, 1, 2, 3] bcast_S1x2048x1x16_S8x2048x8x16_0_1_2_3 C)) (mulf X2 (broadcastInDim S8x2048x8x16 ![0, 1, 2, 3] bcast_S1x2048x1x16_S8x2048x8x16_0_1_2_3 D)))⟩, ⟨S8x2048x8x16, (addf (mulf X2 (broadcastInDim S8x2048x8x16 ![0, 1, 2, 3] bcast_S1x2048x1x16_S8x2048x8x16_0_1_2_3 C)) (mulf X1 (broadcastInDim S8x2048x8x16 ![0, 1, 2, 3] bcast_S1x2048x1x16_S8x2048x8x16_0_1_2_3 D)))⟩] concatenates_S8x2048x8x16_S8x2048x8x16_S8x2048x8x32_d3) (broadcastInDim S8x2048x8x32 ![] bcast_S_S8x2048x8x32 (constant S_ .f32 0x3DD105EC#32))) shapeCasts_S8x2048x8x32_S16384x256) bitsLt_bf16_f32

theorem rqr_at (X1 X2 : FVec Ideal S8x2048x8x16 .f32) (C D : FVec Ideal S1x2048x1x16 .f32) (n : Fin 16384) (e : Fin 256) :
    rqr X1 X2 C D (ix2 n e) = RopeFirst.turn32 (fun j => X1 (ix4 ⟨n / 2048, by omega⟩ ⟨n % 2048, by omega⟩ ⟨e / 32, by omega⟩ j)) (fun j => X2 (ix4 ⟨n / 2048, by omega⟩ ⟨n % 2048, by omega⟩ ⟨e / 32, by omega⟩ j))
      (fun j => C (ix4 0 ⟨n % 2048, by omega⟩ 0 j)) (fun j => D (ix4 0 ⟨n % 2048, by omega⟩ 0 j)) ⟨e % 32, by omega⟩ * Ideal.ofBits .f32 0x3DD105EC#32 := by
  have hn := n.isLt
  have he := e.isLt
  unfold rqr RopeFirst.turn32
  pointwise

/-- The rotated key, from their halves. -/
def rkr (X1 X2 : FVec Ideal S8x2048x16 .f32) (C D : FVec Ideal S1x2048x16 .f32) : FVec Ideal S16384x32 .f32 := shapeCast _ (concatenate S8x2048x32 2 [⟨S8x2048x16, (subf (mulf X1 (broadcastInDim S8x2048x16 ![0, 1, 2] bcast_S1x2048x16_S8x2048x16_0_1_2 C)) (mulf X2 (broadcastInDim S8x2048x16 ![0, 1, 2] bcast_S1x2048x16_S8x2048x16_0_1_2 D)))⟩, ⟨S8x2048x16, (addf (mulf X2 (broadcastInDim S8x2048x16 ![0, 1, 2] bcast_S1x2048x16_S8x2048x16_0_1_2 C)) (mulf X1 (broadcastInDim S8x2048x16 ![0, 1, 2] bcast_S1x2048x16_S8x2048x16_0_1_2 D)))⟩] concatenates_S8x2048x16_S8x2048x16_S8x2048x32_d2) shapeCasts_S8x2048x32_S16384x32

theorem rkr_at (X1 X2 : FVec Ideal S8x2048x16 .f32) (C D : FVec Ideal S1x2048x16 .f32) (n : Fin 16384) (e : Fin 32) :
    rkr X1 X2 C D (ix2 n e) = RopeFirst.turn32 (fun j => X1 (ix3 ⟨n / 2048, by omega⟩ ⟨n % 2048, by omega⟩ j)) (fun j => X2 (ix3 ⟨n / 2048, by omega⟩ ⟨n % 2048, by omega⟩ j))
      (fun j => C (ix3 0 ⟨n % 2048, by omega⟩ j)) (fun j => D (ix3 0 ⟨n % 2048, by omega⟩ j)) e := by
  have hn := n.isLt
  have he := e.isLt
  unfold rkr RopeFirst.turn32
  pointwise

/-- The differential queries, from their halves. -/
def rdq (X1 X2 : FVec Ideal S8x2048x8x32 .f32) (C D : FVec Ideal S1x2048x1x32 .f32) : FVec Ideal S16384x512 .bf16 := truncf .bf16 (shapeCast _ (mulf (concatenate S8x2048x8x64 3 [⟨S8x2048x8x32, (subf (mulf X1 (broadcastInDim S8x2048x8x32 ![0, 1, 2, 3] bcast_S1x2048x1x32_S8x2048x8x32_0_1_2_3 C)) (mulf X2 (broadcastInDim S8x2048x8x32 ![0, 1, 2, 3] bcast_S1x2048x1x32_S8x2048x8x32_0_1_2_3 D)))⟩, ⟨S8x2048x8x32, (addf (mulf X2 (broadcastInDim S8x2048x8x32 ![0, 1, 2, 3] bcast_S1x2048x1x32_S8x2048x8x32_0_1_2_3 C)) (mulf X1 (broadcastInDim S8x2048x8x32 ![0, 1, 2, 3] bcast_S1x2048x1x32_S8x2048x8x32_0_1_2_3 D)))⟩] concatenates_S8x2048x8x32_S8x2048x8x32_S8x2048x8x64_d3) (broadcastInDim S8x2048x8x64 ![] bcast_S_S8x2048x8x64 (constant S_ .f32 0x3E000000#32))) shapeCasts_S8x2048x8x64_S16384x512) bitsLt_bf16_f32

theorem rdq_at (X1 X2 : FVec Ideal S8x2048x8x32 .f32) (C D : FVec Ideal S1x2048x1x32 .f32) (n : Fin 16384) (e : Fin 512) :
    rdq X1 X2 C D (ix2 n e) = RopeFirst.turn64 (fun j => X1 (ix4 ⟨n / 2048, by omega⟩ ⟨n % 2048, by omega⟩ ⟨e / 64, by omega⟩ j)) (fun j => X2 (ix4 ⟨n / 2048, by omega⟩ ⟨n % 2048, by omega⟩ ⟨e / 64, by omega⟩ j))
      (fun j => C (ix4 0 ⟨n % 2048, by omega⟩ 0 j)) (fun j => D (ix4 0 ⟨n % 2048, by omega⟩ 0 j)) ⟨e % 64, by omega⟩ * Ideal.ofBits .f32 0x3E000000#32 := by
  have hn := n.isLt
  have he := e.isLt
  unfold rdq RopeFirst.turn64
  pointwise

/-- The differential keys, from their halves. -/
def rdk (X1 X2 : FVec Ideal S8x2048x4x32 .f32) (C D : FVec Ideal S1x2048x1x32 .f32) : FVec Ideal S16384x256 .f32 := shapeCast _ (concatenate S8x2048x4x64 3 [⟨S8x2048x4x32, (subf (mulf X1 (broadcastInDim S8x2048x4x32 ![0, 1, 2, 3] bcast_S1x2048x1x32_S8x2048x4x32_0_1_2_3 C)) (mulf X2 (broadcastInDim S8x2048x4x32 ![0, 1, 2, 3] bcast_S1x2048x1x32_S8x2048x4x32_0_1_2_3 D)))⟩, ⟨S8x2048x4x32, (addf (mulf X2 (broadcastInDim S8x2048x4x32 ![0, 1, 2, 3] bcast_S1x2048x1x32_S8x2048x4x32_0_1_2_3 C)) (mulf X1 (broadcastInDim S8x2048x4x32 ![0, 1, 2, 3] bcast_S1x2048x1x32_S8x2048x4x32_0_1_2_3 D)))⟩] concatenates_S8x2048x4x32_S8x2048x4x32_S8x2048x4x64_d3) shapeCasts_S8x2048x4x64_S16384x256

theorem rdk_at (X1 X2 : FVec Ideal S8x2048x4x32 .f32) (C D : FVec Ideal S1x2048x1x32 .f32) (n : Fin 16384) (e : Fin 256) :
    rdk X1 X2 C D (ix2 n e) = RopeFirst.turn64 (fun j => X1 (ix4 ⟨n / 2048, by omega⟩ ⟨n % 2048, by omega⟩ ⟨e / 64, by omega⟩ j)) (fun j => X2 (ix4 ⟨n / 2048, by omega⟩ ⟨n % 2048, by omega⟩ ⟨e / 64, by omega⟩ j))
      (fun j => C (ix4 0 ⟨n % 2048, by omega⟩ 0 j)) (fun j => D (ix4 0 ⟨n % 2048, by omega⟩ 0 j)) ⟨e % 64, by omega⟩ := by
  have hn := n.isLt
  have he := e.isLt
  unfold rdk RopeFirst.turn64
  pointwise

/-- The unrotated queries. -/
def rqn (Q : FVec Ideal S8x2048x8x96 .f32) : FVec Ideal S16384x512 .bf16 := truncf .bf16 (shapeCast _ (mulf (extractStridedSlice S8x2048x8x64 ![0, 0, 0, 0] Q slices_S8x2048x8x96_S8x2048x8x64_0_0_0_0) (broadcastInDim S8x2048x8x64 ![] bcast_S_S8x2048x8x64 (constant S_ .f32 0x3DD105EC#32))) shapeCasts_S8x2048x8x64_S16384x512) bitsLt_bf16_f32

theorem rqn_at (Q : FVec Ideal S8x2048x8x96 .f32) (n : Fin 16384) (e : Fin 512) : rqn Q (ix2 n e) = Q (ix4 ⟨n / 2048, by omega⟩ ⟨n % 2048, by omega⟩ ⟨e / 64, by omega⟩ ⟨e % 64, by omega⟩) * Ideal.ofBits .f32 0x3DD105EC#32 := by
  have hn := n.isLt
  have he := e.isLt
  unfold rqn
  pointwise

/-- The latent. -/
def rlat (Y : FVec Ideal S8x2048x256 .f32) (g : FVec Ideal S256 .f32) : FVec Ideal S16384x256 .f32 := shapeCast _ (mulf (mulf Y (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf Y Y) (constant S_ .f32 0x00000000#32) reducesTo_S8x2048x256_S8x2048_d2 h_S_)) (broadcastInDim S8x2048x1 ![] bcast_S_S8x2048x1 (constant S_ .f32 0x43800000#32))) (broadcastInDim S8x2048x1 ![] bcast_S_S8x2048x1 (constant S_ .f32 0x358637BD#32)))))) (broadcastInDim S8x2048x256 ![0, 1, 2] bcast_S1x1x256_S8x2048x256_0_1_2 (broadcastInDim S1x1x256 ![2] bcast_S256_S1x1x256_2 g))) shapeCasts_S8x2048x256_S16384x256

theorem rlat_at (Y : FVec Ideal S8x2048x256 .f32) (g : FVec Ideal S256 .f32) (n : Fin 16384) (e : Fin 256) : rlat Y g (ix2 n e) = RopeFirst.norm (fun k => Y (ix3 ⟨n / 2048, by omega⟩ ⟨n % 2048, by omega⟩ k)) (fun k => g (ix1 k)) e := by
  have hn := n.isLt
  have he := e.isLt
  unfold rlat RopeFirst.norm
  pointwise

/-- The differential values. -/
def rdv : FVec Ideal S16384x256 .f32 := shapeCast _ (extractStridedSlice S8x2048x256 ![0, 0, 1312] (res_main_v23 V0) slices_S8x2048x1568_S8x2048x256_0_0_1312) shapeCasts_S8x2048x256_S16384x256

/-- The projection's value at a token and a column. -/
abbrev zr (n : Fin 16384) (e : Fin 1568) : EReal := (res_main_v23 V0 : Vec Ideal S8x2048x1568 .f32) (ix3 ⟨n / 2048, by omega⟩ ⟨n % 2048, by omega⟩ e)

/-- The queries' value at a token and a column. -/
abbrev ur (n : Fin 16384) (e : Fin 768) : EReal := RopeFirst.up (fun k => zr V0 n ⟨k, by omega⟩) (fun k => a4 V0 (ix1 k)) (fun k e => a5 V0 (ix2 k e)) e

theorem dv_at (n : Fin 16384) (e : Fin 256) : rdv V0 (ix2 n e) = zr V0 n ⟨1312 + e, by omega⟩ := by
  have hn := n.isLt
  unfold rdv zr
  generalize res_main_v23 V0 = Z
  pointwise

/-- The latent. -/
theorem lat_at (n : Fin 16384) (e : Fin 256) : rlat (res_main_v25 V0) (a6 V0) (ix2 n e) = RopeFirst.norm (fun k => zr V0 n ⟨256 + k, by omega⟩) (fun k => a6 V0 (ix1 k)) e := by
  have hn := n.isLt
  have hy : ∀ k : Fin 256, (res_main_v25 V0 : Vec Ideal S8x2048x256 .f32) (ix3 ⟨n / 2048, by omega⟩ ⟨n % 2048, by omega⟩ k) = zr V0 n ⟨256 + k, by omega⟩ := by
    intro k
    unfold zr res_main_v25
    generalize res_main_v23 V0 = Z
    pointwise
  rw [rlat_at]
  simp only [hy]

/-- The unrotated queries. -/
theorem qn_at (n : Fin 16384) (e : Fin 512) : rqn (res_main_v45 V0) (ix2 n e) = ur V0 n ⟨e / 64 * 96 + e % 64, by omega⟩ * Ideal.ofBits .f32 0x3DD105EC#32 := by
  rw [rqn_at, u_at]

/-- The rotated queries. -/
theorem qr_at (n : Fin 16384) (e : Fin 256) : rqr (res_main_v68 V0) (res_main_v69 V0) (res_main_v66 V0) (res_main_v67 V0) (ix2 n e)
    = RopeFirst.rope (fun d => ur V0 n ⟨e / 32 * 96 + 64 + d, by omega⟩) (n % 2048) ⟨e % 32, by omega⟩ * Ideal.ofBits .f32 0x3DD105EC#32 := by
  have hn := n.isLt
  have he := e.isLt
  have hu : ∀ (j : Fin 96), (res_main_v45 V0 : Vec Ideal S8x2048x8x96 .f32) (ix4 ⟨n / 2048, by omega⟩ ⟨n % 2048, by omega⟩ ⟨e / 32, by omega⟩ j) = ur V0 n ⟨e / 32 * 96 + j, by omega⟩ := fun j => u_at V0 _ _ _ j
  rw [rqr_at]
  refine congrArg (fun y => y * _) (RopeFirst.turn32_rope _ _ _ _ _ _ _ (fun j => ?_) (fun j => ?_) (fun j => ?_) fun j => ?_)
  · have hj := j.isLt
    refine Eq.trans ?_ ((hu ⟨64 + j, by omega⟩).trans (congrArg (ur V0 n) (Fin.ext (by show e.val / 32 * 96 + (64 + j.val) = e.val / 32 * 96 + 64 + j.val; omega))))
    unfold res_main_v68 res_main_v49
    generalize res_main_v45 V0 = Z
    pointwise
  · have hj := j.isLt
    refine Eq.trans ?_ ((hu ⟨64 + (16 + j), by omega⟩).trans (congrArg (ur V0 n) (Fin.ext (by show e.val / 32 * 96 + (64 + (16 + j.val)) = e.val / 32 * 96 + 64 + (j.val + 16); omega))))
    unfold res_main_v69 res_main_v49
    generalize res_main_v45 V0 = Z
    pointwise
  · rw [← ang65_at V0 ⟨n % 2048, by omega⟩ j]
    unfold res_main_v66
    generalize res_main_v65 V0 = A
    pointwise
  · rw [← ang65_at V0 ⟨n % 2048, by omega⟩ j]
    unfold res_main_v67
    generalize res_main_v65 V0 = A
    pointwise

/-- The rotated key. -/
theorem kr_at (n : Fin 16384) (e : Fin 32) : rkr (res_main_v114 V0) (res_main_v115 V0) (res_main_v112 V0) (res_main_v113 V0) (ix2 n e)
    = RopeFirst.rope (fun d => zr V0 n ⟨512 + d, by omega⟩) (n % 2048) e := by
  have hn := n.isLt
  have he := e.isLt
  rw [rkr_at]
  refine RopeFirst.turn32_rope _ _ _ _ _ _ _ (fun j => ?_) (fun j => ?_) (fun j => ?_) fun j => ?_
  · have hj := j.isLt
    unfold zr res_main_v114 res_main_v26
    generalize res_main_v23 V0 = Z
    pointwise
  · have hj := j.isLt
    unfold zr res_main_v115 res_main_v26
    generalize res_main_v23 V0 = Z
    pointwise
    refine congrArg Z ?_
    idx_ext
  · rw [← ang111_at V0 ⟨n % 2048, by omega⟩ j]
    unfold res_main_v112
    generalize res_main_v111 V0 = A
    pointwise
  · rw [← ang111_at V0 ⟨n % 2048, by omega⟩ j]
    unfold res_main_v113
    generalize res_main_v111 V0 = A
    pointwise

/-- The differential queries. -/
theorem dq_at (n : Fin 16384) (e : Fin 512) : rdq (res_main_v146 V0) (res_main_v147 V0) (res_main_v144 V0) (res_main_v145 V0) (ix2 n e)
    = Rope.rope (fun d => zr V0 n ⟨544 + e / 64 * 64 + d, by omega⟩) (n % 2048) ⟨e % 64, by omega⟩ * Ideal.ofBits .f32 0x3E000000#32 := by
  have hn := n.isLt
  have he := e.isLt
  rw [rdq_at]
  refine congrArg (fun y => y * _) (RopeFirst.turn64_rope _ _ _ _ _ _ _ (fun j => ?_) (fun j => ?_) (fun j => ?_) fun j => ?_)
  · have hj := j.isLt
    unfold zr res_main_v146 res_main_v127
    generalize res_main_v23 V0 = Z
    pointwise
    refine congrArg Z ?_
    idx_ext
  · have hj := j.isLt
    unfold zr res_main_v147 res_main_v127
    generalize res_main_v23 V0 = Z
    pointwise
    refine congrArg Z ?_
    idx_ext
  · rw [← ang143_at V0 ⟨n % 2048, by omega⟩ j]
    unfold res_main_v144
    generalize res_main_v143 V0 = A
    pointwise
  · rw [← ang143_at V0 ⟨n % 2048, by omega⟩ j]
    unfold res_main_v145
    generalize res_main_v143 V0 = A
    pointwise

/-- The differential keys. -/
theorem dk_at (n : Fin 16384) (e : Fin 256) : rdk (res_main_v180 V0) (res_main_v181 V0) (res_main_v178 V0) (res_main_v179 V0) (ix2 n e)
    = Rope.rope (fun d => zr V0 n ⟨1056 + e / 64 * 64 + d, by omega⟩) (n % 2048) ⟨e % 64, by omega⟩ := by
  have hn := n.isLt
  have he := e.isLt
  rw [rdk_at]
  refine RopeFirst.turn64_rope _ _ _ _ _ _ _ (fun j => ?_) (fun j => ?_) (fun j => ?_) fun j => ?_
  · have hj := j.isLt
    unfold zr res_main_v180 res_main_v161
    generalize res_main_v23 V0 = Z
    pointwise
    refine congrArg Z ?_
    idx_ext
  · have hj := j.isLt
    unfold zr res_main_v181 res_main_v161
    generalize res_main_v23 V0 = Z
    pointwise
    refine congrArg Z ?_
    idx_ext
  · rw [← ang177_at V0 ⟨n % 2048, by omega⟩ j]
    unfold res_main_v178
    generalize res_main_v177 V0 = A
    pointwise
  · rw [← ang177_at V0 ⟨n % 2048, by omega⟩ j]
    unfold res_main_v179
    generalize res_main_v177 V0 = A
    pointwise

end Cert.ProjFirstReferenceIdeal.RefValue
-- ==== Proof.ProjFirstClaims.lean ====
module
public import proofs.«01_k».proof.Defs
public import proofs.«01_k».proof.Proof.ProjFirstValue
public import proofs.«01_k».proof.Proof.ProjFirstRef
public import Idealize.ShloMosaic.Adequacy
public import Idealize.ShloMosaic.Init

@[expose] public section

set_option maxRecDepth 16384
set_option maxHeartbeats 4000000

noncomputable section

open Idealize.ShloMosaic Idealize.ShloMosaic.TcCoe Idealize.SL.Sem

/-! The input projection of layer 0: kernel and reference end with the same arrays. -/

namespace Cert.PromptProjFirst

open Cert.ProjFirstIdeal.Operands Cert.ProjFirstReferenceIdeal.Value Cert.ProjFirstReferenceIdeal.RefValue

local instance : Cert.ProjFirstIdeal.Facts := Cert.ProjFirstIdeal.Gen.facts
local instance : Cert.ProjFirstReferenceIdeal.Facts := Cert.ProjFirstReferenceIdeal.Gen.facts

/-- Every index of an array of rank 2 is its two coordinates. -/
theorem pair {p q : Nat} (i : (⟨2, ![p, q]⟩ : Shape).Idx) : ∃ (n : Fin p) (e : Fin q), i = ix2 n e :=
  ⟨i 0, i 1, (ix2_eta i).symm⟩

variable (m : (ℓ : Loc Cert.ProjFirstIdeal.nD Cert.ProjFirstIdeal.τ Cert.ProjFirstIdeal.sig) → Buf (Elt Ideal) ℓ) (c : Dev Cert.ProjFirstIdeal.nD)
  (V0 : Valuation Cert.ProjFirstReferenceIdeal.τ Cert.ProjFirstReferenceIdeal.sig (Elt Ideal))

/-- The reference starts from the kernel's arguments. -/
def Same : Prop :=
  Cert.ProjFirstReferenceIdeal.RefValue.a0 V0 = Cert.ProjFirstIdeal.Operands.a0 m c
    ∧ Cert.ProjFirstReferenceIdeal.RefValue.a1 V0 = Cert.ProjFirstIdeal.Operands.a1 m c
    ∧ Cert.ProjFirstReferenceIdeal.RefValue.a2 V0 = Cert.ProjFirstIdeal.Operands.a2 m c
    ∧ Cert.ProjFirstReferenceIdeal.RefValue.a3 V0 = Cert.ProjFirstIdeal.Operands.a3 m c
    ∧ Cert.ProjFirstReferenceIdeal.RefValue.a4 V0 = Cert.ProjFirstIdeal.Operands.a4 m c
    ∧ Cert.ProjFirstReferenceIdeal.RefValue.a5 V0 = Cert.ProjFirstIdeal.Operands.a5 m c
    ∧ Cert.ProjFirstReferenceIdeal.RefValue.a6 V0 = Cert.ProjFirstIdeal.Operands.a6 m c

variable {m c V0}

/-- The two projections of a token are equal. -/
theorem z_eq (h : Same m c V0) (n : Fin 16384) (e : Fin 1568) : zz m c ⟨n / 2048, by omega⟩ ⟨n % 2048, by omega⟩ e = zr V0 n e := by
  obtain ⟨h0, h1, h2, h3, _⟩ := h
  unfold zz z zr
  rw [z_at, h0, h1, h2, h3]

/-- The two queries of a token are equal. -/
theorem u_eq (h : Same m c V0) (n : Fin 16384) (e : Fin 768) : qq m c ⟨n / 2048, by omega⟩ ⟨n % 2048, by omega⟩ e = ur V0 n e := by
  obtain ⟨h0, h1, h2, h3, h4, h5, h6⟩ := id h
  unfold qq q ur
  rw [h4, h5]
  simp only [z_eq h]

/-- The unrotated queries are equal. -/
theorem qn_eq (h : Same m c V0) : ((Cert.ProjFirstIdeal.Gen.dats m 0 c).arrAt 12 Cert.ProjFirstIdeal.cfg0.N : Vec Ideal Cert.ProjFirstIdeal.S16384x512 .bf16)
    = rqn (res_main_v45 V0) := by
  funext i
  obtain ⟨n, e, rfl⟩ := pair i
  refine (out12 m c n e).trans (Eq.trans ?_ (Cert.ProjFirstReferenceIdeal.RefValue.qn_at V0 n e).symm)
  simp only [u_eq h]

/-- The rotated queries are equal. -/
theorem qr_eq (h : Same m c V0) : ((Cert.ProjFirstIdeal.Gen.dats m 0 c).arrAt 13 Cert.ProjFirstIdeal.cfg0.N : Vec Ideal Cert.ProjFirstIdeal.S16384x256 .bf16)
    = rqr (res_main_v68 V0) (res_main_v69 V0) (res_main_v66 V0) (res_main_v67 V0) := by
  funext i
  obtain ⟨n, e, rfl⟩ := pair i
  refine (out13 m c n e).trans (Eq.trans ?_ (Cert.ProjFirstReferenceIdeal.RefValue.qr_at V0 n e).symm)
  simp only [u_eq h]

/-- The latents are equal. -/
theorem lat_eq (h : Same m c V0) : ((Cert.ProjFirstIdeal.Gen.dats m 0 c).arrAt 14 Cert.ProjFirstIdeal.cfg0.N : Vec Ideal Cert.ProjFirstIdeal.S16384x256 .f32)
    = rlat (res_main_v25 V0) (Cert.ProjFirstReferenceIdeal.RefValue.a6 V0) := by
  funext i
  obtain ⟨n, e, rfl⟩ := pair i
  refine (out14 m c n e).trans (Eq.trans ?_ (Cert.ProjFirstReferenceIdeal.RefValue.lat_at V0 n e).symm)
  simp only [z_eq h, h.2.2.2.2.2.2]

/-- The rotated keys are equal. -/
theorem kr_eq (h : Same m c V0) : ((Cert.ProjFirstIdeal.Gen.dats m 0 c).arrAt 15 Cert.ProjFirstIdeal.cfg0.N : Vec Ideal Cert.ProjFirstIdeal.S16384x32 .f32)
    = rkr (res_main_v114 V0) (res_main_v115 V0) (res_main_v112 V0) (res_main_v113 V0) := by
  funext i
  obtain ⟨n, e, rfl⟩ := pair i
  refine (out15 m c n e).trans (Eq.trans ?_ (Cert.ProjFirstReferenceIdeal.RefValue.kr_at V0 n e).symm)
  simp only [z_eq h]

/-- The differential queries are equal. -/
theorem dq_eq (h : Same m c V0) : ((Cert.ProjFirstIdeal.Gen.dats m 0 c).arrAt 17 Cert.ProjFirstIdeal.cfg0.N : Vec Ideal Cert.ProjFirstIdeal.S16384x512 .bf16)
    = rdq (res_main_v146 V0) (res_main_v147 V0) (res_main_v144 V0) (res_main_v145 V0) := by
  funext i
  obtain ⟨n, e, rfl⟩ := pair i
  refine (out17 m c n e).trans (Eq.trans ?_ (Cert.ProjFirstReferenceIdeal.RefValue.dq_at V0 n e).symm)
  simp only [z_eq h]

/-- The differential keys are equal. -/
theorem dk_eq (h : Same m c V0) : ((Cert.ProjFirstIdeal.Gen.dats m 0 c).arrAt 18 Cert.ProjFirstIdeal.cfg0.N : Vec Ideal Cert.ProjFirstIdeal.S16384x256 .f32)
    = rdk (res_main_v180 V0) (res_main_v181 V0) (res_main_v178 V0) (res_main_v179 V0) := by
  funext i
  obtain ⟨n, e, rfl⟩ := pair i
  refine (out18 m c n e).trans (Eq.trans ?_ (Cert.ProjFirstReferenceIdeal.RefValue.dk_at V0 n e).symm)
  simp only [z_eq h]

/-- The differential values are equal. -/
theorem dv_eq (h : Same m c V0) : ((Cert.ProjFirstIdeal.Gen.dats m 0 c).arrAt 19 Cert.ProjFirstIdeal.cfg0.N : Vec Ideal Cert.ProjFirstIdeal.S16384x256 .f32)
    = rdv V0 := by
  funext i
  obtain ⟨n, e, rfl⟩ := pair i
  refine (out19 m c n e).trans (Eq.trans ?_ (Cert.ProjFirstReferenceIdeal.RefValue.dv_at V0 n e).symm)
  exact z_eq h n _

/-- The reference runs to its end. -/
theorem frame_reference : Cert.quiescent_ProjFirstReferenceIdeal := fun m ρ _ =>
  (θ_run Cert.ProjFirstReferenceIdeal.defs _ _).mono (fun r h => ⟨fun c => (h c).2.2.2.2.2.2.2, sem_eq_zero_of_no_sems (by decide) r.2⟩)
    (Cert.ProjFirstReferenceIdeal.Value.run (F := Ideal) m ρ)

/-- From memories that agree on the arguments, kernel and reference end with the same results. -/
theorem algebraic : Cert.algebraic_ProjFirstIdeal_ProjFirstReferenceIdeal := by
  intro m ρ m' ρ' _ ha
  refine ⟨fun c => (Cert.ProjFirstIdeal.Gen.dats m 0 c).arrAt 12 Cert.ProjFirstIdeal.cfg0.N,
    fun c => (Cert.ProjFirstIdeal.Gen.dats m 0 c).arrAt 13 Cert.ProjFirstIdeal.cfg0.N,
    fun c => (Cert.ProjFirstIdeal.Gen.dats m 0 c).arrAt 14 Cert.ProjFirstIdeal.cfg0.N,
    fun c => (Cert.ProjFirstIdeal.Gen.dats m 0 c).arrAt 15 Cert.ProjFirstIdeal.cfg0.N,
    fun c => (Cert.ProjFirstIdeal.Gen.dats m 0 c).arrAt 17 Cert.ProjFirstIdeal.cfg0.N,
    fun c => (Cert.ProjFirstIdeal.Gen.dats m 0 c).arrAt 18 Cert.ProjFirstIdeal.cfg0.N,
    fun c => (Cert.ProjFirstIdeal.Gen.dats m 0 c).arrAt 19 Cert.ProjFirstIdeal.cfg0.N, ?_, ?_⟩
  · refine (θ_run Cert.ProjFirstIdeal.defs _ _).mono (fun r h c => ?_) (Cert.ProjFirstIdeal.Value.run_blocks (F := Ideal) m ρ)
    obtain ⟨h0, h1, h2, h3, _, h5, h6, h7, hr⟩ := h c
    exact ⟨h0, h1, h2, h3, h5, h6, h7, hr⟩
  · refine (θ_run Cert.ProjFirstReferenceIdeal.defs _ _).mono (fun r h c => ?_) (Cert.ProjFirstReferenceIdeal.Value.run (F := Ideal) m' ρ')
    have hs : Same m c (Idealize.ShloMosaic.StableHlo.launchContents m' c) := ha c
    obtain ⟨h0, h1, h2, h3, h4, h5, h6, hr⟩ := h c
    exact ⟨h0.trans (qn_eq hs).symm, h1.trans (qr_eq hs).symm, h2.trans (lat_eq hs).symm, h3.trans (kr_eq hs).symm, h4.trans (dq_eq hs).symm, h5.trans (dk_eq hs).symm, h6.trans (dv_eq hs).symm, hr⟩

end Cert.PromptProjFirst
-- ==== Proof.AdaClaims.lean ====
module
public import proofs.«01_k».proof.Defs
public import proofs.«01_k».proof.Proof.Gen.AdaIdeal.Value
public import proofs.«01_k».proof.Proof.Gen.AdaReferenceIdeal.Run
public import Idealize.ShloMosaic.Lib.Pointwise
public import Idealize.ShloMosaic.Lib.Claim
public import Idealize.ShloMosaic.Lib.StableHlo.ReadAt
public import Idealize.ShloMosaic.Lib.StableHlo.RunRead
public import Idealize.ShloMosaic.Lib.Pipeline.ValueKit
public import Idealize.ShloMosaic.Adequacy
public import Idealize.ShloMosaic.Init

@[expose] public section

set_option maxRecDepth 16384
set_option maxHeartbeats 2000000

noncomputable section

open Idealize.ShloMosaic Idealize.ShloMosaic.TcCoe Idealize.SL.Sem

/-! The adaLN rows of both layers: kernel and reference end with the same array. -/

namespace Cert.Conditioning

/-- An adaLN row's place: the silu of the conditioning row times the weight's column, and the bias. -/
def row (x w : Fin 1024 → EReal) (b : EReal) : EReal := (∑ k, x k * Ideal.div 1 (1 + Ideal.exp (-x k)) * w k) + b

section Reference

open Cert.AdaReferenceIdeal Cert.AdaReferenceIdeal.Gen

/-- The reference's result. -/
def ref (x : FVec Ideal S144x1024 .f32) (w : FVec Ideal S2x1024x6144 .f32) (b : FVec Ideal S2x6144 .f32) : FVec Ideal S2x144x6144 .f32 :=
  addf (transpose S2x144x6144 [0, 2, 1] (Host.dotGeneral dot_S2x1024x6144_S144x1024_S2x6144x144_1_1_02_0_n_n none w (mulf x (Host.divf (broadcastInDim S144x1024 ![] bcast_S_S144x1024 (constant S_ .f32 0x3F800000#32)) (addf (broadcastInDim S144x1024 ![] bcast_S_S144x1024 (constant S_ .f32 0x3F800000#32)) (Host.exp (Host.negf x)))))) transposes_S2x6144x144_S2x144x6144_0_2_1) (broadcastInDim S2x144x6144 ![0, 1, 2] bcast_S2x1x6144_S2x144x6144_0_1_2 (broadcastInDim S2x1x6144 ![0, 2] bcast_S2x6144_S2x1x6144_0_2 b))

/-- The reference's result, index by index. -/
theorem ref_at (x : FVec Ideal S144x1024 .f32) (w : FVec Ideal S2x1024x6144 .f32) (b : FVec Ideal S2x6144 .f32) (l : Fin 2) (r : Fin 144) (n : Fin 6144) :
    ref x w b (ix3 l r n) = row (fun k => x (ix2 r k)) (fun k => w (ix3 l k n)) (b (ix2 l n)) := by
  unfold ref row
  pointwise
  refine congrArg (fun y : EReal => y + b (ix2 l n)) (Finset.sum_congr rfl fun k _ => ?_)
  exact mul_comm _ _

end Reference

open Cert.AdaIdeal Cert.AdaIdeal.Gen

local instance : Cert.AdaIdeal.Facts := Cert.AdaIdeal.Gen.facts
local instance : Cert.AdaReferenceIdeal.Facts := Cert.AdaReferenceIdeal.Gen.facts

/-- What the body stores, index by index. -/
theorem tile_at (x0 : Vec Ideal S144x1024 .f32) (x1 : Vec Ideal S1x1024x1536 .f32) (x2 : Vec Ideal S1x1x1536 .f32) (r : Fin 144) (e : Fin 1536) :
    out0_3 x0 x1 x2 (ix3 0 r e) = row (fun k => x0 (ix2 r k)) (fun k => x1 (ix3 0 k e)) (x2 (ix3 0 0 e)) := by
  unfold out0_3 row
  rw [View.canon_unit_zero]
  · pointwise [k0_pay1, r0_0, r0_1, r0_2, r0_3]
    simp only [zero_sub]
  · funext a
    fin_cases a <;> rfl

/-- Which block of its array each window holds at point `t`. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] ∧ win0_3.flush t = true ∧ t.val / 4 < 2 :=
  (by decide +kernel : ∀ t : Fin grid0.N, _)

theorem lt (t : Fin cfg0.N) : t.val / 4 < 2 := (idx t).2.2.2.2.2

variable (m : (ℓ : Loc nD τ sig) → Buf (Elt Ideal) ℓ) (c : Dev nD)

/-- The conditioning rows. -/
abbrev a0 : Vec Ideal S144x1024 .f32 := m ((c : Thread nD τ).loc main_arg0)
/-- The weights. -/
abbrev a1 : Vec Ideal S2x1024x6144 .f32 := m ((c : Thread nD τ).loc main_arg1)
/-- The biases. -/
abbrev a2 : Vec Ideal S2x6144 .f32 := m ((c : Thread nD τ).loc main_arg2)

theorem arr2 (l : Fin 2) (e : Fin 6144) : (V m c main_v0 : Vec Ideal S2x1x6144 .f32) (ix3 l 0 e) = a2 m c (ix2 l e) := by
  have hl := l.isLt
  have he := e.isLt
  unfold V
  after_reads_simp
  pointwise

theorem blk0 (t : Fin cfg0.N) (r : Fin 144) (k : Fin 1024) : (iblk m c 0 t : Vec Ideal S144x1024 .f32) (ix2 r k) = a0 m c (ix2 r k) := by
  have hx : (iblk m c 0 t : Vec Ideal S144x1024 .f32) (ix2 r k) = (V m c main_arg0 : Vec Ideal S144x1024 .f32) (ix2 r k) := by
    blk_ext [iblk, idx t]
  rw [hx]
  unfold V
  after_reads_simp

theorem blk1 (t : Fin cfg0.N) (k : Fin 1024) (e : Fin 1536) : (iblk m c 1 t : Vec Ideal S1x1024x1536 .f32) (ix3 0 k e) = a1 m c (ix3 ⟨t / 4, lt t⟩ k ⟨t % 4 * 1536 + e, by omega⟩) := by
  have hx : (iblk m c 1 t : Vec Ideal S1x1024x1536 .f32) (ix3 0 k e) = (V m c main_arg1 : Vec Ideal S2x1024x6144 .f32) (ix3 ⟨t / 4, lt t⟩ k ⟨t % 4 * 1536 + e, by omega⟩) := by
    blk_ext [iblk, idx t]
  rw [hx]
  unfold V
  after_reads_simp

theorem blk2 (t : Fin cfg0.N) (e : Fin 1536) : (iblk m c 2 t : Vec Ideal S1x1x1536 .f32) (ix3 0 0 e) = a2 m c (ix2 ⟨t / 4, lt t⟩ ⟨t % 4 * 1536 + e, by omega⟩) := by
  rw [← arr2]
  blk_ext [iblk, idx t]

/-- The kernel's result, index by index. -/
theorem out3 (l : Fin 2) (r : Fin 144) (n : Fin 6144) : ((dats m 0 c).arrAt 3 cfg0.N : Vec Ideal S2x144x6144 .f32) (ix3 l r n)
    = row (fun k => a0 m c (ix2 r k)) (fun k => a1 m c (ix3 l k n)) (a2 m c (ix2 l n)) := by
  have hn := n.isLt
  have hl := l.isLt
  have hN : cfg0.N = 8 := N_0
  obtain ⟨t, e, el, en⟩ : ∃ (t : Fin cfg0.N) (e : Fin 1536), l = ⟨t / 4, lt t⟩ ∧ n = ⟨t % 4 * 1536 + e, by omega⟩ :=
    ⟨⟨l * 4 + n / 1536, by omega⟩, ⟨n % 1536, by omega⟩, Fin.ext (by show l.val = (l.val * 4 + n.val / 1536) / 4; omega), Fin.ext (by show n.val = (l.val * 4 + n.val / 1536) % 4 * 1536 + n.val % 1536; omega)⟩
  have hb := congrFun ((Value.blocks3 m c t (idx t).2.2.2.2.1).trans (Value.flushed3 m c t)) (ix3 0 r e)
  have hx : ((dats m 0 c).arrAt 3 cfg0.N : Vec Ideal S2x144x6144 .f32) (ix3 l r n) = out0_3 (iblk m c 0 t) (iblk m c 1 t) (iblk m c 2 t) (ix3 0 r e) := by
    refine Eq.trans ?_ hb
    rw [el, en]
    generalize (dats m 0 c).arrAt 3 cfg0.N = A
    blk_ext [idx t]
  rw [hx, tile_at, el, en]
  simp only [blk0, blk1, blk2]

/-- The reference runs to its end. -/
theorem frame_reference : Cert.quiescent_AdaReferenceIdeal := fun m ρ _ =>
  (θ_run Cert.AdaReferenceIdeal.defs _ _).mono (fun r h => ⟨fun c => (h c).2, sem_eq_zero_of_no_sems (by decide) r.2⟩)
    (Cert.AdaReferenceIdeal.Value.run (F := Ideal) m ρ)

/-- The two arrays are equal. -/
theorem rows_eq : ((dats m 0 c).arrAt 3 cfg0.N : Vec Ideal S2x144x6144 .f32) = ref (a0 m c) (a1 m c) (a2 m c) := by
  funext i
  obtain ⟨l, r, n, rfl⟩ : ∃ (l : Fin 2) (r : Fin 144) (n : Fin 6144), i = ix3 l r n := by
    idx_vars i
    exact ⟨_, _, _, rfl⟩
  exact (out3 m c l r n).trans (ref_at _ _ _ l r n).symm

/-- From memories that agree on the arguments, kernel and reference end with the same result. -/
theorem algebraic : Cert.algebraic_AdaIdeal_AdaReferenceIdeal := by
  intro m ρ m' ρ' _ ha
  refine ⟨fun c => (dats m 0 c).arrAt 3 cfg0.N, ?_, ?_⟩
  · exact (θ_run Cert.AdaIdeal.defs _ _).mono (fun r h c => h c) (Cert.AdaIdeal.Value.run_blocks (F := Ideal) m ρ)
  · refine (θ_run Cert.AdaReferenceIdeal.defs _ _).mono (fun r h c => ?_) (Cert.AdaReferenceIdeal.Value.run (F := Ideal) m' ρ')
    obtain ⟨h0, hr⟩ := h c
    obtain ⟨e0, e1, e2⟩ := ha c
    refine ⟨h0.trans ?_, hr⟩
    rw [e0, e1, e2]
    exact (rows_eq m c).symm

end Cert.Conditioning
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostFinal
public import proofs.«01_k».proof.Proof.Gen.PostFinal.Skeleton
public import proofs.«01_k».proof.Proof.Gen.PostFinal.Launch
public import proofs.«01_k».proof.Proof.Gen.PostFinal.Points
public import proofs.«01_k».proof.Proof.Gen.PostFinal.Frame
public import proofs.«01_k».proof.Proof.Gen.PostFinalIdeal
public import proofs.«01_k».proof.Proof.Gen.PostFinalIdeal.Skeleton
public import proofs.«01_k».proof.Proof.Gen.PostFinalIdeal.Launch
public import proofs.«01_k».proof.Proof.Gen.PostFinalIdeal.Points
public import proofs.«01_k».proof.Proof.Gen.PostFinalIdeal.Frame
public import proofs.«01_k».proof.Proof.Gen.PostFinalIdeal.Value
public import proofs.«01_k».proof.Proof.Gen.PostFinalReferenceIdeal
public import proofs.«01_k».proof.Proof.Gen.PostFinalReferenceIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjReferenceIdeal.Run
public import proofs.«01_k».proof.Proof.Gen.ProjFirst.Frame
public import proofs.«01_k».proof.Proof.Gen.ProjFirstIdeal.Frame
public import proofs.«01_k».proof.Proof.Gen.ProjFirstIdeal.Value
public import proofs.«01_k».proof.Proof.Gen.ProjFirstReferenceIdeal.Run
public import proofs.«01_k».proof.Proof.Gen.Ada.Frame
public import proofs.«01_k».proof.Proof.Gen.AdaIdeal.Frame
public import proofs.«01_k».proof.Proof.Gen.AdaIdeal.Value
public import proofs.«01_k».proof.Proof.Gen.AdaReferenceIdeal.Run
public import proofs.«01_k».proof.Proof.Claims
public import proofs.«01_k».proof.Proof.PostClaims
public import proofs.«01_k».proof.Proof.PostFinalClaims
public import proofs.«01_k».proof.Proof.ProjClaims
public import proofs.«01_k».proof.Proof.ProjFirstClaims
public import proofs.«01_k».proof.Proof.AdaClaims
public import Idealize.ShloMosaic.Adequacy
public import Idealize.ShloMosaic.Init

@[expose] public section

noncomputable section

namespace Cert.Proof

open Idealize.ShloMosaic Idealize.SL.Sem Cert.Kernel

/-- Everything claimed: the programs run to their end and leave their arguments, the idealization is sanctioned, and kernel and
    reference end with the same result. -/
theorem claim : Cert.Claim := ⟨Cert.Kernel.Gen.facts, Cert.KernelIdeal.Gen.facts, Cert.ReferenceIdeal.Gen.facts, Cert.Post.Gen.facts, Cert.PostIdeal.Gen.facts, Cert.PostReferenceIdeal.Gen.facts, Cert.PostFinal.Gen.facts, Cert.PostFinalIdeal.Gen.facts, Cert.PostFinalReferenceIdeal.Gen.facts, Cert.Proj.Gen.facts, Cert.ProjIdeal.Gen.facts, Cert.ProjReferenceIdeal.Gen.facts, Cert.ProjFirst.Gen.facts, Cert.ProjFirstIdeal.Gen.facts, Cert.ProjFirstReferenceIdeal.Gen.facts, Cert.Ada.Gen.facts, Cert.AdaIdeal.Gen.facts, Cert.AdaReferenceIdeal.Gen.facts, Cert.Finite.facts,
  fun m ρ _ => Cert.Kernel.Gen.frame m ρ, fun m ρ _ => Cert.KernelIdeal.Gen.frame m ρ, fun m ρ _ => Cert.KernelIdeal.Gen.frame m ρ,
  Cert.PromptAttention.frame_reference, fun m ρ _ => Cert.PromptAttention.frame_reference m ρ trivial,
  fun m ρ _ => Cert.Post.Gen.frame m ρ, fun m ρ _ => Cert.PostIdeal.Gen.frame m ρ, Cert.PromptPost.frame_reference,
  fun m ρ _ => Cert.PostFinal.Gen.frame m ρ, fun m ρ _ => Cert.PostFinalIdeal.Gen.frame m ρ, Cert.PromptPostFinal.frame_reference,
  fun m ρ _ => Cert.Proj.Gen.frame m ρ, fun m ρ _ => Cert.ProjIdeal.Gen.frame m ρ, Cert.PromptProj.frame_reference,
  fun m ρ _ => Cert.ProjFirst.Gen.frame m ρ, fun m ρ _ => Cert.ProjFirstIdeal.Gen.frame m ρ, Cert.PromptProjFirst.frame_reference,
  fun m ρ _ => Cert.Ada.Gen.frame m ρ, fun m ρ _ => Cert.AdaIdeal.Gen.frame m ρ, Cert.Conditioning.frame_reference,
  IdealRules.named_const.statement Cert.KernelIdeal.κ "mask" .f32 0xF149F2CA#32 ⊥ rfl, Cert.PromptAttention.algebraic,
  trivial, Cert.PromptPost.algebraic, trivial, Cert.PromptPostFinal.algebraic, trivial, Cert.PromptProj.algebraic, trivial, Cert.PromptProjFirst.algebraic, trivial, Cert.Conditioning.algebraic⟩

end Cert.Proof

end
